-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v171) = v0 c
          ∧ r.2.mem ((c.tc : Thread Cert.Reference2Ideal.nD Cert.Reference2Ideal.τ).loc Cert.Reference2Ideal.main_v172) = v1 c
          ∧ r.2.mem ((c.tc : Thread Cert.Reference2Ideal.nD Cert.Reference2Ideal.τ).loc Cert.Reference2Ideal.main_v173) = v2 c
          ∧ r.2.mem ((c.tc : Thread Cert.Reference2Ideal.nD Cert.Reference2Ideal.τ).loc Cert.Reference2Ideal.main_v174) = v3 c
          ∧ r.2.mem ((c.tc : Thread Cert.Reference2Ideal.nD Cert.Reference2Ideal.τ).loc Cert.Reference2Ideal.main_v176) = v4 c
          ∧ r.2.mem ((c.tc : Thread Cert.Reference2Ideal.nD Cert.Reference2Ideal.τ).loc Cert.Reference2Ideal.main_v177) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Pre_finite_inputs.lean ====
abbrev S4x8256x512 : Shape := ⟨3, ![4, 8256, 512]⟩
abbrev S4x8256x128 : Shape := ⟨3, ![4, 8256, 128]⟩
abbrev S_ : Shape := ⟨0, ![]⟩
abbrev S4x8256x8 : Shape := ⟨3, ![4, 8256, 8]⟩

class Facts : Prop where
  bcast_S_S4x8256x512 : S_.BroadcastsInDim S4x8256x512 (![] : Fin 0 → Fin S4x8256x512.rank)
  reducesTo_S4x8256x512_S_d0_1_2 : S4x8256x512.ReducesTo [0, 1, 2] S_
  h_S_ : 0 < S_.numel
  slices_S4x8256x128_S4x8256x8_0_0_0 : S4x8256x128.Slices ![0, 0, 0] S4x8256x8
  bcast_S_S4x8256x8 : S_.BroadcastsInDim S4x8256x8 (![] : Fin 0 → Fin S4x8256x8.rank)
  reducesTo_S4x8256x8_S_d0_1_2 : S4x8256x8.ReducesTo [0, 1, 2] S_

variable [Facts]

def fn_part1 {F : FTy → Type} [FloatOps F] (main_v13 : IVec S_ 1) (main_v15 : FVec F S4x8256x8 .f32) (main_v16 : FVec F S4x8256x8 .f32) : IVec S_ 1 :=
  let main_v17 : IVec S4x8256x8 1 := cmpf .olt main_v15 main_v16
  let main_c_5 : IVec S_ 1 := constantI S_ 1 1#1
  let main_v18 : IVec S_ 1 := (fun x v => Host.reduce IntOp.andi x v reducesTo_S4x8256x8_S_d0_1_2 h_S_) main_v17 main_c_5
  let main_v19 : IVec S_ 1 := andi main_v13 main_v18
  main_v19

def fn {F : FTy → Type} [FloatOps F] (main_arg0 : FVec F S4x8256x512 .f32) (main_arg1 : FVec F S4x8256x512 .f32) (main_arg2 : FVec F S4x8256x512 .f32) (main_arg3 : FVec F S4x8256x128 .f32) : IVec S_ 1 :=
  let main_v0 : FVec F S4x8256x512 .f32 := Host.absf main_arg0
  let main_cst : FVec F S_ .f32 := constant S_ .f32 0x7F800000#32
  let main_v1 : FVec F S4x8256x512 .f32 := broadcastInDim S4x8256x512 ![] bcast_S_S4x8256x512 main_cst
  let main_v2 : IVec S4x8256x512 1 := cmpf .olt main_v0 main_v1
  let main_c : IVec S_ 1 := constantI S_ 1 1#1
  let main_v3 : IVec S_ 1 := (fun x v => Host.reduce IntOp.andi x v reducesTo_S4x8256x512_S_d0_1_2 h_S_) main_v2 main_c
  let main_v4 : FVec F S4x8256x512 .f32 := Host.absf main_arg1
  let main_cst_0 : FVec F S_ .f32 := constant S_ .f32 0x7F800000#32
  let main_v5 : FVec F S4x8256x512 .f32 := broadcastInDim S4x8256x512 ![] bcast_S_S4x8256x512 main_cst_0
  let main_v6 : IVec S4x8256x512 1 := cmpf .olt main_v4 main_v5
  let main_c_1 : IVec S_ 1 := constantI S_ 1 1#1
  let main_v7 : IVec S_ 1 := (fun x v => Host.reduce IntOp.andi x v reducesTo_S4x8256x512_S_d0_1_2 h_S_) main_v6 main_c_1
  let main_v8 : IVec S_ 1 := andi main_v3 main_v7
  let main_v9 : FVec F S4x8256x512 .f32 := Host.absf main_arg2
  let main_cst_2 : FVec F S_ .f32 := constant S_ .f32 0x7F800000#32
  let main_v10 : FVec F S4x8256x512 .f32 := broadcastInDim S4x8256x512 ![] bcast_S_S4x8256x512 main_cst_2
  let main_v11 : IVec S4x8256x512 1 := cmpf .olt main_v9 main_v10
  let main_c_3 : IVec S_ 1 := constantI S_ 1 1#1
  let main_v12 : IVec S_ 1 := (fun x v => Host.reduce IntOp.andi x v reducesTo_S4x8256x512_S_d0_1_2 h_S_) main_v11 main_c_3
  let main_v13 : IVec S_ 1 := andi main_v8 main_v12
  let main_v14 : FVec F S4x8256x8 .f32 := (extractStridedSlice S4x8256x8 ![0, 0, 0] · slices_S4x8256x128_S4x8256x8_0_0_0) main_arg3
  let main_v15 : FVec F S4x8256x8 .f32 := Host.absf main_v14
  let main_cst_4 : FVec F S_ .f32 := constant S_ .f32 0x7F800000#32
  let main_v16 : FVec F S4x8256x8 .f32 := broadcastInDim S4x8256x8 ![] bcast_S_S4x8256x8 main_cst_4
  fn_part1 (F := F) main_v13 main_v15 main_v16
-- ==== Kernel.lean ====
abbrev S4x8256x512 : Shape := ⟨3, ![4, 8256, 512]⟩
abbrev S4x8256x128 : Shape := ⟨3, ![4, 8256, 128]⟩
abbrev S1x192x512 : Shape := ⟨3, ![1, 192, 512]⟩
abbrev S1x192x128 : Shape := ⟨3, ![1, 192, 128]⟩
abbrev S4x128x128 : Shape := ⟨3, ![4, 128, 128]⟩
abbrev S64x64 : Shape := ⟨2, ![64, 64]⟩
abbrev S8x128 : Shape := ⟨2, ![8, 128]⟩
abbrev S1x64x128 : Shape := ⟨3, ![1, 64, 128]⟩
abbrev S64x128 : Shape := ⟨2, ![64, 128]⟩
abbrev S8x64 : Shape := ⟨2, ![8, 64]⟩
abbrev S64x1 : Shape := ⟨2, ![64, 1]⟩
abbrev S1x64 : Shape := ⟨2, ![1, 64]⟩
abbrev S1x1 : Shape := ⟨2, ![1, 1]⟩
abbrev S1x128x128 : Shape := ⟨3, ![1, 128, 128]⟩
abbrev S128x128 : Shape := ⟨2, ![128, 128]⟩

abbrev nBuf : Space → Nat
  | .hbm => 5
  | .vmem => 11
  | .smem => 0
  | _ => 0

abbrev bufTy : (tb : Table) → Fin (tcTables nBuf tb) → BufTy
  | .hbm, ⟨0, _⟩ => ⟨S4x8256x512, .f32⟩
  | .hbm, ⟨1, _⟩ => ⟨S4x8256x512, .f32⟩
  | .hbm, ⟨2, _⟩ => ⟨S4x8256x512, .f32⟩
  | .hbm, ⟨3, _⟩ => ⟨S4x8256x128, .f32⟩
  | .hbm, ⟨4, _⟩ => ⟨S4x8256x512, .f32⟩
  | .local _ .vmem, ⟨0, _⟩ => ⟨S1x192x512, .f32⟩
  | .local _ .vmem, ⟨1, _⟩ => ⟨S1x192x512, .f32⟩
  | .local _ .vmem, ⟨2, _⟩ => ⟨S1x192x512, .f32⟩
  | .local _ .vmem, ⟨3, _⟩ => ⟨S1x192x512, .f32⟩
  | .local _ .vmem, ⟨4, _⟩ => ⟨S1x192x512, .f32⟩
  | .local _ .vmem, ⟨5, _⟩ => ⟨S1x192x512, .f32⟩
  | .local _ .vmem, ⟨6, _⟩ => ⟨S1x192x128, .f32⟩
  | .local _ .vmem, ⟨7, _⟩ => ⟨S1x192x128, .f32⟩
  | .local _ .vmem, ⟨8, _⟩ => ⟨S1x192x512, .f32⟩
  | .local _ .vmem, ⟨9, _⟩ => ⟨S1x192x512, .f32⟩
  | .local _ .vmem, ⟨10, _⟩ => ⟨S4x128x128, .f32⟩
  | _, _ => ⟨S4x8256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8256x512 : Shape := ⟨3, ![4, 8256, 512]⟩
abbrev S4x8256x128 : Shape := ⟨3, ![4, 8256, 128]⟩
abbrev S4x8256x4 : Shape := ⟨3, ![4, 8256, 4]⟩
abbrev S4x4x8256 : Shape := ⟨3, ![4, 4, 8256]⟩
abbrev S4x8256x4x128 : Shape := ⟨4, ![4, 8256, 4, 128]⟩
abbrev S4x4x8256x128 : Shape := ⟨4, ![4, 4, 8256, 128]⟩
abbrev S_ : Shape := ⟨0, ![]⟩
abbrev S4x4x128x128 : Shape := ⟨4, ![4, 4, 128, 128]⟩
abbrev S8256x4x4x128 : Shape := ⟨4, ![8256, 4, 4, 128]⟩
abbrev S8256x4x4 : Shape := ⟨3, ![8256, 4, 4]⟩
abbrev S1x4x4x128 : Shape := ⟨4, ![1, 4, 4, 128]⟩
abbrev S4x4x128 : Shape := ⟨3, ![4, 4, 128]⟩
abbrev S1x4x4 : Shape := ⟨3, ![1, 4, 4]⟩
abbrev S4x4 : Shape := ⟨2, ![4, 4]⟩
abbrev S4x4x1 : Shape := ⟨3, ![4, 4, 1]⟩
abbrev S4x4x128x1 : Shape := ⟨4, ![4, 4, 128, 1]⟩
abbrev S4x4x1x1 : Shape := ⟨4, ![4, 4, 1, 1]⟩
abbrev S4x4x1x128 : Shape := ⟨4, ![4, 4, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x8256x512, .f32⟩
  | .hbm, ⟨1, _⟩ => ⟨S4x8256x512, .f32⟩
  | .hbm, ⟨2, _⟩ => ⟨S4x8256x512, .f32⟩
  | .hbm, ⟨3, _⟩ => ⟨S4x8256x128, .f32⟩
  | .hbm, ⟨4, _⟩ => ⟨S4x8256x4, .f32⟩
  | .hbm, ⟨5, _⟩ => ⟨S4x4x8256, .f32⟩
  | .hbm, ⟨6, _⟩ => ⟨S4x8256x4, .f32⟩
  | .hbm, ⟨7, _⟩ => ⟨S4x4x8256, .f32⟩
  | .hbm, ⟨8, _⟩ => ⟨S4x8256x4x128, .f32⟩
  | .hbm, ⟨9, _⟩ => ⟨S4x4x8256x128, .f32⟩
  | .hbm, ⟨10, _⟩ => ⟨S4x8256x4x128, .f32⟩
  | .hbm, ⟨11, _⟩ => ⟨S4x4x8256x128, .f32⟩
  | .hbm, ⟨12, _⟩ => ⟨S4x8256x4x128, .f32⟩
  | .hbm, ⟨13, _⟩ => ⟨S4x4x8256x128, .f32⟩
  | .hbm, ⟨14, _⟩ => ⟨S_, .f32⟩
  | .hbm, ⟨15, _⟩ => ⟨S4x4x8256x128, .f32⟩
  | .hbm, ⟨16, _⟩ => ⟨S4x4x8256x128, .f32⟩
  | .hbm, ⟨17, _⟩ => ⟨S_, .f32⟩
  | .hbm, ⟨18, _⟩ => ⟨S4x4x128x128, .f32⟩
  | .hbm, ⟨19, _⟩ => ⟨S8256x4x4x128, .f32⟩
  | .hbm, ⟨20, _⟩ => ⟨S8256x4x4x128, .f32⟩
  | .hbm, ⟨21, _⟩ => ⟨S8256x4x4x128, .f32⟩
  | .hbm, ⟨22, _⟩ => ⟨S8256x4x4, .f32⟩
  | .hbm, ⟨23, _⟩ => ⟨S8256x4x4, .f32⟩
  | .hbm, ⟨24, _⟩ => ⟨S_, .f32⟩
  | .hbm, ⟨25, _⟩ => ⟨S8256x4x4x128, .f32⟩
  | .hbm, ⟨26, _⟩ => ⟨S_, .i32⟩
  | .hbm, ⟨27, _⟩ => ⟨S8256x4x4x128, .f32⟩
  | .hbm, ⟨28, _⟩ => ⟨S8256x4x4x128, .f32⟩
  | .hbm, ⟨29, _⟩ => ⟨S8256x4x4x128, .f32⟩
  | .hbm, ⟨30, _⟩ => ⟨S8256x4x4, .f32⟩
  | .hbm, ⟨31, _⟩ => ⟨S8256x4x4, .f32⟩
  | .hbm, ⟨32, _⟩ => ⟨S_, .i32⟩
  | .hbm, ⟨33, _⟩ => ⟨S4x4x128x128, .f32⟩
  | .hbm, ⟨34, _⟩ => ⟨S8256x4x4x128, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x4x4x128, .f32⟩
  | .hbm, ⟨41, _⟩ => ⟨S4x4x128, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x4x4x128, .f32⟩
  | .hbm, ⟨46, _⟩ => ⟨S4x4x128, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x4x4x128, .f32⟩
  | .hbm, ⟨51, _⟩ => ⟨S4x4x128, .f32⟩
  | .hbm, ⟨52, _⟩ => ⟨S_, .i32⟩
  | .hbm, ⟨53, _⟩ => ⟨S_, .i32⟩
  | .hbm, ⟨54, _⟩ => ⟨S1x4x4, .f32⟩
  | .hbm, ⟨55, _⟩ => ⟨S4x4, .f32⟩
  | .hbm, ⟨56, _⟩ => ⟨S_, .i32⟩
  | .hbm, ⟨57, _⟩ => ⟨S_, .i32⟩
  | .hbm, ⟨58, _⟩ => ⟨S1x4x4, .f32⟩
  | .hbm, ⟨59, _⟩ => ⟨S4x4, .f32⟩
  | .hbm, ⟨60, _⟩ => ⟨S4x4x128, .f32⟩
  | .hbm, ⟨61, _⟩ => ⟨S4x4x1, .f32⟩
  | .hbm, ⟨62, _⟩ => ⟨S4x4x128, .f32⟩
  | .hbm, ⟨63, _⟩ => ⟨S4x4x128, .f32⟩
  | .hbm, ⟨64, _⟩ => ⟨S4x4x128x1, .f32⟩
  | .hbm, ⟨65, _⟩ => ⟨S4x4, .f32⟩
  | .hbm, ⟨66, _⟩ => ⟨S4x4x1x1, .f32⟩
  | .hbm, ⟨67, _⟩ => ⟨S4x4x1x128, .f32⟩
  | .hbm, ⟨68, _⟩ => ⟨S4x4x128x128, .f32⟩
  | .hbm, ⟨69, _⟩ => ⟨S4x4x128x128, .f32⟩
  | .hbm, ⟨70, _⟩ => ⟨S4x4x128x128, .f32⟩
  | .hbm, ⟨71, _⟩ => ⟨S4x4x128x128, .f32⟩
  | .hbm, ⟨72, _⟩ => ⟨S4x4x128x128, .f32⟩
  | .hbm, ⟨73, _⟩ => ⟨S4x4x128x128, .f32⟩
  | .hbm, ⟨74, _⟩ => ⟨S4x4x1x128, .f32⟩
  | .hbm, ⟨75, _⟩ => ⟨S4x4x128x128, .f32⟩
  | .hbm, ⟨76, _⟩ => ⟨S4x4x128x128, .f32⟩
  | .hbm, ⟨77, _⟩ => ⟨S4x4x128x128, .f32⟩
  | .hbm, ⟨78, _⟩ => ⟨S4x4x128x128, .f32⟩
  | .hbm, ⟨79, _⟩ => ⟨S4x4x128, .f32⟩
  | .hbm, ⟨80, _⟩ => ⟨S1x4x4x128, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S8256x4x4x128, .f32⟩
  | .hbm, ⟨85, _⟩ => ⟨S_, .i32⟩
  | .hbm, ⟨86, _⟩ => ⟨S_, .i32⟩
  | .hbm, ⟨87, _⟩ => ⟨S4x4x8256x128, .f32⟩
  | .hbm, ⟨88, _⟩ => ⟨S4x8256x4x128, .f32⟩
  | .hbm, ⟨89, _⟩ => ⟨S4x8256x512, .f32⟩
  | _, _ => ⟨S4x8256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_c : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev main_v19_5 : Ref sig .tc := ⟨.hbm, 32, rfl⟩
abbrev main_v19_6 : Ref sig .tc := ⟨.hbm, 33, rfl⟩
abbrev main_v19_7 : Ref sig .tc := ⟨.hbm, 34, rfl⟩
abbrev main_while0c_c_9 : Ref sig .tc := ⟨.hbm, 35, rfl⟩
abbrev main_while0c_v23 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v23 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v24 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v25 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_v0 : Ref sig .tc := ⟨.hbm, 54, rfl⟩
abbrev main_while0b_v26 : Ref sig .tc := ⟨.hbm, 55, rfl⟩
abbrev main_while0b_call4_c : Ref sig .tc := ⟨.hbm, 56, rfl⟩
abbrev main_while0b_call4_c_0 : Ref sig .tc := ⟨.hbm, 57, rfl⟩
abbrev main_while0b_call4_v0 : Ref sig .tc := ⟨.hbm, 58, rfl⟩
abbrev main_while0b_v27 : Ref sig .tc := ⟨.hbm, 59, rfl⟩
abbrev main_while0b_v28 : Ref sig .tc := ⟨.hbm, 60, rfl⟩
abbrev main_while0b_v29 : Ref sig .tc := ⟨.hbm, 61, rfl⟩
abbrev main_while0b_v30 : Ref sig .tc := ⟨.hbm, 62, rfl⟩
abbrev main_while0b_v31 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_v38 : Ref sig .tc := ⟨.hbm, 70, rfl⟩
abbrev main_while0b_v39 : Ref sig .tc := ⟨.hbm, 71, rfl⟩
abbrev main_while0b_v40 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_call5_v0 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_v48 : Ref sig .tc := ⟨.hbm, 84, rfl⟩
abbrev main_while0b_c_9 : Ref sig .tc := ⟨.hbm, 85, rfl⟩
abbrev main_while0b_v49 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩

abbrev nD : Nat := 1
abbrev τ : Topo := Topo.v7x

variable {F : FTy → Type} [FloatOps F]

abbrev main_while0_count : Scf.Loop 32 := ⟨0#32, 8256#32, 1#32⟩
-- ==== Kernel2.lean ====
abbrev S4x8256x1024 : Shape := ⟨3, ![4, 8256, 1024]⟩
abbrev S1024x1536 : Shape := ⟨2, ![1024, 1536]⟩
abbrev S1024x512 : Shape := ⟨2, ![1024, 512]⟩
abbrev S1024x128 : Shape := ⟨2, ![1024, 128]⟩
abbrev S3x512 : Shape := ⟨2, ![3, 512]⟩
abbrev S4x1536 : Shape := ⟨2, ![4, 1536]⟩
abbrev S1x128 : Shape := ⟨2, ![1, 128]⟩
abbrev S4x8256x512 : Shape := ⟨3, ![4, 8256, 512]⟩
abbrev S4x8256x128 : Shape := ⟨3, ![4, 8256, 128]⟩
abbrev S1x688x1024 : Shape := ⟨3, ![1, 688, 1024]⟩
abbrev S1x688x512 : Shape := ⟨3, ![1, 688, 512]⟩
abbrev S1x688x128 : Shape := ⟨3, ![1, 688, 128]⟩
abbrev S8x512 : Shape := ⟨2, ![8, 512]⟩
abbrev S8x1536 : Shape := ⟨2, ![8, 1536]⟩
abbrev S688x1024 : Shape := ⟨2, ![688, 1024]⟩
abbrev S688x1 : Shape := ⟨2, ![688, 1]⟩
abbrev S688x1536 : Shape := ⟨2, ![688, 1536]⟩
abbrev S688x512 : Shape := ⟨2, ![688, 512]⟩
abbrev S1x512 : Shape := ⟨2, ![1, 512]⟩
abbrev S16x512 : Shape := ⟨2, ![16, 512]⟩
abbrev S680x512 : Shape := ⟨2, ![680, 512]⟩
abbrev S1x1536 : Shape := ⟨2, ![1, 1536]⟩
abbrev S16x1536 : Shape := ⟨2, ![16, 1536]⟩
abbrev S680x1536 : Shape := ⟨2, ![680, 1536]⟩
abbrev S688x128 : Shape := ⟨2, ![688, 128]⟩
abbrev S688 : Shape := ⟨1, ![688]⟩

abbrev nBuf : Space → Nat
  | .hbm => 15
  | .vmem => 24
  | .smem => 0
  | _ => 0

abbrev bufTy : (tb : Table) → Fin (tcTables nBuf tb) → BufTy
  | .hbm, ⟨0, _⟩ => ⟨S4x8256x1024, .f32⟩
  | .hbm, ⟨1, _⟩ => ⟨S1024x1536, .bf16⟩
  | .hbm, ⟨2, _⟩ => ⟨S1024x1536, .bf16⟩
  | .hbm, ⟨3, _⟩ => ⟨S1024x512, .bf16⟩
  | .hbm, ⟨4, _⟩ => ⟨S1024x128, .bf16⟩
  | .hbm, ⟨5, _⟩ => ⟨S3x512, .f32⟩
  | .hbm, ⟨6, _⟩ => ⟨S4x1536, .f32⟩
  | .hbm, ⟨7, _⟩ => ⟨S1x128, .f32⟩
  | .hbm, ⟨8, _⟩ => ⟨S1x128, .f32⟩
  | .hbm, ⟨9, _⟩ => ⟨S4x8256x512, .bf16⟩
  | .hbm, ⟨10, _⟩ => ⟨S4x8256x512, .f32⟩
  | .hbm, ⟨11, _⟩ => ⟨S4x8256x512, .f32⟩
  | .hbm, ⟨12, _⟩ => ⟨S4x8256x512, .f32⟩
  | .hbm, ⟨13, _⟩ => ⟨S4x8256x512, .bf16⟩
  | .hbm, ⟨14, _⟩ => ⟨S4x8256x128, .f32⟩
  | .local _ .vmem, ⟨0, _⟩ => ⟨S1x688x1024, .f32⟩
  | .local _ .vmem, ⟨1, _⟩ => ⟨S1x688x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x512, .bf16⟩
  | .local _ .vmem, ⟨5, _⟩ => ⟨S1024x128, .bf16⟩
  | .local _ .vmem, ⟨6, _⟩ => ⟨S3x512, .f32⟩
  | .local _ .vmem, ⟨7, _⟩ => ⟨S4x1536, .f32⟩
  | .local _ .vmem, ⟨8, _⟩ => ⟨S1x128, .f32⟩
  | .local _ .vmem, ⟨9, _⟩ => ⟨S1x128, .f32⟩
  | .local _ .vmem, ⟨10, _⟩ => ⟨S1x688x512, .bf16⟩
  | .local _ .vmem, ⟨11, _⟩ => ⟨S1x688x512, .bf16⟩
  | .local _ .vmem, ⟨12, _⟩ => ⟨S1x688x512, .f32⟩
  | .local _ .vmem, ⟨13, _⟩ => ⟨S1x688x512, .f32⟩
  | .local _ .vmem, ⟨14, _⟩ => ⟨S1x688x512, .f32⟩
  | .local _ .vmem, ⟨15, _⟩ => ⟨S1x688x512, .f32⟩
  | .local _ .vmem, ⟨16, _⟩ => ⟨S1x688x512, .f32⟩
  | .local _ .vmem, ⟨17, _⟩ => ⟨S1x688x512, .f32⟩
  | .local _ .vmem, ⟨18, _⟩ => ⟨S1x688x512, .bf16⟩
  | .local _ .vmem, ⟨19, _⟩ => ⟨S1x688x512, .bf16⟩
  | .local _ .vmem, ⟨20, _⟩ => ⟨S1x688x128, .f32⟩
  | .local _ .vmem, ⟨21, _⟩ => ⟨S1x688x128, .f32⟩
  | .local _ .vmem, ⟨22, _⟩ => ⟨S8x512, .f32⟩
  | .local _ .vmem, ⟨23, _⟩ => ⟨S8x1536, .f32⟩
  | _, _ => ⟨S4x8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x688x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x688x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x688x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x688x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x688x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x688x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S4x8256x1024 : Shape := ⟨3, ![4, 8256, 1024]⟩
abbrev S1024x1536 : Shape := ⟨2, ![1024, 1536]⟩
abbrev S1024x512 : Shape := ⟨2, ![1024, 512]⟩
abbrev S1024x128 : Shape := ⟨2, ![1024, 128]⟩
abbrev S3x512 : Shape := ⟨2, ![3, 512]⟩
abbrev S4x1536 : Shape := ⟨2, ![4, 1536]⟩
abbrev S1x128 : Shape := ⟨2, ![1, 128]⟩
abbrev S4x8208x1024 : Shape := ⟨3, ![4, 8208, 1024]⟩
abbrev S4x8208x1536 : Shape := ⟨3, ![4, 8208, 1536]⟩
abbrev S4x8208x512 : Shape := ⟨3, ![4, 8208, 512]⟩
abbrev S_ : Shape := ⟨0, ![]⟩
abbrev S4x8210x512 : Shape := ⟨3, ![4, 8210, 512]⟩
abbrev S1x512 : Shape := ⟨2, ![1, 512]⟩
abbrev S512 : Shape := ⟨1, ![512]⟩
abbrev S1x1x512 : Shape := ⟨3, ![1, 1, 512]⟩
abbrev S4x512 : Shape := ⟨2, ![4, 512]⟩
abbrev S4x8211x512 : Shape := ⟨3, ![4, 8211, 512]⟩
abbrev S4x8208x4x128 : Shape := ⟨4, ![4, 8208, 4, 128]⟩
abbrev S4x8208x4 : Shape := ⟨3, ![4, 8208, 4]⟩
abbrev S4x8208x4x1 : Shape := ⟨4, ![4, 8208, 4, 1]⟩
abbrev S4x8256x512 : Shape := ⟨3, ![4, 8256, 512]⟩
abbrev S4x8208x128 : Shape := ⟨3, ![4, 8208, 128]⟩
abbrev S4x8208x124 : Shape := ⟨3, ![4, 8208, 124]⟩
abbrev S1x4 : Shape := ⟨2, ![1, 4]⟩
abbrev S4 : Shape := ⟨1, ![4]⟩
abbrev S1x1x4 : Shape := ⟨3, ![1, 1, 4]⟩
abbrev S4x8256x128 : Shape := ⟨3, ![4, 8256, 128]⟩

abbrev nBuf : Space → Nat
  | .hbm => 256
  | .vmem => 0
  | .smem => 0
  | _ => 0

abbrev hbmTy0_0 (i : Nat) : BufTy := match i % 128 with
  | 0 => ⟨S4x8256x1024, .f32⟩
  | 1 => ⟨S1024x1536, .bf16⟩
  | 2 => ⟨S1024x1536, .bf16⟩
  | 3 => ⟨S1024x512, .bf16⟩
  | 4 => ⟨S1024x128, .bf16⟩
  | 5 => ⟨S3x512, .f32⟩
  | 6 => ⟨S4x1536, .f32⟩
  | 7 => ⟨S1x128, .f32⟩
  | 8 => ⟨S1x128, .f32⟩
  | 9 => ⟨S4x8208x1024, .f32⟩
  | 10 => ⟨S1024x1536, .f32⟩
  | 11 => ⟨S4x8208x1536, .f32⟩
  | 12 => ⟨S4x8208x512, .f32⟩
  | 13 => ⟨S4x8208x512, .f32⟩
  | 14 => ⟨S4x8208x512, .f32⟩
  | 15 => ⟨S4x8208x512, .f32⟩
  | 16 => ⟨S_, .i32⟩
  | 17 => ⟨S_, .f32⟩
  | 18 => ⟨S4x8210x512, .f32⟩
  | 19 => ⟨S4x8208x512, .f32⟩
  | 20 => ⟨S1x512, .f32⟩
  | 21 => ⟨S512, .f32⟩
  | 22 => ⟨S1x1x512, .f32⟩
  | 23 => ⟨S4x8208x512, .f32⟩
  | 24 => ⟨S4x8208x512, .f32⟩
  | 25 => ⟨S4x8208x512, .f32⟩
  | 26 => ⟨S1x512, .f32⟩
  | 27 => ⟨S512, .f32⟩
  | 28 => ⟨S1x1x512, .f32⟩
  | 29 => ⟨S4x8208x512, .f32⟩
  | 30 => ⟨S4x8208x512, .f32⟩
  | 31 => ⟨S4x8208x512, .f32⟩
  | 32 => ⟨S4x8208x512, .f32⟩
  | 33 => ⟨S1x512, .f32⟩
  | 34 => ⟨S512, .f32⟩
  | 35 => ⟨S1x1x512, .f32⟩
  | 36 => ⟨S4x8208x512, .f32⟩
  | 37 => ⟨S4x8208x512, .f32⟩
  | 38 => ⟨S4x8208x512, .f32⟩
  | 39 => ⟨S4x8208x512, .f32⟩
  | 40 => ⟨S1024x1536, .f32⟩
  | 41 => ⟨S4x8208x1536, .f32⟩
  | 42 => ⟨S4x8208x512, .f32⟩
  | 43 => ⟨S4x8208x512, .f32⟩
  | 44 => ⟨S4x8208x512, .f32⟩
  | 45 => ⟨S4x512, .f32⟩
  | 46 => ⟨S4x512, .f32⟩
  | 47 => ⟨S4x512, .f32⟩
  | 48 => ⟨S_, .i32⟩
  | 49 => ⟨S_, .f32⟩
  | 50 => ⟨S4x8211x512, .f32⟩
  | 51 => ⟨S4x8208x512, .f32⟩
  | 52 => ⟨S1x512, .f32⟩
  | 53 => ⟨S512, .f32⟩
  | 54 => ⟨S1x1x512, .f32⟩
  | 55 => ⟨S4x8208x512, .f32⟩
  | 56 => ⟨S4x8208x512, .f32⟩
  | 57 => ⟨S4x8208x512, .f32⟩
  | 58 => ⟨S1x512, .f32⟩
  | 59 => ⟨S512, .f32⟩
  | 60 => ⟨S1x1x512, .f32⟩
  | 61 => ⟨S4x8208x512, .f32⟩
  | 62 => ⟨S4x8208x512, .f32⟩
  | 63 => ⟨S4x8208x512, .f32⟩
  | 64 => ⟨S4x8208x512, .f32⟩
  | 65 => ⟨S1x512, .f32⟩
  | 66 => ⟨S512, .f32⟩
  | 67 => ⟨S1x1x512, .f32⟩
  | 68 => ⟨S4x8208x512, .f32⟩
  | 69 => ⟨S4x8208x512, .f32⟩
  | 70 => ⟨S4x8208x512, .f32⟩
  | 71 => ⟨S4x8208x512, .f32⟩
  | 72 => ⟨S1x512, .f32⟩
  | 73 => ⟨S512, .f32⟩
  | 74 => ⟨S1x1x512, .f32⟩
  | 75 => ⟨S4x8208x512, .f32⟩
  | 76 => ⟨S4x8208x512, .f32⟩
  | 77 => ⟨S4x8208x512, .f32⟩
  | 78 => ⟨S4x8208x512, .f32⟩
  | 79 => ⟨S4x8208x512, .f32⟩
  | 80 => ⟨S_, .f32⟩
  | 81 => ⟨S4x8208x512, .f32⟩
  | 82 => ⟨S4x8208x512, .f32⟩
  | 83 => ⟨S_, .f32⟩
  | 84 => ⟨S4x8208x512, .f32⟩
  | 85 => ⟨S4x8208x512, .f32⟩
  | 86 => ⟨S4x8208x512, .f32⟩
  | 87 => ⟨S_, .i32⟩
  | 88 => ⟨S_, .f32⟩
  | 89 => ⟨S4x8211x512, .f32⟩
  | 90 => ⟨S4x8208x512, .f32⟩
  | 91 => ⟨S1x512, .f32⟩
  | 92 => ⟨S512, .f32⟩
  | 93 => ⟨S1x1x512, .f32⟩
  | 94 => ⟨S4x8208x512, .f32⟩
  | 95 => ⟨S4x8208x512, .f32⟩
  | 96 => ⟨S4x8208x512, .f32⟩
  | 97 => ⟨S1x512, .f32⟩
  | 98 => ⟨S512, .f32⟩
  | 99 => ⟨S1x1x512, .f32⟩
  | 100 => ⟨S4x8208x512, .f32⟩
  | 101 => ⟨S4x8208x512, .f32⟩
  | 102 => ⟨S4x8208x512, .f32⟩
  | 103 => ⟨S4x8208x512, .f32⟩
  | 104 => ⟨S1x512, .f32⟩
  | 105 => ⟨S512, .f32⟩
  | 106 => ⟨S1x1x512, .f32⟩
  | 107 => ⟨S4x8208x512, .f32⟩
  | 108 => ⟨S4x8208x512, .f32⟩
  | 109 => ⟨S4x8208x512, .f32⟩
  | 110 => ⟨S4x8208x512, .f32⟩
  | 111 => ⟨S1x512, .f32⟩
  | 112 => ⟨S512, .f32⟩
  | 113 => ⟨S1x1x512, .f32⟩
  | 114 => ⟨S4x8208x512, .f32⟩
  | 115 => ⟨S4x8208x512, .f32⟩
  | 116 => ⟨S4x8208x512, .f32⟩
  | 117 => ⟨S4x8208x512, .f32⟩
  | 118 => ⟨S4x8208x512, .f32⟩
  | 119 => ⟨S_, .f32⟩
  | 120 => ⟨S4x8208x512, .f32⟩
  | 121 => ⟨S4x8208x512, .f32⟩
  | 122 => ⟨S_, .f32⟩
  | 123 => ⟨S4x8208x512, .f32⟩
  | 124 => ⟨S4x8208x512, .f32⟩
  | 125 => ⟨S4x8208x512, .f32⟩
  | 126 => ⟨S_, .i32⟩
  | 127 => ⟨S_, .f32⟩
  | _ => ⟨S4x8256x1024, .f32⟩

abbrev hbmTy0_1 (i : Nat) : BufTy := match i % 128 with
  | 0 => ⟨S4x8211x512, .f32⟩
  | 1 => ⟨S4x8208x512, .f32⟩
  | 2 => ⟨S1x512, .f32⟩
  | 3 => ⟨S512, .f32⟩
  | 4 => ⟨S1x1x512, .f32⟩
  | 5 => ⟨S4x8208x512, .f32⟩
  | 6 => ⟨S4x8208x512, .f32⟩
  | 7 => ⟨S4x8208x512, .f32⟩
  | 8 => ⟨S1x512, .f32⟩
  | 9 => ⟨S512, .f32⟩
  | 10 => ⟨S1x1x512, .f32⟩
  | 11 => ⟨S4x8208x512, .f32⟩
  | 12 => ⟨S4x8208x512, .f32⟩
  | 13 => ⟨S4x8208x512, .f32⟩
  | 14 => ⟨S4x8208x512, .f32⟩
  | 15 => ⟨S1x512, .f32⟩
  | 16 => ⟨S512, .f32⟩
  | 17 => ⟨S1x1x512, .f32⟩
  | 18 => ⟨S4x8208x512, .f32⟩
  | 19 => ⟨S4x8208x512, .f32⟩
  | 20 => ⟨S4x8208x512, .f32⟩
  | 21 => ⟨S4x8208x512, .f32⟩
  | 22 => ⟨S1x512, .f32⟩
  | 23 => ⟨S512, .f32⟩
  | 24 => ⟨S1x1x512, .f32⟩
  | 25 => ⟨S4x8208x512, .f32⟩
  | 26 => ⟨S4x8208x512, .f32⟩
  | 27 => ⟨S4x8208x512, .f32⟩
  | 28 => ⟨S4x8208x512, .f32⟩
  | 29 => ⟨S4x8208x512, .f32⟩
  | 30 => ⟨S_, .f32⟩
  | 31 => ⟨S4x8208x512, .f32⟩
  | 32 => ⟨S4x8208x512, .f32⟩
  | 33 => ⟨S_, .f32⟩
  | 34 => ⟨S4x8208x512, .f32⟩
  | 35 => ⟨S4x8208x512, .f32⟩
  | 36 => ⟨S4x8208x512, .f32⟩
  | 37 => ⟨S4x8208x4x128, .f32⟩
  | 38 => ⟨S4x8208x4x128, .f32⟩
  | 39 => ⟨S_, .f32⟩
  | 40 => ⟨S4x8208x4, .f32⟩
  | 41 => ⟨S4x8208x4x1, .f32⟩
  | 42 => ⟨S_, .f32⟩
  | 43 => ⟨S4x8208x4x1, .f32⟩
  | 44 => ⟨S4x8208x4x1, .f32⟩
  | 45 => ⟨S4x8208x4x1, .f32⟩
  | 46 => ⟨S4x8208x4x128, .f32⟩
  | 47 => ⟨S4x8208x4x128, .f32⟩
  | 48 => ⟨S4x8208x512, .f32⟩
  | 49 => ⟨S4x8208x4x128, .f32⟩
  | 50 => ⟨S4x8208x4x128, .f32⟩
  | 51 => ⟨S_, .f32⟩
  | 52 => ⟨S4x8208x4, .f32⟩
  | 53 => ⟨S4x8208x4x1, .f32⟩
  | 54 => ⟨S_, .f32⟩
  | 55 => ⟨S4x8208x4x1, .f32⟩
  | 56 => ⟨S4x8208x4x1, .f32⟩
  | 57 => ⟨S4x8208x4x1, .f32⟩
  | 58 => ⟨S4x8208x4x128, .f32⟩
  | 59 => ⟨S4x8208x4x128, .f32⟩
  | 60 => ⟨S4x8208x512, .f32⟩
  | 61 => ⟨S1024x512, .f32⟩
  | 62 => ⟨S4x8256x512, .f32⟩
  | 63 => ⟨S1024x128, .f32⟩
  | 64 => ⟨S4x8208x128, .f32⟩
  | 65 => ⟨S4x8208x4, .f32⟩
  | 66 => ⟨S4x8208x124, .f32⟩
  | 67 => ⟨S1x4, .f32⟩
  | 68 => ⟨S4, .f32⟩
  | 69 => ⟨S4, .f32⟩
  | 70 => ⟨S4, .f32⟩
  | 71 => ⟨S1x4, .f32⟩
  | 72 => ⟨S4, .f32⟩
  | 73 => ⟨S1x1x4, .f32⟩
  | 74 => ⟨S4x8208x4, .f32⟩
  | 75 => ⟨S4x8208x4, .f32⟩
  | 76 => ⟨S_, .f32⟩
  | 77 => ⟨S4x8208x4, .f32⟩
  | 78 => ⟨S4x8208x4, .f32⟩
  | 79 => ⟨S4x8208x4, .f32⟩
  | 80 => ⟨S4x8208x4, .f32⟩
  | 81 => ⟨S4x8208x4, .i1⟩
  | 82 => ⟨S4x8208x4, .f32⟩
  | 83 => ⟨S4x8208x4, .f32⟩
  | 84 => ⟨S4x8208x4, .f32⟩
  | 85 => ⟨S4x8208x4, .f32⟩
  | 86 => ⟨S4x8208x4, .f32⟩
  | 87 => ⟨S4x8208x4, .f32⟩
  | 88 => ⟨S4x8208x4, .f32⟩
  | 89 => ⟨S4x8208x4, .f32⟩
  | 90 => ⟨S1x1x4, .f32⟩
  | 91 => ⟨S4x8208x4, .f32⟩
  | 92 => ⟨S4x8208x4, .f32⟩
  | 93 => ⟨S4x8208x124, .f32⟩
  | 94 => ⟨S4x8208x124, .f32⟩
  | 95 => ⟨S_, .f32⟩
  | 96 => ⟨S4x8208x124, .f32⟩
  | 97 => ⟨S4x8208x124, .f32⟩
  | 98 => ⟨S_, .f32⟩
  | 99 => ⟨S4x8208x124, .f32⟩
  | 100 => ⟨S4x8208x124, .f32⟩
  | 101 => ⟨S4x8208x128, .f32⟩
  | 102 => ⟨S_, .i32⟩
  | 103 => ⟨S_, .f32⟩
  | 104 => ⟨S4x8256x512, .f32⟩
  | 105 => ⟨S4x8256x512, .bf16⟩
  | 106 => ⟨S_, .i32⟩
  | 107 => ⟨S_, .f32⟩
  | 108 => ⟨S4x8256x512, .f32⟩
  | 109 => ⟨S_, .i32⟩
  | 110 => ⟨S_, .f32⟩
  | 111 => ⟨S4x8256x512, .f32⟩
  | 112 => ⟨S_, .i32⟩
  | 113 => ⟨S_, .f32⟩
  | 114 => ⟨S4x8256x512, .f32⟩
  | 115 => ⟨S4x8256x512, .f32⟩
  | 116 => ⟨S4x8256x512, .f32⟩
  | 117 => ⟨S_, .f32⟩
  | 118 => ⟨S4x8256x512, .f32⟩
  | 119 => ⟨S4x8256x512, .f32⟩
  | 120 => ⟨S_, .f32⟩
  | 121 => ⟨S4x8256x512, .f32⟩
  | 122 => ⟨S4x8256x512, .f32⟩
  | 123 => ⟨S4x8256x512, .f32⟩
  | 124 => ⟨S4x8256x512, .bf16⟩
  | 125 => ⟨S_, .i32⟩
  | 126 => ⟨S_, .f32⟩
  | 127 => ⟨S4x8256x128, .f32⟩
  | _ => ⟨S4x8256x1024, .f32⟩

abbrev hbmTy (i : Nat) : BufTy := match i / 128 with
  | 0 => hbmTy0_0 i
  | 1 => hbmTy0_1 i
  | _ => ⟨S4x8256x1024, .f32⟩

abbrev bufTy : (tb : Table) → Fin (tcTables nBuf tb) → BufTy
  | .hbm, ⟨i, _⟩ => hbmTy i
  | _, _ => ⟨S4x8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_0 : Ref sig .tc := ⟨.hbm, 48, rfl⟩
abbrev main_call1_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v65 : Ref sig .tc := ⟨.hbm, 86, rfl⟩
abbrev main_c_1 : Ref sig .tc := ⟨.hbm, 87, rfl⟩
abbrev main_call3_v0 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v94 : Ref sig .tc := ⟨.hbm, 125, rfl⟩
abbrev main_c_2 : Ref sig .tc := ⟨.hbm, 126, rfl⟩
abbrev main_call5_v0 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_call6_v0 : Ref sig .tc := ⟨.hbm, 156, rfl⟩
abbrev main_call6_v1 : Ref sig .tc := ⟨.hbm, 157, rfl⟩
abbrev main_call6_cst : Ref sig .tc := ⟨.hbm, 158, rfl⟩
abbrev main_call6_v2 : Ref sig .tc := ⟨.hbm, 159, rfl⟩
abbrev main_call6_v3 : Ref sig .tc := ⟨.hbm, 160, rfl⟩
abbrev main_call6_cst_0 : Ref sig .tc := ⟨.hbm, 161, rfl⟩
abbrev main_call6_v4 : Ref sig .tc := ⟨.hbm, 162, rfl⟩
abbrev main_call6_v5 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst : Ref sig .tc := ⟨.hbm, 167, rfl⟩
abbrev main_v126 : Ref sig .tc := ⟨.hbm, 168, rfl⟩
abbrev main_v127 : Ref sig .tc := ⟨.hbm, 169, rfl⟩
abbrev main_cst_3 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_4 : Ref sig .tc := ⟨.hbm, 179, rfl⟩
abbrev main_v136 : Ref sig .tc := ⟨.hbm, 180, rfl⟩
abbrev main_v137 : Ref sig .tc := ⟨.hbm, 181, rfl⟩
abbrev main_cst_5 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_call7_cst : Ref sig .tc := ⟨.hbm, 204, rfl⟩
abbrev main_call7_v0 : Ref sig .tc := ⟨.hbm, 205, rfl⟩
abbrev main_call7_v1 : Ref sig .tc := ⟨.hbm, 206, rfl⟩
abbrev main_call7_v2 : Ref sig .tc := ⟨.hbm, 207, rfl⟩
abbrev main_call7_v3 : Ref sig .tc := ⟨.hbm, 208, rfl⟩
abbrev main_call7_v4 : Ref sig .tc := ⟨.hbm, 209, rfl⟩
abbrev main_call7_v5 : Ref sig .tc := ⟨.hbm, 210, rfl⟩
abbrev main_call7_v6 : Ref sig .tc := ⟨.hbm, 211, rfl⟩
abbrev main_call7_v7 : Ref sig .tc := ⟨.hbm, 212, rfl⟩
abbrev main_call7_v8 : Ref sig .tc := ⟨.hbm, 213, rfl⟩
abbrev main_call7_v9 : Ref sig .tc := ⟨.hbm, 214, rfl⟩
abbrev main_call7_v10 : Ref sig .tc := ⟨.hbm, 215, rfl⟩
abbrev main_call7_v11 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_6 : Ref sig .tc := ⟨.hbm, 223, rfl⟩
abbrev main_v165 : Ref sig .tc := ⟨.hbm, 224, rfl⟩
abbrev main_v166 : Ref sig .tc := ⟨.hbm, 225, rfl⟩
abbrev main_cst_7 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_c_8 : Ref sig .tc := ⟨.hbm, 230, rfl⟩
abbrev main_call8_v0 : Ref sig .tc := ⟨.hbm, 231, rfl⟩
abbrev main_v170 : Ref sig .tc := ⟨.hbm, 232, rfl⟩
abbrev main_v171 : Ref sig .tc := ⟨.hbm, 233, rfl⟩
abbrev main_c_9 : Ref sig .tc := ⟨.hbm, 234, rfl⟩
abbrev main_call9_v0 : Ref sig .tc := ⟨.hbm, 235, rfl⟩
abbrev main_v172 : Ref sig .tc := ⟨.hbm, 236, rfl⟩
abbrev main_c_10 : Ref sig .tc := ⟨.hbm, 237, rfl⟩
abbrev main_call10_v0 : Ref sig .tc := ⟨.hbm, 238, rfl⟩
abbrev main_v173 : Ref sig .tc := ⟨.hbm, 239, rfl⟩
abbrev main_c_11 : Ref sig .tc := ⟨.hbm, 240, rfl⟩
abbrev main_call11_v0 : Ref sig .tc := ⟨.hbm, 241, rfl⟩
abbrev main_v174 : Ref sig .tc := ⟨.hbm, 242, rfl⟩
abbrev main_call12_v0 : Ref sig .tc := ⟨.hbm, 243, rfl⟩
abbrev main_call12_v1 : Ref sig .tc := ⟨.hbm, 244, rfl⟩
abbrev main_call12_cst : Ref sig .tc := ⟨.hbm, 245, rfl⟩
abbrev main_call12_v2 : Ref sig .tc := ⟨.hbm, 246, rfl⟩
abbrev main_call12_v3 : Ref sig .tc := ⟨.hbm, 247, rfl⟩
abbrev main_call12_cst_0 : Ref sig .tc := ⟨.hbm, 248, rfl⟩
abbrev main_call12_v4 : Ref sig .tc := ⟨.hbm, 249, rfl⟩
abbrev main_call12_v5 : Ref sig .tc := ⟨.hbm, 250, rfl⟩
abbrev main_v175 : Ref sig .tc := ⟨.hbm, 251, rfl⟩
abbrev main_v176 : Ref sig .tc := ⟨.hbm, 252, rfl⟩
abbrev main_c_12 : Ref sig .tc := ⟨.hbm, 253, rfl⟩
abbrev main_call13_v0 : Ref sig .tc := ⟨.hbm, 254, rfl⟩
abbrev main_v177 : Ref sig .tc := ⟨.hbm, 255, rfl⟩

abbrev nD : Nat := 1
abbrev τ : Topo := Topo.v7x

variable {F : FTy → Type} [FloatOps F]
-- ==== Kernel3.lean ====
abbrev S33024x512 : Shape := ⟨2, ![33024, 512]⟩
abbrev S33024x1024 : Shape := ⟨2, ![33024, 1024]⟩
abbrev S512x1024 : Shape := ⟨2, ![512, 1024]⟩
abbrev S1x128 : Shape := ⟨2, ![1, 128]⟩
abbrev S1x1024 : Shape := ⟨2, ![1, 1024]⟩
abbrev S768x512 : Shape := ⟨2, ![768, 512]⟩
abbrev S768x1024 : Shape := ⟨2, ![768, 1024]⟩
abbrev S768x128 : Shape := ⟨2, ![768, 128]⟩
abbrev S768 : Shape := ⟨1, ![768]⟩
abbrev S768x1 : Shape := ⟨2, ![768, 1]⟩

abbrev nBuf : Space → Nat
  | .hbm => 10
  | .vmem => 15
  | .smem => 0
  | _ => 0

abbrev bufTy : (tb : Table) → Fin (tcTables nBuf tb) → BufTy
  | .hbm, ⟨0, _⟩ => ⟨S33024x512, .f32⟩
  | .hbm, ⟨1, _⟩ => ⟨S33024x512, .bf16⟩
  | .hbm, ⟨2, _⟩ => ⟨S33024x512, .bf16⟩
  | .hbm, ⟨3, _⟩ => ⟨S33024x1024, .f32⟩
  | .hbm, ⟨4, _⟩ => ⟨S512x1024, .bf16⟩
  | .hbm, ⟨5, _⟩ => ⟨S512x1024, .bf16⟩
  | .hbm, ⟨6, _⟩ => ⟨S1x128, .f32⟩
  | .hbm, ⟨7, _⟩ => ⟨S1x1024, .f32⟩
  | .hbm, ⟨8, _⟩ => ⟨S1x1024, .f32⟩
  | .hbm, ⟨9, _⟩ => ⟨S33024x1024, .f32⟩
  | .local _ .vmem, ⟨0, _⟩ => ⟨S768x512, .f32⟩
  | .local _ .vmem, ⟨1, _⟩ => ⟨S768x512, .f32⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S768x1024, .f32⟩
  | .local _ .vmem, ⟨7, _⟩ => ⟨S768x1024, .f32⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S768x1024, .f32⟩
  | .local _ .vmem, ⟨14, _⟩ => ⟨S768x1024, .f32⟩
  | _, _ => ⟨S33024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S33024x512 : Shape := ⟨2, ![33024, 512]⟩
abbrev S33024x1024 : Shape := ⟨2, ![33024, 1024]⟩
abbrev S512x1024 : Shape := ⟨2, ![512, 1024]⟩
abbrev S1x128 : Shape := ⟨2, ![1, 128]⟩
abbrev S1x1024 : Shape := ⟨2, ![1, 1024]⟩
abbrev S33024x4x128 : Shape := ⟨3, ![33024, 4, 128]⟩
abbrev S_ : Shape := ⟨0, ![]⟩
abbrev S33024x4 : Shape := ⟨2, ![33024, 4]⟩
abbrev S33024x4x1 : Shape := ⟨3, ![33024, 4, 1]⟩
abbrev S128 : Shape := ⟨1, ![128]⟩
abbrev S1x1x128 : Shape := ⟨3, ![1, 1, 128]⟩
abbrev S1024x1024 : Shape := ⟨2, ![1024, 1024]⟩
abbrev S1024 : Shape := ⟨1, ![1024]⟩
abbrev S33024 : Shape := ⟨1, ![33024]⟩
abbrev S33024x1 : Shape := ⟨2, ![33024, 1]⟩

abbrev nBuf : Space → Nat
  | .hbm => 70
  | .vmem => 0
  | .smem => 0
  | _ => 0

abbrev bufTy : (tb : Table) → Fin (tcTables nBuf tb) → BufTy
  | .hbm, ⟨0, _⟩ => ⟨S33024x512, .f32⟩
  | .hbm, ⟨1, _⟩ => ⟨S33024x512, .bf16⟩
  | .hbm, ⟨2, _⟩ => ⟨S33024x512, .bf16⟩
  | .hbm, ⟨3, _⟩ => ⟨S33024x1024, .f32⟩
  | .hbm, ⟨4, _⟩ => ⟨S512x1024, .bf16⟩
  | .hbm, ⟨5, _⟩ => ⟨S512x1024, .bf16⟩
  | .hbm, ⟨6, _⟩ => ⟨S1x128, .f32⟩
  | .hbm, ⟨7, _⟩ => ⟨S1x1024, .f32⟩
  | .hbm, ⟨8, _⟩ => ⟨S1x1024, .f32⟩
  | .hbm, ⟨9, _⟩ => ⟨S33024x4x128, .f32⟩
  | .hbm, ⟨10, _⟩ => ⟨S33024x4x128, .f32⟩
  | .hbm, ⟨11, _⟩ => ⟨S_, .f32⟩
  | .hbm, ⟨12, _⟩ => ⟨S33024x4, .f32⟩
  | .hbm, ⟨13, _⟩ => ⟨S33024x4x1, .f32⟩
  | .hbm, ⟨14, _⟩ => ⟨S_, .f32⟩
  | .hbm, ⟨15, _⟩ => ⟨S33024x4x1, .f32⟩
  | .hbm, ⟨16, _⟩ => ⟨S33024x4x1, .f32⟩
  | .hbm, ⟨17, _⟩ => ⟨S_, .f32⟩
  | .hbm, ⟨18, _⟩ => ⟨S33024x4x1, .f32⟩
  | .hbm, ⟨19, _⟩ => ⟨S33024x4x1, .f32⟩
  | .hbm, ⟨20, _⟩ => ⟨S33024x4x1, .f32⟩
  | .hbm, ⟨21, _⟩ => ⟨S33024x4x128, .f32⟩
  | .hbm, ⟨22, _⟩ => ⟨S33024x4x128, .f32⟩
  | .hbm, ⟨23, _⟩ => ⟨S128, .f32⟩
  | .hbm, ⟨24, _⟩ => ⟨S1x1x128, .f32⟩
  | .hbm, ⟨25, _⟩ => ⟨S33024x4x128, .f32⟩
  | .hbm, ⟨26, _⟩ => ⟨S33024x4x128, .f32⟩
  | .hbm, ⟨27, _⟩ => ⟨S33024x512, .f32⟩
  | .hbm, ⟨28, _⟩ => ⟨S33024x512, .f32⟩
  | .hbm, ⟨29, _⟩ => ⟨S33024x512, .f32⟩
  | .hbm, ⟨30, _⟩ => ⟨S1024x1024, .bf16⟩
  | .hbm, ⟨31, _⟩ => ⟨S1024x1024, .f32⟩
  | .hbm, ⟨32, _⟩ => ⟨S33024x512, .f32⟩
  | .hbm, ⟨33, _⟩ => ⟨S33024x1024, .f32⟩
  | .hbm, ⟨34, _⟩ => ⟨S33024x1024, .f32⟩
  | .hbm, ⟨35, _⟩ => ⟨S_, .f32⟩
  | .hbm, ⟨36, _⟩ => ⟨S33024x1024, .f32⟩
  | .hbm, ⟨37, _⟩ => ⟨S33024x1024, .f32⟩
  | .hbm, ⟨38, _⟩ => ⟨S33024x1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S33024, .f32⟩
  | .hbm, ⟨43, _⟩ => ⟨S33024x1, .f32⟩
  | .hbm, ⟨44, _⟩ => ⟨S_, .f32⟩
  | .hbm, ⟨45, _⟩ => ⟨S33024x1, .f32⟩
  | .hbm, ⟨46, _⟩ => ⟨S33024x1, .f32⟩
  | .hbm, ⟨47, _⟩ => ⟨S33024x1024, .f32⟩
  | .hbm, ⟨48, _⟩ => ⟨S33024x1024, .f32⟩
  | .hbm, ⟨49, _⟩ => ⟨S33024x1024, .f32⟩
  | .hbm, ⟨50, _⟩ => ⟨S_, .f32⟩
  | .hbm, ⟨51, _⟩ => ⟨S33024, .f32⟩
  | .hbm, ⟨52, _⟩ => ⟨S33024x1, .f32⟩
  | .hbm, ⟨53, _⟩ => ⟨S_, .f32⟩
  | .hbm, ⟨54, _⟩ => ⟨S33024x1, .f32⟩
  | .hbm, ⟨55, _⟩ => ⟨S33024x1, .f32⟩
  | .hbm, ⟨56, _⟩ => ⟨S33024x1024, .f32⟩
  | .hbm, ⟨57, _⟩ => ⟨S33024x1024, .f32⟩
  | .hbm, ⟨58, _⟩ => ⟨S_, .f32⟩
  | .hbm, ⟨59, _⟩ => ⟨S33024x1, .f32⟩
  | .hbm, ⟨60, _⟩ => ⟨S33024x1, .f32⟩
  | .hbm, ⟨61, _⟩ => ⟨S33024x1, .f32⟩
  | .hbm, ⟨62, _⟩ => ⟨S33024x1024, .f32⟩
  | .hbm, ⟨63, _⟩ => ⟨S33024x1024, .f32⟩
  | .hbm, ⟨64, _⟩ => ⟨S1x1024, .f32⟩
  | .hbm, ⟨65, _⟩ => ⟨S33024x1024, .f32⟩
  | .hbm, ⟨66, _⟩ => ⟨S33024x1024, .f32⟩
  | .hbm, ⟨67, _⟩ => ⟨S1x1024, .f32⟩
  | .hbm, ⟨68, _⟩ => ⟨S33024x1024, .f32⟩
  | .hbm, ⟨69, _⟩ => ⟨S33024x1024, .f32⟩
  | _, _ => ⟨S33024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel4.lean ====
abbrev S33024x1024 : Shape := ⟨2, ![33024, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 4
  | .vmem => 6
  | .smem => 0
  | _ => 0

abbrev bufTy : (tb : Table) → Fin (tcTables nBuf tb) → BufTy
  | .hbm, ⟨0, _⟩ => ⟨S33024x1024, .f32⟩
  | .hbm, ⟨1, _⟩ => ⟨S1x1024, .f32⟩
  | .hbm, ⟨2, _⟩ => ⟨S1x1024, .f32⟩
  | .hbm, ⟨3, _⟩ => ⟨S33024x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024, .f32⟩
  | .local _ .vmem, ⟨4, _⟩ => ⟨S768x1024, .f32⟩
  | .local _ .vmem, ⟨5, _⟩ => ⟨S768x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S33024x1024 : Shape := ⟨2, ![33024, 1024]⟩
abbrev S1x1024 : Shape := ⟨2, ![1, 1024]⟩
abbrev S1024 : Shape := ⟨1, ![1024]⟩
abbrev S_ : Shape := ⟨0, ![]⟩
abbrev S33024 : Shape := ⟨1, ![33024]⟩
abbrev S33024x1 : Shape := ⟨2, ![33024, 1]⟩

abbrev nBuf : Space → Nat
  | .hbm => 34
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S33024, .f32⟩
  | .hbm, ⟨7, _⟩ => ⟨S33024x1, .f32⟩
  | .hbm, ⟨8, _⟩ => ⟨S_, .f32⟩
  | .hbm, ⟨9, _⟩ => ⟨S33024x1, .f32⟩
  | .hbm, ⟨10, _⟩ => ⟨S33024x1, .f32⟩
  | .hbm, ⟨11, _⟩ => ⟨S33024x1024, .f32⟩
  | .hbm, ⟨12, _⟩ => ⟨S33024x1024, .f32⟩
  | .hbm, ⟨13, _⟩ => ⟨S33024x1024, .f32⟩
  | .hbm, ⟨14, _⟩ => ⟨S_, .f32⟩
  | .hbm, ⟨15, _⟩ => ⟨S33024, .f32⟩
  | .hbm, ⟨16, _⟩ => ⟨S33024x1, .f32⟩
  | .hbm, ⟨17, _⟩ => ⟨S_, .f32⟩
  | .hbm, ⟨18, _⟩ => ⟨S33024x1, .f32⟩
  | .hbm, ⟨19, _⟩ => ⟨S33024x1, .f32⟩
  | .hbm, ⟨20, _⟩ => ⟨S33024x1024, .f32⟩
  | .hbm, ⟨21, _⟩ => ⟨S33024x1024, .f32⟩
  | .hbm, ⟨22, _⟩ => ⟨S_, .f32⟩
  | .hbm, ⟨23, _⟩ => ⟨S33024x1, .f32⟩
  | .hbm, ⟨24, _⟩ => ⟨S33024x1, .f32⟩
  | .hbm, ⟨25, _⟩ => ⟨S33024x1, .f32⟩
  | .hbm, ⟨26, _⟩ => ⟨S33024x1024, .f32⟩
  | .hbm, ⟨27, _⟩ => ⟨S33024x1024, .f32⟩
  | .hbm, ⟨28, _⟩ => ⟨S1x1024, .f32⟩
  | .hbm, ⟨29, _⟩ => ⟨S33024x1024, .f32⟩
  | .hbm, ⟨30, _⟩ => ⟨S33024x1024, .f32⟩
  | .hbm, ⟨31, _⟩ => ⟨S1x1024, .f32⟩
  | .hbm, ⟨32, _⟩ => ⟨S33024x1024, .f32⟩
  | .hbm, ⟨33, _⟩ => ⟨S33024x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel5.lean ====
abbrev S33024x1024 : Shape := ⟨2, ![33024, 1024]⟩
abbrev S1024x2048 : Shape := ⟨2, ![1024, 2048]⟩
abbrev S128x128 : Shape := ⟨2, ![128, 128]⟩
abbrev S16384x1024 : Shape := ⟨2, ![16384, 1024]⟩
abbrev S16x1024x1024 : Shape := ⟨3, ![16, 1024, 1024]⟩
abbrev S1x1024 : Shape := ⟨2, ![1, 1024]⟩
abbrev S384x1024 : Shape := ⟨2, ![384, 1024]⟩
abbrev S1024x1024 : Shape := ⟨2, ![1024, 1024]⟩
abbrev S1x1024x1024 : Shape := ⟨3, ![1, 1024, 1024]⟩
abbrev S1024x384 : Shape := ⟨2, ![1024, 384]⟩
abbrev S8x16x8x384 : Shape := ⟨4, ![8, 16, 8, 384]⟩
abbrev S8x128x384 : Shape := ⟨3, ![8, 128, 384]⟩
abbrev S384x2048 : Shape := ⟨2, ![384, 2048]⟩
abbrev S384x128 : Shape := ⟨2, ![384, 128]⟩
abbrev S128x384 : Shape := ⟨2, ![128, 384]⟩
abbrev S384 : Shape := ⟨1, ![384]⟩
abbrev S1x384 : Shape := ⟨2, ![1, 384]⟩
abbrev S17x384 : Shape := ⟨2, ![17, 384]⟩
abbrev S8x384 : Shape := ⟨2, ![8, 384]⟩
abbrev S5x384 : Shape := ⟨2, ![5, 384]⟩
abbrev S4x384 : Shape := ⟨2, ![4, 384]⟩
abbrev S3x384 : Shape := ⟨2, ![3, 384]⟩
abbrev S2x384 : Shape := ⟨2, ![2, 384]⟩
abbrev S52x384 : Shape := ⟨2, ![52, 384]⟩
abbrev S16x384 : Shape := ⟨2, ![16, 384]⟩
abbrev S1x1x8x384 : Shape := ⟨4, ![1, 1, 8, 384]⟩
abbrev S1x128x384 : Shape := ⟨3, ![1, 128, 384]⟩
abbrev S1x1x1x128 : Shape := ⟨4, ![1, 1, 1, 128]⟩
abbrev S1x128 : Shape := ⟨2, ![1, 128]⟩
abbrev S1x128x128 : Shape := ⟨3, ![1, 128, 128]⟩
abbrev S384x1 : Shape := ⟨2, ![384, 1]⟩

abbrev nBuf : Space → Nat
  | .hbm => 9
  | .vmem => 19
  | .smem => 0
  | _ => 0

abbrev bufTy : (tb : Table) → Fin (tcTables nBuf tb) → BufTy
  | .hbm, ⟨0, _⟩ => ⟨S33024x1024, .f32⟩
  | .hbm, ⟨1, _⟩ => ⟨S1024x2048, .bf16⟩
  | .hbm, ⟨2, _⟩ => ⟨S128x128, .bf16⟩
  | .hbm, ⟨3, _⟩ => ⟨S128x128, .bf16⟩
  | .hbm, ⟨4, _⟩ => ⟨S16384x1024, .bf16⟩
  | .hbm, ⟨5, _⟩ => ⟨S16x1024x1024, .bf16⟩
  | .hbm, ⟨6, _⟩ => ⟨S1x1024, .f32⟩
  | .hbm, ⟨7, _⟩ => ⟨S1x1024, .f32⟩
  | .hbm, ⟨8, _⟩ => ⟨S33024x1024, .f32⟩
  | .local _ .vmem, ⟨0, _⟩ => ⟨S384x1024, .f32⟩
  | .local _ .vmem, ⟨1, _⟩ => ⟨S384x1024, .f32⟩
  | .local _ .vmem, ⟨2, _⟩ => ⟨S1024x2048, .bf16⟩
  | .local _ .vmem, ⟨3, _⟩ => ⟨S128x128, .bf16⟩
  | .local _ .vmem, ⟨4, _⟩ => ⟨S128x128, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024, .f32⟩
  | .local _ .vmem, ⟨10, _⟩ => ⟨S1x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .bf16⟩
  | .local _ .vmem, ⟨14, _⟩ => ⟨S1024x384, .f32⟩
  | .local _ .vmem, ⟨15, _⟩ => ⟨S8x16x8x384, .f32⟩
  | .local _ .vmem, ⟨16, _⟩ => ⟨S8x16x8x384, .f32⟩
  | .local _ .vmem, ⟨17, _⟩ => ⟨S8x128x384, .f32⟩
  | .local _ .vmem, ⟨18, _⟩ => ⟨S8x128x384, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![86, 16], ![false, false]⟩

def k0_off1 (i : grid0.Coords) : Fin 4 → Nat :=
  let c0_8 : Index := 0#32
  let arg1 : BitVec 32 := BitVec.ofNat 32 (i 1).val
  let v15 : Index := Scalar.indexCast arg1
  let c0_9 : Index := 0#32
  let c0_10 : Index := 0#32
  ![0, v15.toNat, 0, 0]
def k0_off2 (i : grid0.Coords) : Fin 4 → Nat :=
  let c1 : Index := 1#32
  let arg1 : BitVec 32 := BitVec.ofNat 32 (i 1).val
  let v32 : Index := Scalar.indexCast arg1
  let c0_21 : Index := 0#32
  let c0_22 : Index := 0#32
  ![1, v32.toNat, 0, 0]
def k0_off3 (i : grid0.Coords) : Fin 4 → Nat :=
  let c2 : Index := 2#32
  let arg1 : BitVec 32 := BitVec.ofNat 32 (i 1).val
  let v49 : Index := Scalar.indexCast arg1
  let c0_33 : Index := 0#32
  let c0_34 : Index := 0#32
  ![2, v49.toNat, 0, 0]
def k0_off4 (i : grid0.Coords) : Fin 4 → Nat :=
  let c3 : Index := 3#32
  let arg1 : BitVec 32 := BitVec.ofNat 32 (i 1).val
  let v66 : Index := Scalar.indexCast arg1
  let c0_45 : Index := 0#32
  let c0_46 : Index := 0#32
  ![3, v66.toNat, 0, 0]
def k0_off5 (i : grid0.Coords) : Fin 4 → Nat :=
  let c4 : Index := 4#32
  let arg1 : BitVec 32 := BitVec.ofNat 32 (i 1).val
  let v83 : Index := Scalar.indexCast arg1
  let c0_57 : Index := 0#32
  let c0_58 : Index := 0#32
  ![4, v83.toNat, 0, 0]
def k0_off6 (i : grid0.Coords) : Fin 4 → Nat :=
  let c5 : Index := 5#32
  let arg1 : BitVec 32 := BitVec.ofNat 32 (i 1).val
  let v100 : Index := Scalar.indexCast arg1
  let c0_69 : Index := 0#32
  let c0_70 : Index := 0#32
  ![5, v100.toNat, 0, 0]
def k0_off7 (i : grid0.Coords) : Fin 4 → Nat :=
  let c6 : Index := 6#32
  let arg1 : BitVec 32 := BitVec.ofNat 32 (i 1).val
  let v117 : Index := Scalar.indexCast arg1
  let c0_81 : Index := 0#32
  let c0_82 : Index := 0#32
  ![6, v117.toNat, 0, 0]
def k0_off8 (i : grid0.Coords) : Fin 4 → Nat :=
  let c7 : Index := 7#32
  let arg1 : BitVec 32 := BitVec.ofNat 32 (i 1).val
  let v134 : Index := Scalar.indexCast arg1
  let c0_93 : Index := 0#32
  let c0_94 : Index := 0#32
  ![7, v134.toNat, 0, 0]
def k0_off9 (i : grid0.Coords) : Fin 4 → Nat :=
  let c0_106 : Index := 0#32
  let arg1 : BitVec 32 := BitVec.ofNat 32 (i 1).val
  let v152 : Index := Scalar.indexCast arg1
  let c0_107 : Index := 0#32
  let c128 : Index := 128#32
  ![0, v152.toNat, 0, 128]
def k0_off10 (i : grid0.Coords) : Fin 4 → Nat :=
  let c1_118 : Index := 1#32
  let arg1 : BitVec 32 := BitVec.ofNat 32 (i 1).val
  let v169 : Index := Scalar.indexCast arg1
  let c0_119 : Index := 0#32
  let c128_120 : Index := 128#32
  ![1, v169.toNat, 0, 128]
def k0_off11 (i : grid0.Coords) : Fin 4 → Nat :=
  let c2_131 : Index := 2#32
  let arg1 : BitVec 32 := BitVec.ofNat 32 (i 1).val
  let v186 : Index := Scalar.indexCast arg1
  let c0_132 : Index := 0#32
  let c128_133 : Index := 128#32
  ![2, v186.toNat, 0, 128]
def k0_off12 (i : grid0.Coords) : Fin 4 → Nat :=
  let c3_144 : Index := 3#32
  let arg1 : BitVec 32 := BitVec.ofNat 32 (i 1).val
  let v203 : Index := Scalar.indexCast arg1
  let c0_145 : Index := 0#32
  let c128_146 : Index := 128#32
  ![3, v203.toNat, 0, 128]
def k0_off13 (i : grid0.Coords) : Fin 4 → Nat :=
  let c4_157 : Index := 4#32
  let arg1 : BitVec 32 := BitVec.ofNat 32 (i 1).val
  let v220 : Index := Scalar.indexCast arg1
  let c0_158 : Index := 0#32
  let c128_159 : Index := 128#32
  ![4, v220.toNat, 0, 128]
def k0_off14 (i : grid0.Coords) : Fin 4 → Nat :=
  let c5_170 : Index := 5#32
  let arg1 : BitVec 32 := BitVec.ofNat 32 (i 1).val
  let v237 : Index := Scalar.indexCast arg1
  let c0_171 : Index := 0#32
  let c128_172 : Index := 128#32
  ![5, v237.toNat, 0, 128]
def k0_off15 (i : grid0.Coords) : Fin 4 → Nat :=
  let c6_183 : Index := 6#32
  let arg1 : BitVec 32 := BitVec.ofNat 32 (i 1).val
  let v254 : Index := Scalar.indexCast arg1
  let c0_184 : Index := 0#32
  let c128_185 : Index := 128#32
  ![6, v254.toNat, 0, 128]
def k0_off16 (i : grid0.Coords) : Fin 4 → Nat :=
  let c7_196 : Index := 7#32
  let arg1 : BitVec 32 := BitVec.ofNat 32 (i 1).val
  let v271 : Index := Scalar.indexCast arg1
  let c0_197 : Index := 0#32
  let c128_198 : Index := 128#32
  ![7, v271.toNat, 0, 128]
def k0_off17 (i : grid0.Coords) : Fin 4 → Nat :=
  let c0_210 : Index := 0#32
  let arg1 : BitVec 32 := BitVec.ofNat 32 (i 1).val
  let v289 : Index := Scalar.indexCast arg1
  let c0_211 : Index := 0#32
  let c256 : Index := 256#32
  ![0, v289.toNat, 0, 256]
def k0_off18 (i : grid0.Coords) : Fin 4 → Nat :=
  let c1_222 : Index := 1#32
  let arg1 : BitVec 32 := BitVec.ofNat 32 (i 1).val
  let v306 : Index := Scalar.indexCast arg1
  let c0_223 : Index := 0#32
  let c256_224 : Index := 256#32
  ![1, v306.toNat, 0, 256]
def k0_off19 (i : grid0.Coords) : Fin 4 → Nat :=
  let c2_235 : Index := 2#32
  let arg1 : BitVec 32 := BitVec.ofNat 32 (i 1).val
  let v323 : Index := Scalar.indexCast arg1
  let c0_236 : Index := 0#32
  let c256_237 : Index := 256#32
  ![2, v323.toNat, 0, 256]
def k0_off20 (i : grid0.Coords) : Fin 4 → Nat :=
  let c3_248 : Index := 3#32
  let arg1 : BitVec 32 := BitVec.ofNat 32 (i 1).val
  let v340 : Index := Scalar.indexCast arg1
  let c0_249 : Index := 0#32
  let c256_250 : Index := 256#32
  ![3, v340.toNat, 0, 256]
def k0_off21 (i : grid0.Coords) : Fin 4 → Nat :=
  let c4_261 : Index := 4#32
  let arg1 : BitVec 32 := BitVec.ofNat 32 (i 1).val
  let v357 : Index := Scalar.indexCast arg1
  let c0_262 : Index := 0#32
  let c256_263 : Index := 256#32
  ![4, v357.toNat, 0, 256]
def k0_off22 (i : grid0.Coords) : Fin 4 → Nat :=
  let c5_274 : Index := 5#32
  let arg1 : BitVec 32 := BitVec.ofNat 32 (i 1).val
  let v374 : Index := Scalar.indexCast arg1
  let c0_275 : Index := 0#32
  let c256_276 : Index := 256#32
  ![5, v374.toNat, 0, 256]
def k0_off23 (i : grid0.Coords) : Fin 4 → Nat :=
  let c6_287 : Index := 6#32
  let arg1 : BitVec 32 := BitVec.ofNat 32 (i 1).val
  let v391 : Index := Scalar.indexCast arg1
  let c0_288 : Index := 0#32
  let c256_289 : Index := 256#32
  ![6, v391.toNat, 0, 256]
def k0_off24 (i : grid0.Coords) : Fin 4 → Nat :=
  let c7_300 : Index := 7#32
  let arg1 : BitVec 32 := BitVec.ofNat 32 (i 1).val
  let v408 : Index := Scalar.indexCast arg1
  let c0_301 : Index := 0#32
  let c256_302 : Index := 256#32
  ![7, v408.toNat, 0, 256]
def k0_off25 (i : grid0.Coords) : Fin 4 → Nat :=
  let c0_314 : Index := 0#32
  let arg1 : BitVec 32 := BitVec.ofNat 32 (i 1).val
  let v427 : Index := Scalar.indexCast arg1
  let c1_315 : Index := 1#32
  let c0_316 : Index := 0#32
  ![0, v427.toNat, 1, 0]
def k0_off26 (i : grid0.Coords) : Fin 4 → Nat :=
  let c1_327 : Index := 1#32
  let arg1 : BitVec 32 := BitVec.ofNat 32 (i 1).val
  let v444 : Index := Scalar.indexCast arg1
  let c1_328 : Index := 1#32
  let c0_329 : Index := 0#32
  ![1, v444.toNat, 1, 0]
def k0_off27 (i : grid0.Coords) : Fin 4 → Nat :=
  let c2_340 : Index := 2#32
  let arg1 : BitVec 32 := BitVec.ofNat 32 (i 1).val
  let v461 : Index := Scalar.indexCast arg1
  let c1_341 : Index := 1#32
  let c0_342 : Index := 0#32
  ![2, v461.toNat, 1, 0]
def k0_off28 (i : grid0.Coords) : Fin 4 → Nat :=
  let c3_353 : Index := 3#32
  let arg1 : BitVec 32 := BitVec.ofNat 32 (i 1).val
  let v478 : Index := Scalar.indexCast arg1
  let c1_354 : Index := 1#32
  let c0_355 : Index := 0#32
  ![3, v478.toNat, 1, 0]
def k0_off29 (i : grid0.Coords) : Fin 4 → Nat :=
  let c4_366 : Index := 4#32
  let arg1 : BitVec 32 := BitVec.ofNat 32 (i 1).val
  let v495 : Index := Scalar.indexCast arg1
  let c1_367 : Index := 1#32
  let c0_368 : Index := 0#32
  ![4, v495.toNat, 1, 0]
def k0_off30 (i : grid0.Coords) : Fin 4 → Nat :=
  let c5_379 : Index := 5#32
  let arg1 : BitVec 32 := BitVec.ofNat 32 (i 1).val
  let v512 : Index := Scalar.indexCast arg1
  let c1_380 : Index := 1#32
  let c0_381 : Index := 0#32
  ![5, v512.toNat, 1, 0]
def k0_off31 (i : grid0.Coords) : Fin 4 → Nat :=
  let c6_392 : Index := 6#32
  let arg1 : BitVec 32 := BitVec.ofNat 32 (i 1).val
  let v529 : Index := Scalar.indexCast arg1
  let c1_393 : Index := 1#32
  let c0_394 : Index := 0#32
  ![6, v529.toNat, 1, 0]
def k0_off32 (i : grid0.Coords) : Fin 4 → Nat :=
  let c7_405 : Index := 7#32
  let arg1 : BitVec 32 := BitVec.ofNat 32 (i 1).val
  let v546 : Index := Scalar.indexCast arg1
  let c1_406 : Index := 1#32
  let c0_407 : Index := 0#32
  ![7, v546.toNat, 1, 0]
def k0_off33 (i : grid0.Coords) : Fin 4 → Nat :=
  let c0_419 : Index := 0#32
  let arg1 : BitVec 32 := BitVec.ofNat 32 (i 1).val
  let v564 : Index := Scalar.indexCast arg1
  let c1_420 : Index := 1#32
  let c128_421 : Index := 128#32
  ![0, v564.toNat, 1, 128]
def k0_off34 (i : grid0.Coords) : Fin 4 → Nat :=
  let c1_432 : Index := 1#32
  let arg1 : BitVec 32 := BitVec.ofNat 32 (i 1).val
  let v581 : Index := Scalar.indexCast arg1
  let c1_433 : Index := 1#32
  let c128_434 : Index := 128#32
  ![1, v581.toNat, 1, 128]
def k0_off35 (i : grid0.Coords) : Fin 4 → Nat :=
  let c2_445 : Index := 2#32
  let arg1 : BitVec 32 := BitVec.ofNat 32 (i 1).val
  let v598 : Index := Scalar.indexCast arg1
  let c1_446 : Index := 1#32
  let c128_447 : Index := 128#32
  ![2, v598.toNat, 1, 128]
def k0_off36 (i : grid0.Coords) : Fin 4 → Nat :=
  let c3_458 : Index := 3#32
  let arg1 : BitVec 32 := BitVec.ofNat 32 (i 1).val
  let v615 : Index := Scalar.indexCast arg1
  let c1_459 : Index := 1#32
  let c128_460 : Index := 128#32
  ![3, v615.toNat, 1, 128]
def k0_off37 (i : grid0.Coords) : Fin 4 → Nat :=
  let c4_471 : Index := 4#32
  let arg1 : BitVec 32 := BitVec.ofNat 32 (i 1).val
  let v632 : Index := Scalar.indexCast arg1
  let c1_472 : Index := 1#32
  let c128_473 : Index := 128#32
  ![4, v632.toNat, 1, 128]
def k0_off38 (i : grid0.Coords) : Fin 4 → Nat :=
  let c5_484 : Index := 5#32
  let arg1 : BitVec 32 := BitVec.ofNat 32 (i 1).val
  let v649 : Index := Scalar.indexCast arg1
  let c1_485 : Index := 1#32
  let c128_486 : Index := 128#32
  ![5, v649.toNat, 1, 128]
def k0_off39 (i : grid0.Coords) : Fin 4 → Nat :=
  let c6_497 : Index := 6#32
  let arg1 : BitVec 32 := BitVec.ofNat 32 (i 1).val
  let v666 : Index := Scalar.indexCast arg1
  let c1_498 : Index := 1#32
  let c128_499 : Index := 128#32
  ![6, v666.toNat, 1, 128]
def k0_off40 (i : grid0.Coords) : Fin 4 → Nat :=
  let c7_510 : Index := 7#32
  let arg1 : BitVec 32 := BitVec.ofNat 32 (i 1).val
  let v683 : Index := Scalar.indexCast arg1
  let c1_511 : Index := 1#32
  let c128_512 : Index := 128#32
  ![7, v683.toNat, 1, 128]
def k0_off41 (i : grid0.Coords) : Fin 4 → Nat :=
  let c0_524 : Index := 0#32
  let arg1 : BitVec 32 := BitVec.ofNat 32 (i 1).val
  let v701 : Index := Scalar.indexCast arg1
  let c1_525 : Index := 1#32
  let c256_526 : Index := 256#32
  ![0, v701.toNat, 1, 256]
def k0_off42 (i : grid0.Coords) : Fin 4 → Nat :=
  let c1_537 : Index := 1#32
  let arg1 : BitVec 32 := BitVec.ofNat 32 (i 1).val
  let v718 : Index := Scalar.indexCast arg1
  let c1_538 : Index := 1#32
  let c256_539 : Index := 256#32
  ![1, v718.toNat, 1, 256]
def k0_off43 (i : grid0.Coords) : Fin 4 → Nat :=
  let c2_550 : Index := 2#32
  let arg1 : BitVec 32 := BitVec.ofNat 32 (i 1).val
  let v735 : Index := Scalar.indexCast arg1
  let c1_551 : Index := 1#32
  let c256_552 : Index := 256#32
  ![2, v735.toNat, 1, 256]
def k0_off44 (i : grid0.Coords) : Fin 4 → Nat :=
  let c3_563 : Index := 3#32
  let arg1 : BitVec 32 := BitVec.ofNat 32 (i 1).val
  let v752 : Index := Scalar.indexCast arg1
  let c1_564 : Index := 1#32
  let c256_565 : Index := 256#32
  ![3, v752.toNat, 1, 256]
def k0_off45 (i : grid0.Coords) : Fin 4 → Nat :=
  let c4_576 : Index := 4#32
  let arg1 : BitVec 32 := BitVec.ofNat 32 (i 1).val
  let v769 : Index := Scalar.indexCast arg1
  let c1_577 : Index := 1#32
  let c256_578 : Index := 256#32
  ![4, v769.toNat, 1, 256]
def k0_off46 (i : grid0.Coords) : Fin 4 → Nat :=
  let c5_589 : Index := 5#32
  let arg1 : BitVec 32 := BitVec.ofNat 32 (i 1).val
  let v786 : Index := Scalar.indexCast arg1
  let c1_590 : Index := 1#32
  let c256_591 : Index := 256#32
  ![5, v786.toNat, 1, 256]
def k0_off47 (i : grid0.Coords) : Fin 4 → Nat :=
  let c6_602 : Index := 6#32
  let arg1 : BitVec 32 := BitVec.ofNat 32 (i 1).val
  let v803 : Index := Scalar.indexCast arg1
  let c1_603 : Index := 1#32
  let c256_604 : Index := 256#32
  ![6, v803.toNat, 1, 256]
def k0_off48 (i : grid0.Coords) : Fin 4 → Nat :=
  let c7_615 : Index := 7#32
  let arg1 : BitVec 32 := BitVec.ofNat 32 (i 1).val
  let v820 : Index := Scalar.indexCast arg1
  let c1_616 : Index := 1#32
  let c256_617 : Index := 256#32
  ![7, v820.toNat, 1, 256]
def k0_off49 (i : grid0.Coords) : Fin 4 → Nat :=
  let c0_629 : Index := 0#32
  let arg1 : BitVec 32 := BitVec.ofNat 32 (i 1).val
  let v839 : Index := Scalar.indexCast arg1
  let c2_630 : Index := 2#32
  let c0_631 : Index := 0#32
  ![0, v839.toNat, 2, 0]
def k0_off50 (i : grid0.Coords) : Fin 4 → Nat :=
  let c1_642 : Index := 1#32
  let arg1 : BitVec 32 := BitVec.ofNat 32 (i 1).val
  let v856 : Index := Scalar.indexCast arg1
  let c2_643 : Index := 2#32
  let c0_644 : Index := 0#32
  ![1, v856.toNat, 2, 0]
def k0_off51 (i : grid0.Coords) : Fin 4 → Nat :=
  let c2_655 : Index := 2#32
  let arg1 : BitVec 32 := BitVec.ofNat 32 (i 1).val
  let v873 : Index := Scalar.indexCast arg1
  let c2_656 : Index := 2#32
  let c0_657 : Index := 0#32
  ![2, v873.toNat, 2, 0]
def k0_off52 (i : grid0.Coords) : Fin 4 → Nat :=
  let c3_668 : Index := 3#32
  let arg1 : BitVec 32 := BitVec.ofNat 32 (i 1).val
  let v890 : Index := Scalar.indexCast arg1
  let c2_669 : Index := 2#32
  let c0_670 : Index := 0#32
  ![3, v890.toNat, 2, 0]
def k0_off53 (i : grid0.Coords) : Fin 4 → Nat :=
  let c4_681 : Index := 4#32
  let arg1 : BitVec 32 := BitVec.ofNat 32 (i 1).val
  let v907 : Index := Scalar.indexCast arg1
  let c2_682 : Index := 2#32
  let c0_683 : Index := 0#32
  ![4, v907.toNat, 2, 0]
def k0_off54 (i : grid0.Coords) : Fin 4 → Nat :=
  let c5_694 : Index := 5#32
  let arg1 : BitVec 32 := BitVec.ofNat 32 (i 1).val
  let v924 : Index := Scalar.indexCast arg1
  let c2_695 : Index := 2#32
  let c0_696 : Index := 0#32
  ![5, v924.toNat, 2, 0]
def k0_off55 (i : grid0.Coords) : Fin 4 → Nat :=
  let c6_707 : Index := 6#32
  let arg1 : BitVec 32 := BitVec.ofNat 32 (i 1).val
  let v941 : Index := Scalar.indexCast arg1
  let c2_708 : Index := 2#32
  let c0_709 : Index := 0#32
  ![6, v941.toNat, 2, 0]
def k0_off56 (i : grid0.Coords) : Fin 4 → Nat :=
  let c7_720 : Index := 7#32
  let arg1 : BitVec 32 := BitVec.ofNat 32 (i 1).val
  let v958 : Index := Scalar.indexCast arg1
  let c2_721 : Index := 2#32
  let c0_722 : Index := 0#32
  ![7, v958.toNat, 2, 0]
def k0_off57 (i : grid0.Coords) : Fin 4 → Nat :=
  let c0_734 : Index := 0#32
  let arg1 : BitVec 32 := BitVec.ofNat 32 (i 1).val
  let v976 : Index := Scalar.indexCast arg1
  let c2_735 : Index := 2#32
  let c128_736 : Index := 128#32
  ![0, v976.toNat, 2, 128]
def k0_off58 (i : grid0.Coords) : Fin 4 → Nat :=
  let c1_747 : Index := 1#32
  let arg1 : BitVec 32 := BitVec.ofNat 32 (i 1).val
  let v993 : Index := Scalar.indexCast arg1
  let c2_748 : Index := 2#32
  let c128_749 : Index := 128#32
  ![1, v993.toNat, 2, 128]
def k0_off59 (i : grid0.Coords) : Fin 4 → Nat :=
  let c2_760 : Index := 2#32
  let arg1 : BitVec 32 := BitVec.ofNat 32 (i 1).val
  let v1010 : Index := Scalar.indexCast arg1
  let c2_761 : Index := 2#32
  let c128_762 : Index := 128#32
  ![2, v1010.toNat, 2, 128]
def k0_off60 (i : grid0.Coords) : Fin 4 → Nat :=
  let c3_773 : Index := 3#32
  let arg1 : BitVec 32 := BitVec.ofNat 32 (i 1).val
  let v1027 : Index := Scalar.indexCast arg1
  let c2_774 : Index := 2#32
  let c128_775 : Index := 128#32
  ![3, v1027.toNat, 2, 128]
def k0_off61 (i : grid0.Coords) : Fin 4 → Nat :=
  let c4_786 : Index := 4#32
  let arg1 : BitVec 32 := BitVec.ofNat 32 (i 1).val
  let v1044 : Index := Scalar.indexCast arg1
  let c2_787 : Index := 2#32
  let c128_788 : Index := 128#32
  ![4, v1044.toNat, 2, 128]
def k0_off62 (i : grid0.Coords) : Fin 4 → Nat :=
  let c5_799 : Index := 5#32
  let arg1 : BitVec 32 := BitVec.ofNat 32 (i 1).val
  let v1061 : Index := Scalar.indexCast arg1
  let c2_800 : Index := 2#32
  let c128_801 : Index := 128#32
  ![5, v1061.toNat, 2, 128]
def k0_off63 (i : grid0.Coords) : Fin 4 → Nat :=
  let c6_812 : Index := 6#32
  let arg1 : BitVec 32 := BitVec.ofNat 32 (i 1).val
  let v1078 : Index := Scalar.indexCast arg1
  let c2_813 : Index := 2#32
  let c128_814 : Index := 128#32
  ![6, v1078.toNat, 2, 128]
def k0_off64 (i : grid0.Coords) : Fin 4 → Nat :=
  let c7_825 : Index := 7#32
  let arg1 : BitVec 32 := BitVec.ofNat 32 (i 1).val
  let v1095 : Index := Scalar.indexCast arg1
  let c2_826 : Index := 2#32
  let c128_827 : Index := 128#32
  ![7, v1095.toNat, 2, 128]
def k0_off65 (i : grid0.Coords) : Fin 4 → Nat :=
  let c0_839 : Index := 0#32
  let arg1 : BitVec 32 := BitVec.ofNat 32 (i 1).val
  let v1113 : Index := Scalar.indexCast arg1
  let c2_840 : Index := 2#32
  let c256_841 : Index := 256#32
  ![0, v1113.toNat, 2, 256]
def k0_off66 (i : grid0.Coords) : Fin 4 → Nat :=
  let c1_852 : Index := 1#32
  let arg1 : BitVec 32 := BitVec.ofNat 32 (i 1).val
  let v1130 : Index := Scalar.indexCast arg1
  let c2_853 : Index := 2#32
  let c256_854 : Index := 256#32
  ![1, v1130.toNat, 2, 256]
def k0_off67 (i : grid0.Coords) : Fin 4 → Nat :=
  let c2_865 : Index := 2#32
  let arg1 : BitVec 32 := BitVec.ofNat 32 (i 1).val
  let v1147 : Index := Scalar.indexCast arg1
  let c2_866 : Index := 2#32
  let c256_867 : Index := 256#32
  ![2, v1147.toNat, 2, 256]
def k0_off68 (i : grid0.Coords) : Fin 4 → Nat :=
  let c3_878 : Index := 3#32
  let arg1 : BitVec 32 := BitVec.ofNat 32 (i 1).val
  let v1164 : Index := Scalar.indexCast arg1
  let c2_879 : Index := 2#32
  let c256_880 : Index := 256#32
  ![3, v1164.toNat, 2, 256]
def k0_off69 (i : grid0.Coords) : Fin 4 → Nat :=
  let c4_891 : Index := 4#32
  let arg1 : BitVec 32 := BitVec.ofNat 32 (i 1).val
  let v1181 : Index := Scalar.indexCast arg1
  let c2_892 : Index := 2#32
  let c256_893 : Index := 256#32
  ![4, v1181.toNat, 2, 256]
def k0_off70 (i : grid0.Coords) : Fin 4 → Nat :=
  let c5_904 : Index := 5#32
  let arg1 : BitVec 32 := BitVec.ofNat 32 (i 1).val
  let v1198 : Index := Scalar.indexCast arg1
  let c2_905 : Index := 2#32
  let c256_906 : Index := 256#32
  ![5, v1198.toNat, 2, 256]
def k0_off71 (i : grid0.Coords) : Fin 4 → Nat :=
  let c6_917 : Index := 6#32
  let arg1 : BitVec 32 := BitVec.ofNat 32 (i 1).val
  let v1215 : Index := Scalar.indexCast arg1
  let c2_918 : Index := 2#32
  let c256_919 : Index := 256#32
  ![6, v1215.toNat, 2, 256]
def k0_off72 (i : grid0.Coords) : Fin 4 → Nat :=
  let c7_930 : Index := 7#32
  let arg1 : BitVec 32 := BitVec.ofNat 32 (i 1).val
  let v1232 : Index := Scalar.indexCast arg1
  let c2_931 : Index := 2#32
  let c256_932 : Index := 256#32
  ![7, v1232.toNat, 2, 256]
def k0_off73 (i : grid0.Coords) : Fin 4 → Nat :=
  let c0_944 : Index := 0#32
  let arg1 : BitVec 32 := BitVec.ofNat 32 (i 1).val
  let v1251 : Index := Scalar.indexCast arg1
  let c3_945 : Index := 3#32
  let c0_946 : Index := 0#32
  ![0, v1251.toNat, 3, 0]
def k0_off74 (i : grid0.Coords) : Fin 4 → Nat :=
  let c1_957 : Index := 1#32
  let arg1 : BitVec 32 := BitVec.ofNat 32 (i 1).val
  let v1268 : Index := Scalar.indexCast arg1
  let c3_958 : Index := 3#32
  let c0_959 : Index := 0#32
  ![1, v1268.toNat, 3, 0]
def k0_off75 (i : grid0.Coords) : Fin 4 → Nat :=
  let c2_970 : Index := 2#32
  let arg1 : BitVec 32 := BitVec.ofNat 32 (i 1).val
  let v1285 : Index := Scalar.indexCast arg1
  let c3_971 : Index := 3#32
  let c0_972 : Index := 0#32
  ![2, v1285.toNat, 3, 0]
def k0_off76 (i : grid0.Coords) : Fin 4 → Nat :=
  let c3_983 : Index := 3#32
  let arg1 : BitVec 32 := BitVec.ofNat 32 (i 1).val
  let v1302 : Index := Scalar.indexCast arg1
  let c3_984 : Index := 3#32
  let c0_985 : Index := 0#32
  ![3, v1302.toNat, 3, 0]
def k0_off77 (i : grid0.Coords) : Fin 4 → Nat :=
  let c4_996 : Index := 4#32
  let arg1 : BitVec 32 := BitVec.ofNat 32 (i 1).val
  let v1319 : Index := Scalar.indexCast arg1
  let c3_997 : Index := 3#32
  let c0_998 : Index := 0#32
  ![4, v1319.toNat, 3, 0]
def k0_off78 (i : grid0.Coords) : Fin 4 → Nat :=
  let c5_1009 : Index := 5#32
  let arg1 : BitVec 32 := BitVec.ofNat 32 (i 1).val
  let v1336 : Index := Scalar.indexCast arg1
  let c3_1010 : Index := 3#32
  let c0_1011 : Index := 0#32
  ![5, v1336.toNat, 3, 0]
def k0_off79 (i : grid0.Coords) : Fin 4 → Nat :=
  let c6_1022 : Index := 6#32
  let arg1 : BitVec 32 := BitVec.ofNat 32 (i 1).val
  let v1353 : Index := Scalar.indexCast arg1
  let c3_1023 : Index := 3#32
  let c0_1024 : Index := 0#32
  ![6, v1353.toNat, 3, 0]
def k0_off80 (i : grid0.Coords) : Fin 4 → Nat :=
  let c7_1035 : Index := 7#32
  let arg1 : BitVec 32 := BitVec.ofNat 32 (i 1).val
  let v1370 : Index := Scalar.indexCast arg1
  let c3_1036 : Index := 3#32
  let c0_1037 : Index := 0#32
  ![7, v1370.toNat, 3, 0]
def k0_off81 (i : grid0.Coords) : Fin 4 → Nat :=
  let c0_1049 : Index := 0#32
  let arg1 : BitVec 32 := BitVec.ofNat 32 (i 1).val
  let v1388 : Index := Scalar.indexCast arg1
  let c3_1050 : Index := 3#32
  let c128_1051 : Index := 128#32
  ![0, v1388.toNat, 3, 128]
def k0_off82 (i : grid0.Coords) : Fin 4 → Nat :=
  let c1_1062 : Index := 1#32
  let arg1 : BitVec 32 := BitVec.ofNat 32 (i 1).val
  let v1405 : Index := Scalar.indexCast arg1
  let c3_1063 : Index := 3#32
  let c128_1064 : Index := 128#32
  ![1, v1405.toNat, 3, 128]
def k0_off83 (i : grid0.Coords) : Fin 4 → Nat :=
  let c2_1075 : Index := 2#32
  let arg1 : BitVec 32 := BitVec.ofNat 32 (i 1).val
  let v1422 : Index := Scalar.indexCast arg1
  let c3_1076 : Index := 3#32
  let c128_1077 : Index := 128#32
  ![2, v1422.toNat, 3, 128]
def k0_off84 (i : grid0.Coords) : Fin 4 → Nat :=
  let c3_1088 : Index := 3#32
  let arg1 : BitVec 32 := BitVec.ofNat 32 (i 1).val
  let v1439 : Index := Scalar.indexCast arg1
  let c3_1089 : Index := 3#32
  let c128_1090 : Index := 128#32
  ![3, v1439.toNat, 3, 128]
def k0_off85 (i : grid0.Coords) : Fin 4 → Nat :=
  let c4_1101 : Index := 4#32
  let arg1 : BitVec 32 := BitVec.ofNat 32 (i 1).val
  let v1456 : Index := Scalar.indexCast arg1
  let c3_1102 : Index := 3#32
  let c128_1103 : Index := 128#32
  ![4, v1456.toNat, 3, 128]
def k0_off86 (i : grid0.Coords) : Fin 4 → Nat :=
  let c5_1114 : Index := 5#32
  let arg1 : BitVec 32 := BitVec.ofNat 32 (i 1).val
  let v1473 : Index := Scalar.indexCast arg1
  let c3_1115 : Index := 3#32
  let c128_1116 : Index := 128#32
  ![5, v1473.toNat, 3, 128]
def k0_off87 (i : grid0.Coords) : Fin 4 → Nat :=
  let c6_1127 : Index := 6#32
  let arg1 : BitVec 32 := BitVec.ofNat 32 (i 1).val
  let v1490 : Index := Scalar.indexCast arg1
  let c3_1128 : Index := 3#32
  let c128_1129 : Index := 128#32
  ![6, v1490.toNat, 3, 128]
def k0_off88 (i : grid0.Coords) : Fin 4 → Nat :=
  let c7_1140 : Index := 7#32
  let arg1 : BitVec 32 := BitVec.ofNat 32 (i 1).val
  let v1507 : Index := Scalar.indexCast arg1
  let c3_1141 : Index := 3#32
  let c128_1142 : Index := 128#32
  ![7, v1507.toNat, 3, 128]
def k0_off89 (i : grid0.Coords) : Fin 4 → Nat :=
  let c0_1154 : Index := 0#32
  let arg1 : BitVec 32 := BitVec.ofNat 32 (i 1).val
  let v1525 : Index := Scalar.indexCast arg1
  let c3_1155 : Index := 3#32
  let c256_1156 : Index := 256#32
  ![0, v1525.toNat, 3, 256]
def k0_off90 (i : grid0.Coords) : Fin 4 → Nat :=
  let c1_1167 : Index := 1#32
  let arg1 : BitVec 32 := BitVec.ofNat 32 (i 1).val
  let v1542 : Index := Scalar.indexCast arg1
  let c3_1168 : Index := 3#32
  let c256_1169 : Index := 256#32
  ![1, v1542.toNat, 3, 256]
def k0_off91 (i : grid0.Coords) : Fin 4 → Nat :=
  let c2_1180 : Index := 2#32
  let arg1 : BitVec 32 := BitVec.ofNat 32 (i 1).val
  let v1559 : Index := Scalar.indexCast arg1
  let c3_1181 : Index := 3#32
  let c256_1182 : Index := 256#32
  ![2, v1559.toNat, 3, 256]
def k0_off92 (i : grid0.Coords) : Fin 4 → Nat :=
  let c3_1193 : Index := 3#32
  let arg1 : BitVec 32 := BitVec.ofNat 32 (i 1).val
  let v1576 : Index := Scalar.indexCast arg1
  let c3_1194 : Index := 3#32
  let c256_1195 : Index := 256#32
  ![3, v1576.toNat, 3, 256]
def k0_off93 (i : grid0.Coords) : Fin 4 → Nat :=
  let c4_1206 : Index := 4#32
  let arg1 : BitVec 32 := BitVec.ofNat 32 (i 1).val
  let v1593 : Index := Scalar.indexCast arg1
  let c3_1207 : Index := 3#32
  let c256_1208 : Index := 256#32
  ![4, v1593.toNat, 3, 256]
def k0_off94 (i : grid0.Coords) : Fin 4 → Nat :=
  let c5_1219 : Index := 5#32
  let arg1 : BitVec 32 := BitVec.ofNat 32 (i 1).val
  let v1610 : Index := Scalar.indexCast arg1
  let c3_1220 : Index := 3#32
  let c256_1221 : Index := 256#32
  ![5, v1610.toNat, 3, 256]
def k0_off95 (i : grid0.Coords) : Fin 4 → Nat :=
  let c6_1232 : Index := 6#32
  let arg1 : BitVec 32 := BitVec.ofNat 32 (i 1).val
  let v1627 : Index := Scalar.indexCast arg1
  let c3_1233 : Index := 3#32
  let c256_1234 : Index := 256#32
  ![6, v1627.toNat, 3, 256]
def k0_off96 (i : grid0.Coords) : Fin 4 → Nat :=
  let c7_1245 : Index := 7#32
  let arg1 : BitVec 32 := BitVec.ofNat 32 (i 1).val
  let v1644 : Index := Scalar.indexCast arg1
  let c3_1246 : Index := 3#32
  let c256_1247 : Index := 256#32
  ![7, v1644.toNat, 3, 256]
def k0_off97 (i : grid0.Coords) : Fin 4 → Nat :=
  let c0_1259 : Index := 0#32
  let arg1 : BitVec 32 := BitVec.ofNat 32 (i 1).val
  let v1663 : Index := Scalar.indexCast arg1
  let c4_1260 : Index := 4#32
  let c0_1261 : Index := 0#32
  ![0, v1663.toNat, 4, 0]
def k0_off98 (i : grid0.Coords) : Fin 4 → Nat :=
  let c1_1272 : Index := 1#32
  let arg1 : BitVec 32 := BitVec.ofNat 32 (i 1).val
  let v1680 : Index := Scalar.indexCast arg1
  let c4_1273 : Index := 4#32
  let c0_1274 : Index := 0#32
  ![1, v1680.toNat, 4, 0]
def k0_off99 (i : grid0.Coords) : Fin 4 → Nat :=
  let c2_1285 : Index := 2#32
  let arg1 : BitVec 32 := BitVec.ofNat 32 (i 1).val
  let v1697 : Index := Scalar.indexCast arg1
  let c4_1286 : Index := 4#32
  let c0_1287 : Index := 0#32
  ![2, v1697.toNat, 4, 0]
def k0_off100 (i : grid0.Coords) : Fin 4 → Nat :=
  let c3_1298 : Index := 3#32
  let arg1 : BitVec 32 := BitVec.ofNat 32 (i 1).val
  let v1714 : Index := Scalar.indexCast arg1
  let c4_1299 : Index := 4#32
  let c0_1300 : Index := 0#32
  ![3, v1714.toNat, 4, 0]
def k0_off101 (i : grid0.Coords) : Fin 4 → Nat :=
  let c4_1311 : Index := 4#32
  let arg1 : BitVec 32 := BitVec.ofNat 32 (i 1).val
  let v1731 : Index := Scalar.indexCast arg1
  let c4_1312 : Index := 4#32
  let c0_1313 : Index := 0#32
  ![4, v1731.toNat, 4, 0]
def k0_off102 (i : grid0.Coords) : Fin 4 → Nat :=
  let c5_1324 : Index := 5#32
  let arg1 : BitVec 32 := BitVec.ofNat 32 (i 1).val
  let v1748 : Index := Scalar.indexCast arg1
  let c4_1325 : Index := 4#32
  let c0_1326 : Index := 0#32
  ![5, v1748.toNat, 4, 0]
def k0_off103 (i : grid0.Coords) : Fin 4 → Nat :=
  let c6_1337 : Index := 6#32
  let arg1 : BitVec 32 := BitVec.ofNat 32 (i 1).val
  let v1765 : Index := Scalar.indexCast arg1
  let c4_1338 : Index := 4#32
  let c0_1339 : Index := 0#32
  ![6, v1765.toNat, 4, 0]
def k0_off104 (i : grid0.Coords) : Fin 4 → Nat :=
  let c7_1350 : Index := 7#32
  let arg1 : BitVec 32 := BitVec.ofNat 32 (i 1).val
  let v1782 : Index := Scalar.indexCast arg1
  let c4_1351 : Index := 4#32
  let c0_1352 : Index := 0#32
  ![7, v1782.toNat, 4, 0]
def k0_off105 (i : grid0.Coords) : Fin 4 → Nat :=
  let c0_1364 : Index := 0#32
  let arg1 : BitVec 32 := BitVec.ofNat 32 (i 1).val
  let v1800 : Index := Scalar.indexCast arg1
  let c4_1365 : Index := 4#32
  let c128_1366 : Index := 128#32
  ![0, v1800.toNat, 4, 128]
def k0_off106 (i : grid0.Coords) : Fin 4 → Nat :=
  let c1_1377 : Index := 1#32
  let arg1 : BitVec 32 := BitVec.ofNat 32 (i 1).val
  let v1817 : Index := Scalar.indexCast arg1
  let c4_1378 : Index := 4#32
  let c128_1379 : Index := 128#32
  ![1, v1817.toNat, 4, 128]
def k0_off107 (i : grid0.Coords) : Fin 4 → Nat :=
  let c2_1390 : Index := 2#32
  let arg1 : BitVec 32 := BitVec.ofNat 32 (i 1).val
  let v1834 : Index := Scalar.indexCast arg1
  let c4_1391 : Index := 4#32
  let c128_1392 : Index := 128#32
  ![2, v1834.toNat, 4, 128]
def k0_off108 (i : grid0.Coords) : Fin 4 → Nat :=
  let c3_1403 : Index := 3#32
  let arg1 : BitVec 32 := BitVec.ofNat 32 (i 1).val
  let v1851 : Index := Scalar.indexCast arg1
  let c4_1404 : Index := 4#32
  let c128_1405 : Index := 128#32
  ![3, v1851.toNat, 4, 128]
def k0_off109 (i : grid0.Coords) : Fin 4 → Nat :=
  let c4_1416 : Index := 4#32
  let arg1 : BitVec 32 := BitVec.ofNat 32 (i 1).val
  let v1868 : Index := Scalar.indexCast arg1
  let c4_1417 : Index := 4#32
  let c128_1418 : Index := 128#32
  ![4, v1868.toNat, 4, 128]
def k0_off110 (i : grid0.Coords) : Fin 4 → Nat :=
  let c5_1429 : Index := 5#32
  let arg1 : BitVec 32 := BitVec.ofNat 32 (i 1).val
  let v1885 : Index := Scalar.indexCast arg1
  let c4_1430 : Index := 4#32
  let c128_1431 : Index := 128#32
  ![5, v1885.toNat, 4, 128]
def k0_off111 (i : grid0.Coords) : Fin 4 → Nat :=
  let c6_1442 : Index := 6#32
  let arg1 : BitVec 32 := BitVec.ofNat 32 (i 1).val
  let v1902 : Index := Scalar.indexCast arg1
  let c4_1443 : Index := 4#32
  let c128_1444 : Index := 128#32
  ![6, v1902.toNat, 4, 128]
def k0_off112 (i : grid0.Coords) : Fin 4 → Nat :=
  let c7_1455 : Index := 7#32
  let arg1 : BitVec 32 := BitVec.ofNat 32 (i 1).val
  let v1919 : Index := Scalar.indexCast arg1
  let c4_1456 : Index := 4#32
  let c128_1457 : Index := 128#32
  ![7, v1919.toNat, 4, 128]
def k0_off113 (i : grid0.Coords) : Fin 4 → Nat :=
  let c0_1469 : Index := 0#32
  let arg1 : BitVec 32 := BitVec.ofNat 32 (i 1).val
  let v1937 : Index := Scalar.indexCast arg1
  let c4_1470 : Index := 4#32
  let c256_1471 : Index := 256#32
  ![0, v1937.toNat, 4, 256]
def k0_off114 (i : grid0.Coords) : Fin 4 → Nat :=
  let c1_1482 : Index := 1#32
  let arg1 : BitVec 32 := BitVec.ofNat 32 (i 1).val
  let v1954 : Index := Scalar.indexCast arg1
  let c4_1483 : Index := 4#32
  let c256_1484 : Index := 256#32
  ![1, v1954.toNat, 4, 256]
def k0_off115 (i : grid0.Coords) : Fin 4 → Nat :=
  let c2_1495 : Index := 2#32
  let arg1 : BitVec 32 := BitVec.ofNat 32 (i 1).val
  let v1971 : Index := Scalar.indexCast arg1
  let c4_1496 : Index := 4#32
  let c256_1497 : Index := 256#32
  ![2, v1971.toNat, 4, 256]
def k0_off116 (i : grid0.Coords) : Fin 4 → Nat :=
  let c3_1508 : Index := 3#32
  let arg1 : BitVec 32 := BitVec.ofNat 32 (i 1).val
  let v1988 : Index := Scalar.indexCast arg1
  let c4_1509 : Index := 4#32
  let c256_1510 : Index := 256#32
  ![3, v1988.toNat, 4, 256]
def k0_off117 (i : grid0.Coords) : Fin 4 → Nat :=
  let c4_1521 : Index := 4#32
  let arg1 : BitVec 32 := BitVec.ofNat 32 (i 1).val
  let v2005 : Index := Scalar.indexCast arg1
  let c4_1522 : Index := 4#32
  let c256_1523 : Index := 256#32
  ![4, v2005.toNat, 4, 256]
def k0_off118 (i : grid0.Coords) : Fin 4 → Nat :=
  let c5_1534 : Index := 5#32
  let arg1 : BitVec 32 := BitVec.ofNat 32 (i 1).val
  let v2022 : Index := Scalar.indexCast arg1
  let c4_1535 : Index := 4#32
  let c256_1536 : Index := 256#32
  ![5, v2022.toNat, 4, 256]
def k0_off119 (i : grid0.Coords) : Fin 4 → Nat :=
  let c6_1547 : Index := 6#32
  let arg1 : BitVec 32 := BitVec.ofNat 32 (i 1).val
  let v2039 : Index := Scalar.indexCast arg1
  let c4_1548 : Index := 4#32
  let c256_1549 : Index := 256#32
  ![6, v2039.toNat, 4, 256]
def k0_off120 (i : grid0.Coords) : Fin 4 → Nat :=
  let c7_1560 : Index := 7#32
  let arg1 : BitVec 32 := BitVec.ofNat 32 (i 1).val
  let v2056 : Index := Scalar.indexCast arg1
  let c4_1561 : Index := 4#32
  let c256_1562 : Index := 256#32
  ![7, v2056.toNat, 4, 256]
def k0_off121 (i : grid0.Coords) : Fin 4 → Nat :=
  let c0_1574 : Index := 0#32
  let arg1 : BitVec 32 := BitVec.ofNat 32 (i 1).val
  let v2075 : Index := Scalar.indexCast arg1
  let c5_1575 : Index := 5#32
  let c0_1576 : Index := 0#32
  ![0, v2075.toNat, 5, 0]
def k0_off122 (i : grid0.Coords) : Fin 4 → Nat :=
  let c1_1587 : Index := 1#32
  let arg1 : BitVec 32 := BitVec.ofNat 32 (i 1).val
  let v2092 : Index := Scalar.indexCast arg1
  let c5_1588 : Index := 5#32
  let c0_1589 : Index := 0#32
  ![1, v2092.toNat, 5, 0]
def k0_off123 (i : grid0.Coords) : Fin 4 → Nat :=
  let c2_1600 : Index := 2#32
  let arg1 : BitVec 32 := BitVec.ofNat 32 (i 1).val
  let v2109 : Index := Scalar.indexCast arg1
  let c5_1601 : Index := 5#32
  let c0_1602 : Index := 0#32
  ![2, v2109.toNat, 5, 0]
def k0_off124 (i : grid0.Coords) : Fin 4 → Nat :=
  let c3_1613 : Index := 3#32
  let arg1 : BitVec 32 := BitVec.ofNat 32 (i 1).val
  let v2126 : Index := Scalar.indexCast arg1
  let c5_1614 : Index := 5#32
  let c0_1615 : Index := 0#32
  ![3, v2126.toNat, 5, 0]
def k0_off125 (i : grid0.Coords) : Fin 4 → Nat :=
  let c4_1626 : Index := 4#32
  let arg1 : BitVec 32 := BitVec.ofNat 32 (i 1).val
  let v2143 : Index := Scalar.indexCast arg1
  let c5_1627 : Index := 5#32
  let c0_1628 : Index := 0#32
  ![4, v2143.toNat, 5, 0]
def k0_off126 (i : grid0.Coords) : Fin 4 → Nat :=
  let c5_1639 : Index := 5#32
  let arg1 : BitVec 32 := BitVec.ofNat 32 (i 1).val
  let v2160 : Index := Scalar.indexCast arg1
  let c5_1640 : Index := 5#32
  let c0_1641 : Index := 0#32
  ![5, v2160.toNat, 5, 0]
def k0_off127 (i : grid0.Coords) : Fin 4 → Nat :=
  let c6_1652 : Index := 6#32
  let arg1 : BitVec 32 := BitVec.ofNat 32 (i 1).val
  let v2177 : Index := Scalar.indexCast arg1
  let c5_1653 : Index := 5#32
  let c0_1654 : Index := 0#32
  ![6, v2177.toNat, 5, 0]
def k0_off128 (i : grid0.Coords) : Fin 4 → Nat :=
  let c7_1665 : Index := 7#32
  let arg1 : BitVec 32 := BitVec.ofNat 32 (i 1).val
  let v2194 : Index := Scalar.indexCast arg1
  let c5_1666 : Index := 5#32
  let c0_1667 : Index := 0#32
  ![7, v2194.toNat, 5, 0]
def k0_off129 (i : grid0.Coords) : Fin 4 → Nat :=
  let c0_1679 : Index := 0#32
  let arg1 : BitVec 32 := BitVec.ofNat 32 (i 1).val
  let v2212 : Index := Scalar.indexCast arg1
  let c5_1680 : Index := 5#32
  let c128_1681 : Index := 128#32
  ![0, v2212.toNat, 5, 128]
def k0_off130 (i : grid0.Coords) : Fin 4 → Nat :=
  let c1_1692 : Index := 1#32
  let arg1 : BitVec 32 := BitVec.ofNat 32 (i 1).val
  let v2229 : Index := Scalar.indexCast arg1
  let c5_1693 : Index := 5#32
  let c128_1694 : Index := 128#32
  ![1, v2229.toNat, 5, 128]
def k0_off131 (i : grid0.Coords) : Fin 4 → Nat :=
  let c2_1705 : Index := 2#32
  let arg1 : BitVec 32 := BitVec.ofNat 32 (i 1).val
  let v2246 : Index := Scalar.indexCast arg1
  let c5_1706 : Index := 5#32
  let c128_1707 : Index := 128#32
  ![2, v2246.toNat, 5, 128]
def k0_off132 (i : grid0.Coords) : Fin 4 → Nat :=
  let c3_1718 : Index := 3#32
  let arg1 : BitVec 32 := BitVec.ofNat 32 (i 1).val
  let v2263 : Index := Scalar.indexCast arg1
  let c5_1719 : Index := 5#32
  let c128_1720 : Index := 128#32
  ![3, v2263.toNat, 5, 128]
def k0_off133 (i : grid0.Coords) : Fin 4 → Nat :=
  let c4_1731 : Index := 4#32
  let arg1 : BitVec 32 := BitVec.ofNat 32 (i 1).val
  let v2280 : Index := Scalar.indexCast arg1
  let c5_1732 : Index := 5#32
  let c128_1733 : Index := 128#32
  ![4, v2280.toNat, 5, 128]
def k0_off134 (i : grid0.Coords) : Fin 4 → Nat :=
  let c5_1744 : Index := 5#32
  let arg1 : BitVec 32 := BitVec.ofNat 32 (i 1).val
  let v2297 : Index := Scalar.indexCast arg1
  let c5_1745 : Index := 5#32
  let c128_1746 : Index := 128#32
  ![5, v2297.toNat, 5, 128]
def k0_off135 (i : grid0.Coords) : Fin 4 → Nat :=
  let c6_1757 : Index := 6#32
  let arg1 : BitVec 32 := BitVec.ofNat 32 (i 1).val
  let v2314 : Index := Scalar.indexCast arg1
  let c5_1758 : Index := 5#32
  let c128_1759 : Index := 128#32
  ![6, v2314.toNat, 5, 128]
def k0_off136 (i : grid0.Coords) : Fin 4 → Nat :=
  let c7_1770 : Index := 7#32
  let arg1 : BitVec 32 := BitVec.ofNat 32 (i 1).val
  let v2331 : Index := Scalar.indexCast arg1
  let c5_1771 : Index := 5#32
  let c128_1772 : Index := 128#32
  ![7, v2331.toNat, 5, 128]
def k0_off137 (i : grid0.Coords) : Fin 4 → Nat :=
  let c0_1784 : Index := 0#32
  let arg1 : BitVec 32 := BitVec.ofNat 32 (i 1).val
  let v2349 : Index := Scalar.indexCast arg1
  let c5_1785 : Index := 5#32
  let c256_1786 : Index := 256#32
  ![0, v2349.toNat, 5, 256]
def k0_off138 (i : grid0.Coords) : Fin 4 → Nat :=
  let c1_1797 : Index := 1#32
  let arg1 : BitVec 32 := BitVec.ofNat 32 (i 1).val
  let v2366 : Index := Scalar.indexCast arg1
  let c5_1798 : Index := 5#32
  let c256_1799 : Index := 256#32
  ![1, v2366.toNat, 5, 256]
def k0_off139 (i : grid0.Coords) : Fin 4 → Nat :=
  let c2_1810 : Index := 2#32
  let arg1 : BitVec 32 := BitVec.ofNat 32 (i 1).val
  let v2383 : Index := Scalar.indexCast arg1
  let c5_1811 : Index := 5#32
  let c256_1812 : Index := 256#32
  ![2, v2383.toNat, 5, 256]
def k0_off140 (i : grid0.Coords) : Fin 4 → Nat :=
  let c3_1823 : Index := 3#32
  let arg1 : BitVec 32 := BitVec.ofNat 32 (i 1).val
  let v2400 : Index := Scalar.indexCast arg1
  let c5_1824 : Index := 5#32
  let c256_1825 : Index := 256#32
  ![3, v2400.toNat, 5, 256]
def k0_off141 (i : grid0.Coords) : Fin 4 → Nat :=
  let c4_1836 : Index := 4#32
  let arg1 : BitVec 32 := BitVec.ofNat 32 (i 1).val
  let v2417 : Index := Scalar.indexCast arg1
  let c5_1837 : Index := 5#32
  let c256_1838 : Index := 256#32
  ![4, v2417.toNat, 5, 256]
def k0_off142 (i : grid0.Coords) : Fin 4 → Nat :=
  let c5_1849 : Index := 5#32
  let arg1 : BitVec 32 := BitVec.ofNat 32 (i 1).val
  let v2434 : Index := Scalar.indexCast arg1
  let c5_1850 : Index := 5#32
  let c256_1851 : Index := 256#32
  ![5, v2434.toNat, 5, 256]
def k0_off143 (i : grid0.Coords) : Fin 4 → Nat :=
  let c6_1862 : Index := 6#32
  let arg1 : BitVec 32 := BitVec.ofNat 32 (i 1).val
  let v2451 : Index := Scalar.indexCast arg1
  let c5_1863 : Index := 5#32
  let c256_1864 : Index := 256#32
  ![6, v2451.toNat, 5, 256]
def k0_off144 (i : grid0.Coords) : Fin 4 → Nat :=
  let c7_1875 : Index := 7#32
  let arg1 : BitVec 32 := BitVec.ofNat 32 (i 1).val
  let v2468 : Index := Scalar.indexCast arg1
  let c5_1876 : Index := 5#32
  let c256_1877 : Index := 256#32
  ![7, v2468.toNat, 5, 256]
def k0_off145 (i : grid0.Coords) : Fin 4 → Nat :=
  let c0_1889 : Index := 0#32
  let arg1 : BitVec 32 := BitVec.ofNat 32 (i 1).val
  let v2487 : Index := Scalar.indexCast arg1
  let c6_1890 : Index := 6#32
  let c0_1891 : Index := 0#32
  ![0, v2487.toNat, 6, 0]
def k0_off146 (i : grid0.Coords) : Fin 4 → Nat :=
  let c1_1902 : Index := 1#32
  let arg1 : BitVec 32 := BitVec.ofNat 32 (i 1).val
  let v2504 : Index := Scalar.indexCast arg1
  let c6_1903 : Index := 6#32
  let c0_1904 : Index := 0#32
  ![1, v2504.toNat, 6, 0]
def k0_off147 (i : grid0.Coords) : Fin 4 → Nat :=
  let c2_1915 : Index := 2#32
  let arg1 : BitVec 32 := BitVec.ofNat 32 (i 1).val
  let v2521 : Index := Scalar.indexCast arg1
  let c6_1916 : Index := 6#32
  let c0_1917 : Index := 0#32
  ![2, v2521.toNat, 6, 0]
def k0_off148 (i : grid0.Coords) : Fin 4 → Nat :=
  let c3_1928 : Index := 3#32
  let arg1 : BitVec 32 := BitVec.ofNat 32 (i 1).val
  let v2538 : Index := Scalar.indexCast arg1
  let c6_1929 : Index := 6#32
  let c0_1930 : Index := 0#32
  ![3, v2538.toNat, 6, 0]
def k0_off149 (i : grid0.Coords) : Fin 4 → Nat :=
  let c4_1941 : Index := 4#32
  let arg1 : BitVec 32 := BitVec.ofNat 32 (i 1).val
  let v2555 : Index := Scalar.indexCast arg1
  let c6_1942 : Index := 6#32
  let c0_1943 : Index := 0#32
  ![4, v2555.toNat, 6, 0]
def k0_off150 (i : grid0.Coords) : Fin 4 → Nat :=
  let c5_1954 : Index := 5#32
  let arg1 : BitVec 32 := BitVec.ofNat 32 (i 1).val
  let v2572 : Index := Scalar.indexCast arg1
  let c6_1955 : Index := 6#32
  let c0_1956 : Index := 0#32
  ![5, v2572.toNat, 6, 0]
def k0_off151 (i : grid0.Coords) : Fin 4 → Nat :=
  let c6_1967 : Index := 6#32
  let arg1 : BitVec 32 := BitVec.ofNat 32 (i 1).val
  let v2589 : Index := Scalar.indexCast arg1
  let c6_1968 : Index := 6#32
  let c0_1969 : Index := 0#32
  ![6, v2589.toNat, 6, 0]
def k0_off152 (i : grid0.Coords) : Fin 4 → Nat :=
  let c7_1980 : Index := 7#32
  let arg1 : BitVec 32 := BitVec.ofNat 32 (i 1).val
  let v2606 : Index := Scalar.indexCast arg1
  let c6_1981 : Index := 6#32
  let c0_1982 : Index := 0#32
  ![7, v2606.toNat, 6, 0]
def k0_off153 (i : grid0.Coords) : Fin 4 → Nat :=
  let c0_1994 : Index := 0#32
  let arg1 : BitVec 32 := BitVec.ofNat 32 (i 1).val
  let v2624 : Index := Scalar.indexCast arg1
  let c6_1995 : Index := 6#32
  let c128_1996 : Index := 128#32
  ![0, v2624.toNat, 6, 128]
def k0_off154 (i : grid0.Coords) : Fin 4 → Nat :=
  let c1_2007 : Index := 1#32
  let arg1 : BitVec 32 := BitVec.ofNat 32 (i 1).val
  let v2641 : Index := Scalar.indexCast arg1
  let c6_2008 : Index := 6#32
  let c128_2009 : Index := 128#32
  ![1, v2641.toNat, 6, 128]
def k0_off155 (i : grid0.Coords) : Fin 4 → Nat :=
  let c2_2020 : Index := 2#32
  let arg1 : BitVec 32 := BitVec.ofNat 32 (i 1).val
  let v2658 : Index := Scalar.indexCast arg1
  let c6_2021 : Index := 6#32
  let c128_2022 : Index := 128#32
  ![2, v2658.toNat, 6, 128]
def k0_off156 (i : grid0.Coords) : Fin 4 → Nat :=
  let c3_2033 : Index := 3#32
  let arg1 : BitVec 32 := BitVec.ofNat 32 (i 1).val
  let v2675 : Index := Scalar.indexCast arg1
  let c6_2034 : Index := 6#32
  let c128_2035 : Index := 128#32
  ![3, v2675.toNat, 6, 128]
def k0_off157 (i : grid0.Coords) : Fin 4 → Nat :=
  let c4_2046 : Index := 4#32
  let arg1 : BitVec 32 := BitVec.ofNat 32 (i 1).val
  let v2692 : Index := Scalar.indexCast arg1
  let c6_2047 : Index := 6#32
  let c128_2048 : Index := 128#32
  ![4, v2692.toNat, 6, 128]
def k0_off158 (i : grid0.Coords) : Fin 4 → Nat :=
  let c5_2059 : Index := 5#32
  let arg1 : BitVec 32 := BitVec.ofNat 32 (i 1).val
  let v2709 : Index := Scalar.indexCast arg1
  let c6_2060 : Index := 6#32
  let c128_2061 : Index := 128#32
  ![5, v2709.toNat, 6, 128]
def k0_off159 (i : grid0.Coords) : Fin 4 → Nat :=
  let c6_2072 : Index := 6#32
  let arg1 : BitVec 32 := BitVec.ofNat 32 (i 1).val
  let v2726 : Index := Scalar.indexCast arg1
  let c6_2073 : Index := 6#32
  let c128_2074 : Index := 128#32
  ![6, v2726.toNat, 6, 128]
def k0_off160 (i : grid0.Coords) : Fin 4 → Nat :=
  let c7_2085 : Index := 7#32
  let arg1 : BitVec 32 := BitVec.ofNat 32 (i 1).val
  let v2743 : Index := Scalar.indexCast arg1
  let c6_2086 : Index := 6#32
  let c128_2087 : Index := 128#32
  ![7, v2743.toNat, 6, 128]
def k0_off161 (i : grid0.Coords) : Fin 4 → Nat :=
  let c0_2099 : Index := 0#32
  let arg1 : BitVec 32 := BitVec.ofNat 32 (i 1).val
  let v2761 : Index := Scalar.indexCast arg1
  let c6_2100 : Index := 6#32
  let c256_2101 : Index := 256#32
  ![0, v2761.toNat, 6, 256]
def k0_off162 (i : grid0.Coords) : Fin 4 → Nat :=
  let c1_2112 : Index := 1#32
  let arg1 : BitVec 32 := BitVec.ofNat 32 (i 1).val
  let v2778 : Index := Scalar.indexCast arg1
  let c6_2113 : Index := 6#32
  let c256_2114 : Index := 256#32
  ![1, v2778.toNat, 6, 256]
def k0_off163 (i : grid0.Coords) : Fin 4 → Nat :=
  let c2_2125 : Index := 2#32
  let arg1 : BitVec 32 := BitVec.ofNat 32 (i 1).val
  let v2795 : Index := Scalar.indexCast arg1
  let c6_2126 : Index := 6#32
  let c256_2127 : Index := 256#32
  ![2, v2795.toNat, 6, 256]
def k0_off164 (i : grid0.Coords) : Fin 4 → Nat :=
  let c3_2138 : Index := 3#32
  let arg1 : BitVec 32 := BitVec.ofNat 32 (i 1).val
  let v2812 : Index := Scalar.indexCast arg1
  let c6_2139 : Index := 6#32
  let c256_2140 : Index := 256#32
  ![3, v2812.toNat, 6, 256]
def k0_off165 (i : grid0.Coords) : Fin 4 → Nat :=
  let c4_2151 : Index := 4#32
  let arg1 : BitVec 32 := BitVec.ofNat 32 (i 1).val
  let v2829 : Index := Scalar.indexCast arg1
  let c6_2152 : Index := 6#32
  let c256_2153 : Index := 256#32
  ![4, v2829.toNat, 6, 256]
def k0_off166 (i : grid0.Coords) : Fin 4 → Nat :=
  let c5_2164 : Index := 5#32
  let arg1 : BitVec 32 := BitVec.ofNat 32 (i 1).val
  let v2846 : Index := Scalar.indexCast arg1
  let c6_2165 : Index := 6#32
  let c256_2166 : Index := 256#32
  ![5, v2846.toNat, 6, 256]
def k0_off167 (i : grid0.Coords) : Fin 4 → Nat :=
  let c6_2177 : Index := 6#32
  let arg1 : BitVec 32 := BitVec.ofNat 32 (i 1).val
  let v2863 : Index := Scalar.indexCast arg1
  let c6_2178 : Index := 6#32
  let c256_2179 : Index := 256#32
  ![6, v2863.toNat, 6, 256]
def k0_off168 (i : grid0.Coords) : Fin 4 → Nat :=
  let c7_2190 : Index := 7#32
  let arg1 : BitVec 32 := BitVec.ofNat 32 (i 1).val
  let v2880 : Index := Scalar.indexCast arg1
  let c6_2191 : Index := 6#32
  let c256_2192 : Index := 256#32
  ![7, v2880.toNat, 6, 256]
def k0_off169 (i : grid0.Coords) : Fin 4 → Nat :=
  let c0_2204 : Index := 0#32
  let arg1 : BitVec 32 := BitVec.ofNat 32 (i 1).val
  let v2899 : Index := Scalar.indexCast arg1
  let c7_2205 : Index := 7#32
  let c0_2206 : Index := 0#32
  ![0, v2899.toNat, 7, 0]
def k0_off170 (i : grid0.Coords) : Fin 4 → Nat :=
  let c1_2217 : Index := 1#32
  let arg1 : BitVec 32 := BitVec.ofNat 32 (i 1).val
  let v2916 : Index := Scalar.indexCast arg1
  let c7_2218 : Index := 7#32
  let c0_2219 : Index := 0#32
  ![1, v2916.toNat, 7, 0]
def k0_off171 (i : grid0.Coords) : Fin 4 → Nat :=
  let c2_2230 : Index := 2#32
  let arg1 : BitVec 32 := BitVec.ofNat 32 (i 1).val
  let v2933 : Index := Scalar.indexCast arg1
  let c7_2231 : Index := 7#32
  let c0_2232 : Index := 0#32
  ![2, v2933.toNat, 7, 0]
def k0_off172 (i : grid0.Coords) : Fin 4 → Nat :=
  let c3_2243 : Index := 3#32
  let arg1 : BitVec 32 := BitVec.ofNat 32 (i 1).val
  let v2950 : Index := Scalar.indexCast arg1
  let c7_2244 : Index := 7#32
  let c0_2245 : Index := 0#32
  ![3, v2950.toNat, 7, 0]
def k0_off173 (i : grid0.Coords) : Fin 4 → Nat :=
  let c4_2256 : Index := 4#32
  let arg1 : BitVec 32 := BitVec.ofNat 32 (i 1).val
  let v2967 : Index := Scalar.indexCast arg1
  let c7_2257 : Index := 7#32
  let c0_2258 : Index := 0#32
  ![4, v2967.toNat, 7, 0]
def k0_off174 (i : grid0.Coords) : Fin 4 → Nat :=
  let c5_2269 : Index := 5#32
  let arg1 : BitVec 32 := BitVec.ofNat 32 (i 1).val
  let v2984 : Index := Scalar.indexCast arg1
  let c7_2270 : Index := 7#32
  let c0_2271 : Index := 0#32
  ![5, v2984.toNat, 7, 0]
def k0_off175 (i : grid0.Coords) : Fin 4 → Nat :=
  let c6_2282 : Index := 6#32
  let arg1 : BitVec 32 := BitVec.ofNat 32 (i 1).val
  let v3001 : Index := Scalar.indexCast arg1
  let c7_2283 : Index := 7#32
  let c0_2284 : Index := 0#32
  ![6, v3001.toNat, 7, 0]
def k0_off176 (i : grid0.Coords) : Fin 4 → Nat :=
  let c7_2295 : Index := 7#32
  let arg1 : BitVec 32 := BitVec.ofNat 32 (i 1).val
  let v3018 : Index := Scalar.indexCast arg1
  let c7_2296 : Index := 7#32
  let c0_2297 : Index := 0#32
  ![7, v3018.toNat, 7, 0]
def k0_off177 (i : grid0.Coords) : Fin 4 → Nat :=
  let c0_2309 : Index := 0#32
  let arg1 : BitVec 32 := BitVec.ofNat 32 (i 1).val
  let v3036 : Index := Scalar.indexCast arg1
  let c7_2310 : Index := 7#32
  let c128_2311 : Index := 128#32
  ![0, v3036.toNat, 7, 128]
def k0_off178 (i : grid0.Coords) : Fin 4 → Nat :=
  let c1_2322 : Index := 1#32
  let arg1 : BitVec 32 := BitVec.ofNat 32 (i 1).val
  let v3053 : Index := Scalar.indexCast arg1
  let c7_2323 : Index := 7#32
  let c128_2324 : Index := 128#32
  ![1, v3053.toNat, 7, 128]
def k0_off179 (i : grid0.Coords) : Fin 4 → Nat :=
  let c2_2335 : Index := 2#32
  let arg1 : BitVec 32 := BitVec.ofNat 32 (i 1).val
  let v3070 : Index := Scalar.indexCast arg1
  let c7_2336 : Index := 7#32
  let c128_2337 : Index := 128#32
  ![2, v3070.toNat, 7, 128]
def k0_off180 (i : grid0.Coords) : Fin 4 → Nat :=
  let c3_2348 : Index := 3#32
  let arg1 : BitVec 32 := BitVec.ofNat 32 (i 1).val
  let v3087 : Index := Scalar.indexCast arg1
  let c7_2349 : Index := 7#32
  let c128_2350 : Index := 128#32
  ![3, v3087.toNat, 7, 128]
def k0_off181 (i : grid0.Coords) : Fin 4 → Nat :=
  let c4_2361 : Index := 4#32
  let arg1 : BitVec 32 := BitVec.ofNat 32 (i 1).val
  let v3104 : Index := Scalar.indexCast arg1
  let c7_2362 : Index := 7#32
  let c128_2363 : Index := 128#32
  ![4, v3104.toNat, 7, 128]
def k0_off182 (i : grid0.Coords) : Fin 4 → Nat :=
  let c5_2374 : Index := 5#32
  let arg1 : BitVec 32 := BitVec.ofNat 32 (i 1).val
  let v3121 : Index := Scalar.indexCast arg1
  let c7_2375 : Index := 7#32
  let c128_2376 : Index := 128#32
  ![5, v3121.toNat, 7, 128]
def k0_off183 (i : grid0.Coords) : Fin 4 → Nat :=
  let c6_2387 : Index := 6#32
  let arg1 : BitVec 32 := BitVec.ofNat 32 (i 1).val
  let v3138 : Index := Scalar.indexCast arg1
  let c7_2388 : Index := 7#32
  let c128_2389 : Index := 128#32
  ![6, v3138.toNat, 7, 128]
def k0_off184 (i : grid0.Coords) : Fin 4 → Nat :=
  let c7_2400 : Index := 7#32
  let arg1 : BitVec 32 := BitVec.ofNat 32 (i 1).val
  let v3155 : Index := Scalar.indexCast arg1
  let c7_2401 : Index := 7#32
  let c128_2402 : Index := 128#32
  ![7, v3155.toNat, 7, 128]
def k0_off185 (i : grid0.Coords) : Fin 4 → Nat :=
  let c0_2414 : Index := 0#32
  let arg1 : BitVec 32 := BitVec.ofNat 32 (i 1).val
  let v3173 : Index := Scalar.indexCast arg1
  let c7_2415 : Index := 7#32
  let c256_2416 : Index := 256#32
  ![0, v3173.toNat, 7, 256]
def k0_off186 (i : grid0.Coords) : Fin 4 → Nat :=
  let c1_2427 : Index := 1#32
  let arg1 : BitVec 32 := BitVec.ofNat 32 (i 1).val
  let v3190 : Index := Scalar.indexCast arg1
  let c7_2428 : Index := 7#32
  let c256_2429 : Index := 256#32
  ![1, v3190.toNat, 7, 256]
def k0_off187 (i : grid0.Coords) : Fin 4 → Nat :=
  let c2_2440 : Index := 2#32
  let arg1 : BitVec 32 := BitVec.ofNat 32 (i 1).val
  let v3207 : Index := Scalar.indexCast arg1
  let c7_2441 : Index := 7#32
  let c256_2442 : Index := 256#32
  ![2, v3207.toNat, 7, 256]
def k0_off188 (i : grid0.Coords) : Fin 4 → Nat :=
  let c3_2453 : Index := 3#32
  let arg1 : BitVec 32 := BitVec.ofNat 32 (i 1).val
  let v3224 : Index := Scalar.indexCast arg1
  let c7_2454 : Index := 7#32
  let c256_2455 : Index := 256#32
  ![3, v3224.toNat, 7, 256]
def k0_off189 (i : grid0.Coords) : Fin 4 → Nat :=
  let c4_2466 : Index := 4#32
  let arg1 : BitVec 32 := BitVec.ofNat 32 (i 1).val
  let v3241 : Index := Scalar.indexCast arg1
  let c7_2467 : Index := 7#32
  let c256_2468 : Index := 256#32
  ![4, v3241.toNat, 7, 256]
def k0_off190 (i : grid0.Coords) : Fin 4 → Nat :=
  let c5_2479 : Index := 5#32
  let arg1 : BitVec 32 := BitVec.ofNat 32 (i 1).val
  let v3258 : Index := Scalar.indexCast arg1
  let c7_2480 : Index := 7#32
  let c256_2481 : Index := 256#32
  ![5, v3258.toNat, 7, 256]
def k0_off191 (i : grid0.Coords) : Fin 4 → Nat :=
  let c6_2492 : Index := 6#32
  let arg1 : BitVec 32 := BitVec.ofNat 32 (i 1).val
  let v3275 : Index := Scalar.indexCast arg1
  let c7_2493 : Index := 7#32
  let c256_2494 : Index := 256#32
  ![6, v3275.toNat, 7, 256]
def k0_off192 (i : grid0.Coords) : Fin 4 → Nat :=
  let c7_2505 : Index := 7#32
  let arg1 : BitVec 32 := BitVec.ofNat 32 (i 1).val
  let v3292 : Index := Scalar.indexCast arg1
  let c7_2506 : Index := 7#32
  let c256_2507 : Index := 256#32
  ![7, v3292.toNat, 7, 256]
def k0_cond2 (i : grid0.Coords) : BitVec 1 :=
  let arg1 : BitVec 32 := BitVec.ofNat 32 (i 1).val
  let c15_i32 : BitVec 32 := 15#32
  let v3321 : BitVec 1 := Scalar.cmpi .eq arg1 c15_i32
  let v3322 : BitVec 32 := Scalar.extui v3321
  let c0_i32_2526 : BitVec 32 := 0#32
  let v3323 : BitVec 1 := Scalar.cmpi .ne v3322 c0_i32_2526
  v3323

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Proof.Body.lean ====
/- One chunk of one head, as the kernel's operations: what it stores of its queries, keys, values, gates and state. The
   kernel states it twelve times (three chunks, four heads); each of the twelve is this one. -/
module

public import proofs.«01_k».proof.Proof.Gen.KernelIdeal.Skeleton

@[expose] public section

set_option maxRecDepth 16384

noncomputable section

namespace Delta.Body

open Idealize.ShloMosaic Idealize.SL.Sem Cert.KernelIdeal Cert.KernelIdeal.Gen

variable {F : FTy → Type} [FloatOps F]

abbrev rowI : IVec S64x64 32 := iota .tc S64x64 32 [0] iota_S64x64_d0_w32
abbrev colI : IVec S64x64 32 := iota .tc S64x64 32 [1] iota_S64x64_d1_w32

/-- Level `a`'s mask (`b` is `a + 1`): the row's and the column's blocks agree above bit `a`, the row's bit `a` is one, the
    column's zero. -/
def levelMask (a b : BitVec 32) : IVec S64x64 1 :=
  andi (andi (cmpi .eq (shrsi rowI (broadcast S64x64 b)) (shrsi colI (broadcast S64x64 b)))
      (cmpi .eq (andi (shrsi rowI (broadcast S64x64 a)) (broadcast S64x64 1#32)) (broadcast S64x64 1#32)))
    (cmpi .eq (andi (shrsi colI (broadcast S64x64 a)) (broadcast S64x64 1#32)) (broadcast S64x64 0#32))

abbrev zero64 : FVec F S64x64 .f32 := broadcast S64x64 (Scalar.ofBits .f32 0x00000000#32)

/-- The gates' running sums down the chunk, and the same turned on its side. -/
def gcumV (gb : Vec F S1x64x128 .f32) : FVec F S64x128 .f32 :=
  matmul dot_S64x64_S64x128_S64x128_1_0_0_1_n_n (some .fp32) k0_pay6 (shapeCast S64x128 gb shapeCasts_S1x64x128_S64x128)
    (constant S64x128 .f32 0x00000000#32)

def gcumT (gb : Vec F S1x64x128 .f32) : FVec F S8x64 .f32 :=
  matmul dot_S8x128_S64x128_S8x64_1_1_0_0_n_n (some .fp32) k0_pay7 (gcumV gb) (constant S8x64 .f32 0x00000000#32)

/-- Head `h`'s betas, running sums as a column and as a row. -/
def betaV (gb : Vec F S1x64x128 .f32) : Fin 4 → FVec F S64x1 .f32
  | 0 => extractStridedSlice S64x1 ![0, 4] (shapeCast S64x128 gb shapeCasts_S1x64x128_S64x128) slices_S64x128_o0_4_S64x1
  | 1 => extractStridedSlice S64x1 ![0, 5] (shapeCast S64x128 gb shapeCasts_S1x64x128_S64x128) slices_S64x128_o0_5_S64x1
  | 2 => extractStridedSlice S64x1 ![0, 6] (shapeCast S64x128 gb shapeCasts_S1x64x128_S64x128) slices_S64x128_o0_6_S64x1
  | 3 => extractStridedSlice S64x1 ![0, 7] (shapeCast S64x128 gb shapeCasts_S1x64x128_S64x128) slices_S64x128_o0_7_S64x1

def gcolV (gb : Vec F S1x64x128 .f32) : Fin 4 → FVec F S64x1 .f32
  | 0 => extractStridedSlice S64x1 ![0, 0] (gcumV gb) slices_S64x128_o0_0_S64x1
  | 1 => extractStridedSlice S64x1 ![0, 1] (gcumV gb) slices_S64x128_o0_1_S64x1
  | 2 => extractStridedSlice S64x1 ![0, 2] (gcumV gb) slices_S64x128_o0_2_S64x1
  | 3 => extractStridedSlice S64x1 ![0, 3] (gcumV gb) slices_S64x128_o0_3_S64x1

def growV (gb : Vec F S1x64x128 .f32) : Fin 4 → FVec F S1x64 .f32
  | 0 => extractStridedSlice S1x64 ![0, 0] (gcumT gb) slices_S8x64_o0_0_S1x64
  | 1 => extractStridedSlice S1x64 ![1, 0] (gcumT gb) slices_S8x64_o1_0_S1x64
  | 2 => extractStridedSlice S1x64 ![2, 0] (gcumT gb) slices_S8x64_o2_0_S1x64
  | 3 => extractStridedSlice S1x64 ![3, 0] (gcumT gb) slices_S8x64_o3_0_S1x64

section
variable (q k v : FVec F S64x128 .f32) (beta gcol : FVec F S64x1 .f32) (grow : FVec F S1x64 .f32) (S : FVec F S128x128 .f32)

/-- The head's queries, scaled. -/
def scaleQ (q : Vec F S1x64x128 .f32) : FVec F S64x128 .f32 :=
  mulf (shapeCast S64x128 q shapeCasts_S1x64x128_S64x128) (broadcast S64x128 (Scalar.ofBits .f32 0x3DB504F3#32))

def decayV : FVec F S64x64 .f32 :=
  select k0_pay3 (exp (select k0_pay3 (subf (broadcastTo S64x64 gcol broadcasts_S64x1_S64x64) (broadcastTo S64x64 grow broadcasts_S1x64_S64x64))
    zero64)) zero64

abbrev bf (x : FVec F S64x128 .f32) : FVec F S64x128 .bf16 := truncf .bf16 x bitsLt_bf16_f32

def kbetaV : FVec F S64x128 .f32 := mulf k (broadcastTo S64x128 beta broadcasts_S64x1_S64x128)

def againstKeys (x : FVec F S64x128 .f32) : FVec F S64x64 .f32 :=
  mulf (matmul dot_S64x128_S64x128_S64x64_1_1_0_0_n_n none (bf x) (bf k) (constant S64x64 .f32 0x00000000#32)) (decayV gcol grow)

def lowV : FVec F S64x64 .f32 := select k0_pay4 (againstKeys k gcol grow (kbetaV k beta)) zero64

def attnV : FVec F S64x64 .f32 := select k0_pay3 (againstKeys k gcol grow q) zero64

def mm64 (x y : FVec F S64x64 .f32) : FVec F S64x64 .f32 :=
  matmul dot_S64x64_S64x64_S64x64_1_0_0_1_n_n (some .fp32) x y (constant S64x64 .f32 0x00000000#32)

/-- One level of the inverse. -/
def levelV (a x : FVec F S64x64 .f32) (l : BitVec 32) : FVec F S64x64 .f32 :=
  subf x (mm64 x (mm64 (select (levelMask l (l + 1#32)) a zero64) x))

def invV (a : FVec F S64x64 .f32) : FVec F S64x64 .f32 :=
  levelV a (levelV a (levelV a (levelV a (levelV a (levelV a k0_pay5 0#32) 1#32) 2#32) 3#32) 4#32) 5#32

/-- Rows through the inverse. -/
def through (x : FVec F S64x64 .f32) (y : FVec F S64x128 .f32) : FVec F S64x128 .f32 :=
  matmul dot_S64x64_S64x128_S64x128_1_0_0_1_n_n none (truncf .bf16 x bitsLt_bf16_f32) (bf y) (constant S64x128 .f32 0x00000000#32)

/-- Rows through the state. -/
def throughS (x : FVec F S64x128 .f32) : FVec F S64x128 .f32 :=
  matmul dot_S64x128_S128x128_S64x128_1_0_0_1_n_n none (bf x) (truncf .bf16 S bitsLt_bf16_f32) (constant S64x128 .f32 0x00000000#32)

abbrev growth (x : FVec F S64x1 .f32) : FVec F S64x128 .f32 := broadcastTo S64x128 (exp x) broadcasts_S64x1_S64x128

def vnewV : FVec F S64x128 .f32 :=
  subf (through (invV (lowV k beta gcol grow)) (kbetaV v beta))
    (throughS S (through (invV (lowV k beta gcol grow)) (mulf (kbetaV k beta) (growth gcol))))

def outV : FVec F S64x128 .f32 :=
  addf (throughS S (mulf q (growth gcol))) (through (attnV q k gcol grow) (vnewV k v beta gcol grow S))

def lastV : FVec F S1x1 .f32 := extractStridedSlice S1x1 ![63, 0] gcol slices_S64x1_o63_0_S1x1

def leftV : FVec F S128x128 .f32 :=
  addf (mulf S (broadcastTo S128x128 (exp (lastV gcol)) broadcasts_S1x1_S128x128))
    (matmul dot_S64x128_S64x128_S128x128_0_0_1_1_n_n none
      (bf (mulf k (growth (subf (broadcastTo S64x1 (lastV gcol) broadcasts_S1x1_S64x1) gcol))))
      (bf (vnewV k v beta gcol grow S)) (constant S128x128 .f32 0x00000000#32))

end

/-- What the kernel stores of one head's chunk: its outputs. -/
def chunkOut (h : Fin 4) (q k v gb : Vec F S1x64x128 .f32) (S : Vec F S1x128x128 .f32) : FVec F S1x64x128 .f32 :=
  shapeCast S1x64x128 (outV (scaleQ q) (shapeCast S64x128 k shapeCasts_S1x64x128_S64x128) (shapeCast S64x128 v shapeCasts_S1x64x128_S64x128)
    (betaV gb h) (gcolV gb h) (growV gb h) (shapeCast S128x128 S shapeCasts_S1x128x128_S128x128)) shapeCasts_S64x128_S1x64x128

/-- What the kernel stores of one head's chunk: the state it leaves. -/
def chunkLeft (h : Fin 4) (k v gb : Vec F S1x64x128 .f32) (S : Vec F S1x128x128 .f32) : FVec F S1x128x128 .f32 :=
  shapeCast S1x128x128 (leftV (shapeCast S64x128 k shapeCasts_S1x64x128_S64x128) (shapeCast S64x128 v shapeCasts_S1x64x128_S64x128)
    (betaV gb h) (gcolV gb h) (growV gb h) (shapeCast S128x128 S shapeCasts_S1x128x128_S128x128)) shapeCasts_S128x128_S1x128x128

end Delta.Body

end
-- ==== Proof.Bridge.lean ====
/- The kernel's body at one grid point: what it stores, piece by piece, is twelve chunks (three of each head), each one
   `Delta.Body.chunkOut`/`chunkLeft` of the rows it loads and of the state the head's chunk before it left. -/
module

public import proofs.«01_k».proof.Proof.Gen.KernelIdeal.Frame
public import proofs.«01_k».proof.Proof.Body
public import Idealize.ShloMosaic.Lib.Tactic

@[expose] public section

set_option maxRecDepth 65536

noncomputable section

namespace Delta.Bridge

open Idealize.ShloMosaic Idealize.ShloMosaic.TcCoe Idealize.SL.Sem Cert.KernelIdeal Cert.KernelIdeal.Gen Delta.Body

variable {F : FTy → Type} [FloatOps F]

/-- Step `n`'s head. -/
abbrev headOf (n : ℕ) : Fin 4 := ⟨n % 4, Nat.mod_lt _ (by decide)⟩

theorem inbS (h : Fin 4) : ∀ a, (![h.val, 0, 0] : Fin 3 → ℕ) a + S1x128x128.size a ≤ S4x128x128.size a := by
  revert h; decide +kernel

theorem inbQ (c : Fin 3) (h : Fin 4) : ∀ a, (![0, 64 * c.val, 128 * h.val] : Fin 3 → ℕ) a + S1x64x128.size a ≤ S1x192x512.size a := by
  revert c h; decide +kernel

theorem inbG (c : Fin 3) : ∀ a, (![0, 64 * c.val, 0] : Fin 3 → ℕ) a + S1x64x128.size a ≤ S1x192x128.size a := by
  revert c; decide +kernel

abbrev rectS (h : Fin 4) : Rect S4x128x128 := Rect.unit (s := S4x128x128) ![h.val, 0, 0] S1x128x128.size (inbS h)
abbrev rectQ (c : Fin 3) (h : Fin 4) : Rect S1x192x512 := Rect.unit (s := S1x192x512) ![0, 64 * c.val, 128 * h.val] S1x64x128.size (inbQ c h)
abbrev rectG (c : Fin 3) : Rect S1x192x128 := Rect.unit (s := S1x192x128) ![0, 64 * c.val, 0] S1x64x128.size (inbG c)

section
variable (q k v : Fin 3 → Fin 4 → Vec F S1x64x128 .f32) (g : Fin 3 → Vec F S1x64x128 .f32)
  (base : List (View.Piece (Elt F) S4x128x128 .f32))
  (rd : ℕ → List (View.Piece (Elt F) S4x128x128 .f32) → Vec F S1x128x128 .f32)

/-- The states stored by the first steps, the last first; `rd n` is how step `n` loads its state. -/
def statePieces : ℕ → List (View.Piece (Elt F) S4x128x128 .f32)
  | 0 => base
  | n + 1 => ⟨rectS (headOf n), chunkLeft (headOf n) (k (Fin.ofNat 3 (n / 4)) (headOf n)) (v (Fin.ofNat 3 (n / 4)) (headOf n)) (g (Fin.ofNat 3 (n / 4)))
      (rd n (statePieces n))⟩ :: statePieces n

/-- The outputs stored by the first steps, the last first. -/
def outPieces : ℕ → List (View.Piece (Elt F) S1x192x512 .f32)
  | 0 => []
  | n + 1 => ⟨rectQ (Fin.ofNat 3 (n / 4)) (headOf n), chunkOut (headOf n) (q (Fin.ofNat 3 (n / 4)) (headOf n)) (k (Fin.ofNat 3 (n / 4)) (headOf n))
      (v (Fin.ofNat 3 (n / 4)) (headOf n)) (g (Fin.ofNat 3 (n / 4))) (rd n (statePieces k v g base rd n))⟩ :: outPieces n

end

section
variable (c : Dev nD) (i : grid0.Coords) (arg2 : Memref sig .tc .vmem S1x192x512 .f32) (harg2 : arg2.IsWhole)
  (arg3 : Memref sig .tc .vmem S1x192x512 .f32) (harg3 : arg3.IsWhole) (arg4 : Memref sig .tc .vmem S1x192x512 .f32) (harg4 : arg4.IsWhole)
  (arg5 : Memref sig .tc .vmem S1x192x128 .f32) (harg5 : arg5.IsWhole) (arg6 : Memref sig .tc .vmem S1x192x512 .f32) (harg6 : arg6.IsWhole)
  (arg7 : Memref sig .tc .vmem S4x128x128 .f32) (harg7 : arg7.IsWhole)
  (x0 x1 x2 : Vec F S1x192x512 .f32) (x3 : Vec F S1x192x128 .f32) (xs0 : Vec F S4x128x128 .f32)

def loadQ (a : Memref sig .tc .vmem S1x192x512 .f32) (ha : a.IsWhole) (x : Vec F S1x192x512 .f32) (cc : Fin 3) (h : Fin 4) : Vec F S1x64x128 .f32 :=
  View.readAt (Elt F) a.view (rectQ cc h).toLoadRect (ha.unread x)

def loadG (a : Memref sig .tc .vmem S1x192x128 .f32) (ha : a.IsWhole) (x : Vec F S1x192x128 .f32) (cc : Fin 3) : Vec F S1x64x128 .f32 :=
  View.readAt (Elt F) a.view (rectG cc).toLoadRect (ha.unread x)

def readA (n : ℕ) (L : List (View.Piece (Elt F) S4x128x128 .f32)) : Vec F S1x128x128 .f32 :=
  arg7.view.readCov L (rectS (headOf n)).toLoadRect

def readB (n : ℕ) (L : List (View.Piece (Elt F) S4x128x128 .f32)) : Vec F S1x128x128 .f32 :=
  bif Nat.blt n 4 then View.readAt (Elt F) arg7.view (rectS (headOf n)).toLoadRect (harg7.unread xs0)
  else arg7.view.readCov L (rectS (headOf n)).toLoadRect

theorem runB_states (hc0 : ¬cond0_0 i) :
    (kernelRun0_B c i arg2 harg2 arg3 harg3 arg4 harg4 arg5 harg5 arg6 harg6 arg7 harg7 hc0 x0 x1 x2 x3 xs0).2.1
      = statePieces (loadQ arg3 harg3 x1) (loadQ arg4 harg4 x2) (loadG arg5 harg5 x3) [] (readB arg7 harg7 xs0) 12 := by
  sl_kernel_rfl

theorem runB_outs (hc0 : ¬cond0_0 i) :
    (kernelRun0_B c i arg2 harg2 arg3 harg3 arg4 harg4 arg5 harg5 arg6 harg6 arg7 harg7 hc0 x0 x1 x2 x3 xs0).1
      = outPieces (loadQ arg2 harg2 x0) (loadQ arg3 harg3 x1) (loadQ arg4 harg4 x2) (loadG arg5 harg5 x3) [] (readB arg7 harg7 xs0) 12 := by
  sl_kernel_rfl

abbrev zeroPiece : View.Piece (Elt F) S4x128x128 .f32 :=
  ⟨Rect.unit (s := S4x128x128) ![0, 0, 0] S4x128x128.size inb_S4x128x128_S4x128x128_0_0_0, k0_pay2⟩

theorem runA_states (hc0 : cond0_0 i) :
    (kernelRun0_A c i arg2 harg2 arg3 harg3 arg4 harg4 arg5 harg5 arg6 harg6 arg7 harg7 hc0 x0 x1 x2 x3).2.1
      = statePieces (loadQ arg3 harg3 x1) (loadQ arg4 harg4 x2) (loadG arg5 harg5 x3) [zeroPiece] (readA arg7) 12 := by
  sl_kernel_rfl

theorem runA_outs (hc0 : cond0_0 i) :
    (kernelRun0_A c i arg2 harg2 arg3 harg3 arg4 harg4 arg5 harg5 arg6 harg6 arg7 harg7 hc0 x0 x1 x2 x3).1
      = outPieces (loadQ arg2 harg2 x0) (loadQ arg3 harg3 x1) (loadQ arg4 harg4 x2) (loadG arg5 harg5 x3) [zeroPiece] (readA arg7) 12 := by
  sl_kernel_rfl

end

end Delta.Bridge

end
-- ==== Proof.Points.lean ====
/- What one grid point leaves in its output block and in the carried states, at an index: the chunk's outputs and the
   states after the chunks so far. -/
module

public import proofs.«01_k».proof.Proof.Bridge
public import Idealize.ShloMosaic.Lib.Pipeline.Value

@[expose] public section

set_option maxRecDepth 65536

noncomputable section

namespace Delta.Bridge

open Idealize.ShloMosaic Idealize.ShloMosaic.TcCoe Idealize.SL.Sem Cert.KernelIdeal Cert.KernelIdeal.Gen Delta.Body

variable {F : FTy → Type} [FloatOps F]

theorem disj_rectS {h h' : Fin 4} (hne : h ≠ h') : Disjoint (rectS h).set (rectS h').set := by
  refine Rect.unit_disjoint (s := S4x128x128) (0 : Fin 3) ?_
  show h.val + 1 ≤ h'.val ∨ h'.val + 1 ≤ h.val
  have := Fin.val_ne_of_ne hne; omega

theorem disj_rectQ {c c' : Fin 3} {h h' : Fin 4} (hne : c ≠ c' ∨ h ≠ h') : Disjoint (rectQ c h).set (rectQ c' h').set := by
  rcases hne with hne | hne
  · refine Rect.unit_disjoint (s := S1x192x512) (1 : Fin 3) ?_
    show 64 * c.val + 64 ≤ 64 * c'.val ∨ 64 * c'.val + 64 ≤ 64 * c.val
    have := Fin.val_ne_of_ne hne; omega
  · refine Rect.unit_disjoint (s := S1x192x512) (2 : Fin 3) ?_
    show 128 * h.val + 128 ≤ 128 * h'.val ∨ 128 * h'.val + 128 ≤ 128 * h.val
    have := Fin.val_ne_of_ne hne; omega

theorem read_hit (a : Memref sig .tc .vmem S4x128x128 .f32) (h : Fin 4) (w : Vec F S1x128x128 .f32) (L : List (View.Piece (Elt F) S4x128x128 .f32)) :
    a.view.readCov ((⟨rectS h, w⟩ : View.Piece (Elt F) S4x128x128 .f32) :: L) (rectS h).toLoadRect = w :=
  View.readCov_cons_toLoadRect a.view (rectS h) w L

theorem read_skip (a : Memref sig .tc .vmem S4x128x128 .f32) {h h' : Fin 4} (hne : h ≠ h') (w : Vec F S1x128x128 .f32)
    (L : List (View.Piece (Elt F) S4x128x128 .f32)) :
    a.view.readCov ((⟨rectS h, w⟩ : View.Piece (Elt F) S4x128x128 .f32) :: L) (rectS h').toLoadRect = a.view.readCov L (rectS h').toLoadRect :=
  View.readCov_cons_of_disjoint a.view ⟨rectS h, w⟩ L (rectS h').toLoadRect (disj_rectS hne)

theorem canon_hit (c : Fin 3) (h : Fin 4) (w : Vec F S1x64x128 .f32) (L : List (View.Piece (Elt F) S1x192x512 .f32)) (j : S1x64x128.Idx) :
    View.canon ((⟨rectQ c h, w⟩ : View.Piece (Elt F) S1x192x512 .f32) :: L) ((rectQ c h).emb j) = w j :=
  View.canon_cons_emb (rectQ c h) w L j

theorem canon_skip {c c' : Fin 3} {h h' : Fin 4} (hne : c ≠ c' ∨ h ≠ h') (w : Vec F S1x64x128 .f32)
    (L : List (View.Piece (Elt F) S1x192x512 .f32)) (j : S1x64x128.Idx) :
    View.canon ((⟨rectQ c h, w⟩ : View.Piece (Elt F) S1x192x512 .f32) :: L) ((rectQ c' h').emb j) = View.canon L ((rectQ c' h').emb j) :=
  View.canon_cons_of_not_mem ⟨rectQ c h, w⟩ L
    (Finset.disjoint_right.mp (disj_rectQ hne) ((rectQ c' h').toLoadRect.idx_mem j))

section
variable (q k v : Fin 3 → Fin 4 → Vec F S1x64x128 .f32) (g : Fin 3 → Vec F S1x64x128 .f32)
  (base : List (View.Piece (Elt F) S4x128x128 .f32))
  (rd : ℕ → List (View.Piece (Elt F) S4x128x128 .f32) → Vec F S1x128x128 .f32)
  (st0 : Fin 4 → Vec F S1x128x128 .f32)

/-- Head `h`'s state after `n` of the point's chunks. -/
def stAfter (h : Fin 4) : ℕ → Vec F S1x128x128 .f32
  | 0 => st0 h
  | n + 1 => chunkLeft h (k (Fin.ofNat 3 n) h) (v (Fin.ofNat 3 n) h) (g (Fin.ofNat 3 n)) (stAfter h n)

variable {k v g base rd st0} (arg7 : Memref sig .tc .vmem S4x128x128 .f32)
  (hlow : ∀ n, n < 4 → rd n (statePieces k v g base rd n) = st0 (headOf n))
  (hhigh : ∀ n L, 4 ≤ n → rd n L = arg7.view.readCov L (rectS (headOf n)).toLoadRect)
include hlow hhigh

theorem read_states (n : ℕ) : (∀ h : Fin 4, h.val < n →
      arg7.view.readCov (statePieces k v g base rd n) (rectS h).toLoadRect = stAfter k v g st0 h ((n + 3 - h.val) / 4)) ∧
    rd n (statePieces k v g base rd n) = stAfter k v g st0 (headOf n) (n / 4) := by
  have key : ∀ n, (∀ h : Fin 4, h.val < n →
      arg7.view.readCov (statePieces k v g base rd n) (rectS h).toLoadRect = stAfter k v g st0 h ((n + 3 - h.val) / 4)) →
      rd n (statePieces k v g base rd n) = stAfter k v g st0 (headOf n) (n / 4) := by
    intro n ih
    by_cases hn : n < 4
    · rw [hlow n hn, Nat.div_eq_of_lt hn]; rfl
    · rw [hhigh n _ (by omega), ih (headOf n) (by show n % 4 < n; omega)]
      congr 1
      show (n + 3 - n % 4) / 4 = n / 4
      omega
  induction n with
  | zero => exact ⟨fun h hh => absurd hh (Nat.not_lt_zero _), key 0 (fun h hh => absurd hh (Nat.not_lt_zero _))⟩
  | succ n ih =>
    have main : ∀ h : Fin 4, h.val < n + 1 →
        arg7.view.readCov (statePieces k v g base rd (n + 1)) (rectS h).toLoadRect = stAfter k v g st0 h ((n + 1 + 3 - h.val) / 4) := by
      intro h hh
      by_cases he : headOf n = h
      · subst he
        unfold statePieces
        refine (read_hit arg7 (headOf n) _ _).trans ?_
        rw [ih.2]
        show stAfter k v g st0 (headOf n) (n / 4 + 1) = _
        congr 1
        show n / 4 + 1 = (n + 1 + 3 - n % 4) / 4
        omega
      · have hv : n % 4 ≠ h.val := fun e => he (Fin.ext e)
        unfold statePieces
        refine (read_skip arg7 he _ _).trans ?_
        have h4 := h.isLt
        rw [ih.1 h (by omega)]
        congr 1
        omega
    exact ⟨main, key (n + 1) main⟩

theorem canon_outs (n : ℕ) (hn : n ≤ 12) (c : Fin 3) (h : Fin 4) (hc : 4 * c.val + h.val < n) (j : S1x64x128.Idx) :
    View.canon (outPieces q k v g base rd n) ((rectQ c h).emb j)
      = chunkOut h (q c h) (k c h) (v c h) (g c) (stAfter k v g st0 h c.val) j := by
  induction n with
  | zero => exact absurd hc (Nat.not_lt_zero _)
  | succ n ih =>
    have hofn : (Fin.ofNat 3 (n / 4)).val = n / 4 := by
      show n / 4 % 3 = n / 4
      exact Nat.mod_eq_of_lt (by omega)
    unfold outPieces
    by_cases he : Fin.ofNat 3 (n / 4) = c ∧ headOf n = h
    · obtain ⟨rfl, rfl⟩ := he
      refine (canon_hit _ _ _ _ j).trans ?_
      rw [(read_states arg7 hlow hhigh n).2]
      rw [hofn]
    · have hne : Fin.ofNat 3 (n / 4) ≠ c ∨ headOf n ≠ h := not_and_or.mp he
      refine (canon_skip hne _ _ j).trans (ih (by omega) ?_)
      have h4 := h.isLt
      rcases hne with hne | hne
      · have : n / 4 ≠ c.val := fun e => hne (Fin.ext (hofn.trans e))
        omega
      · have : n % 4 ≠ h.val := fun e => hne (Fin.ext e)
        omega

end

section
variable (c : Dev nD) (i : grid0.Coords) (arg2 : Memref sig .tc .vmem S1x192x512 .f32) (harg2 : arg2.IsWhole)
  (arg3 : Memref sig .tc .vmem S1x192x512 .f32) (harg3 : arg3.IsWhole) (arg4 : Memref sig .tc .vmem S1x192x512 .f32) (harg4 : arg4.IsWhole)
  (arg5 : Memref sig .tc .vmem S1x192x128 .f32) (harg5 : arg5.IsWhole) (arg6 : Memref sig .tc .vmem S1x192x512 .f32) (harg6 : arg6.IsWhole)
  (arg7 : Memref sig .tc .vmem S4x128x128 .f32) (harg7 : arg7.IsWhole)
  (x0 x1 x2 : Vec F S1x192x512 .f32) (x3 : Vec F S1x192x128 .f32) (xs0 : Vec F S4x128x128 .f32)

/-- A chunk's rows of one head, its gates' rows, and one head's state, of the blocks. -/
def rowsQ (x : Vec F S1x192x512 .f32) (cc : Fin 3) (h : Fin 4) : Vec F S1x64x128 .f32 := fun j => x ((rectQ cc h).emb j)
def rowsG (x : Vec F S1x192x128 .f32) (cc : Fin 3) : Vec F S1x64x128 .f32 := fun j => x ((rectG cc).emb j)
def headS (x : Vec F S4x128x128 .f32) (h : Fin 4) : Vec F S1x128x128 .f32 := fun j => x ((rectS h).emb j)

theorem loadQ_eq : loadQ (F := F) arg2 harg2 x0 = rowsQ x0 := by
  funext cc h
  unfold loadQ
  rw [View.readAt_eq_ld, harg2.read_unread]
  rfl

theorem loadG_eq : loadG (F := F) arg5 harg5 x3 = rowsG x3 := by
  funext cc
  unfold loadG
  rw [View.readAt_eq_ld, harg5.read_unread]
  rfl

theorem lowB (k v : Fin 3 → Fin 4 → Vec F S1x64x128 .f32) (g : Fin 3 → Vec F S1x64x128 .f32) (n : ℕ) (hn : n < 4) :
    readB arg7 harg7 xs0 n (statePieces k v g [] (readB arg7 harg7 xs0) n) = headS xs0 (headOf n) := by
  have e : Nat.blt n 4 = true := Nat.ble_eq_true_of_le hn
  show (bif Nat.blt n 4 then View.readAt (Elt F) arg7.view (rectS (headOf n)).toLoadRect (harg7.unread xs0) else _) = _
  rw [e, cond_true, View.readAt_eq_ld, harg7.read_unread]
  rfl

theorem highB (n : ℕ) (L : List (View.Piece (Elt F) S4x128x128 .f32)) (hn : 4 ≤ n) :
    readB arg7 harg7 xs0 n L = arg7.view.readCov L (rectS (headOf n)).toLoadRect := by
  have e : Nat.blt n 4 = false := Bool.eq_false_iff.mpr fun e => absurd (Nat.le_of_ble_eq_true e) (by omega)
  unfold readB
  rw [e, cond_false]

theorem lowA_base (k v : Fin 3 → Fin 4 → Vec F S1x64x128 .f32) (g : Fin 3 → Vec F S1x64x128 .f32)
    (rd : ℕ → List (View.Piece (Elt F) S4x128x128 .f32) → Vec F S1x128x128 .f32) (n : ℕ) (hn : n ≤ 4) (h : Fin 4) (hh : n ≤ h.val) :
    arg7.view.readCov (statePieces k v g [zeroPiece] rd n) (rectS h).toLoadRect = headS k0_pay2 h := by
  induction n with
  | zero =>
    rw [View.readCov_eq_canon']
    unfold statePieces
    rw [View.canon_cons_unit_zero (S := S4x128x128) (by decide)]
    rfl
  | succ n ih =>
    unfold statePieces
    have hne : headOf n ≠ h := fun e => by
      have : n % 4 = h.val := congrArg Fin.val e
      omega
    exact (read_skip arg7 hne _ _).trans (ih (by omega) (by omega))

theorem lowA_read (k v : Fin 3 → Fin 4 → Vec F S1x64x128 .f32) (g : Fin 3 → Vec F S1x64x128 .f32) (n : ℕ) (hn : n < 4) :
    readA arg7 n (statePieces k v g [zeroPiece] (readA arg7) n) = headS k0_pay2 (headOf n) :=
  lowA_base arg7 k v g _ n (by omega) (headOf n) (by show n ≤ n % 4; omega)

/-- The states after `n` chunks of the point. -/
abbrev stateAt (h : Fin 4) (n : ℕ) : Vec F S1x128x128 .f32 := stAfter (rowsQ x1) (rowsQ x2) (rowsG x3) (headS xs0) h n

theorem out_B (hc0 : ¬cond0_0 i) (cc : Fin 3) (h : Fin 4) (j : S1x64x128.Idx) :
    out0_B_4 c i arg2 harg2 arg3 harg3 arg4 harg4 arg5 harg5 arg6 harg6 arg7 harg7 hc0 x0 x1 x2 x3 xs0 ((rectQ cc h).emb j)
      = chunkOut h (rowsQ x0 cc h) (rowsQ x1 cc h) (rowsQ x2 cc h) (rowsG x3 cc) (stateAt x1 x2 x3 xs0 h cc.val) j := by
  unfold out0_B_4
  rw [View.read_writes_junk_apply_eq_canon, runB_outs]
  have := canon_outs (loadQ arg2 harg2 x0) arg7 (lowB arg7 harg7 xs0 (loadQ arg3 harg3 x1) (loadQ arg4 harg4 x2) (loadG arg5 harg5 x3))
    (highB arg7 harg7 xs0) 12 le_rfl cc h (by have := cc.isLt; have := h.isLt; omega) j
  rw [this]
  simp only [loadQ_eq, loadG_eq]

theorem out_A (hc0 : cond0_0 i) (cc : Fin 3) (h : Fin 4) (j : S1x64x128.Idx) :
    out0_A_4 c i arg2 harg2 arg3 harg3 arg4 harg4 arg5 harg5 arg6 harg6 arg7 harg7 hc0 x0 x1 x2 x3 ((rectQ cc h).emb j)
      = chunkOut h (rowsQ x0 cc h) (rowsQ x1 cc h) (rowsQ x2 cc h) (rowsG x3 cc) (stateAt x1 x2 x3 k0_pay2 h cc.val) j := by
  unfold out0_A_4
  rw [View.read_writes_junk_apply_eq_canon, runA_outs]
  have := canon_outs (loadQ arg2 harg2 x0) arg7 (lowA_read arg7 (loadQ arg3 harg3 x1) (loadQ arg4 harg4 x2) (loadG arg5 harg5 x3))
    (fun n L _ => rfl) 12 le_rfl cc h (by have := cc.isLt; have := h.isLt; omega) j
  rw [this]
  simp only [loadQ_eq, loadG_eq]

theorem state_B (hc0 : ¬cond0_0 i) (h : Fin 4) (j : S1x128x128.Idx) :
    sout0_B_0 c i arg2 harg2 arg3 harg3 arg4 harg4 arg5 harg5 arg6 harg6 arg7 harg7 hc0 x0 x1 x2 x3 xs0 ((rectS h).emb j)
      = stateAt x1 x2 x3 xs0 h 3 j := by
  unfold sout0_B_0
  rw [View.read_writes_junk_apply_eq_canon, runB_states]
  have := (read_states arg7 (lowB arg7 harg7 xs0 (loadQ arg3 harg3 x1) (loadQ arg4 harg4 x2) (loadG arg5 harg5 x3))
    (highB arg7 harg7 xs0) 12).1 h (by have := h.isLt; omega)
  rw [View.readCov_eq_canon'] at this
  refine (congrFun this j).trans ?_
  simp only [loadQ_eq, loadG_eq]
  rw [show (12 + 3 - h.val) / 4 = 3 by have := h.isLt; omega]

theorem state_A (hc0 : cond0_0 i) (h : Fin 4) (j : S1x128x128.Idx) :
    sout0_A_0 c i arg2 harg2 arg3 harg3 arg4 harg4 arg5 harg5 arg6 harg6 arg7 harg7 hc0 x0 x1 x2 x3 ((rectS h).emb j)
      = stateAt x1 x2 x3 k0_pay2 h 3 j := by
  unfold sout0_A_0
  rw [View.read_writes_junk_apply_eq_canon, runA_states]
  have := (read_states arg7 (lowA_read arg7 (loadQ arg3 harg3 x1) (loadQ arg4 harg4 x2) (loadG arg5 harg5 x3))
    (fun n L _ => rfl) 12).1 h (by have := h.isLt; omega)
  rw [View.readCov_eq_canon'] at this
  refine (congrFun this j).trans ?_
  simp only [loadQ_eq, loadG_eq]
  rw [show (12 + 3 - h.val) / 4 = 3 by have := h.isLt; omega]

end

end Delta.Bridge

end
-- ==== Proof.Inverse.lean ====
/- The inverse of a unit lower triangular matrix, block by block: from the inverse over blocks of `2 ^ l` rows to the
   inverse over blocks of `2 ^ (l + 1)` rows in one step. Real numbers only. -/
module

public import Mathlib.Data.Matrix.Mul
public import Mathlib.Data.Real.Basic
public import Mathlib.Tactic.Ring
public import Mathlib.Tactic.Abel
public import Mathlib.Tactic.Linarith

@[expose] public section

noncomputable section

namespace Delta

open Matrix

variable {n : ℕ}

/-- One level: the row's block of `2 ^ (l + 1)` is the column's, the row is in its second half, the column in its first. -/
def Half (l : ℕ) (t s : Fin n) : Prop :=
  t.val / 2 ^ (l + 1) = s.val / 2 ^ (l + 1) ∧ t.val / 2 ^ l % 2 = 1 ∧ s.val / 2 ^ l % 2 = 0

instance (l : ℕ) (t s : Fin n) : Decidable (Half l t s) := by unfold Half; infer_instance

/-- The part of `A` that level `l` treats. -/
def half (l : ℕ) (A : Matrix (Fin n) (Fin n) ℝ) : Matrix (Fin n) (Fin n) ℝ :=
  fun t s => if Half l t s then A t s else 0

/-- The part of `A` inside blocks of `2 ^ l` rows. -/
def inside (l : ℕ) (A : Matrix (Fin n) (Fin n) ℝ) : Matrix (Fin n) (Fin n) ℝ :=
  fun t s => if t.val / 2 ^ l = s.val / 2 ^ l then A t s else 0

/-- The inverse over blocks of `2 ^ l` rows, as the levels build it. -/
def inv (A : Matrix (Fin n) (Fin n) ℝ) : ℕ → Matrix (Fin n) (Fin n) ℝ
  | 0 => 1
  | l + 1 => inv A l - inv A l * (half l A * inv A l)

theorem block_up {t s l : ℕ} (h : t / 2 ^ l = s / 2 ^ l) : t / 2 ^ (l + 1) = s / 2 ^ (l + 1) := by
  rw [pow_succ, ← Nat.div_div_eq_div_mul, ← Nat.div_div_eq_div_mul, h]

/-- The inverse over blocks has no entry between two blocks. -/
theorem inv_block (A : Matrix (Fin n) (Fin n) ℝ) (l : ℕ) :
    ∀ t s : Fin n, t.val / 2 ^ l ≠ s.val / 2 ^ l → inv A l t s = 0 := by
  induction l with
  | zero =>
    intro t s h
    have : t ≠ s := fun e => h (by rw [e])
    simp [inv, this]
  | succ l ih =>
    intro t s h
    have h0 : inv A l t s = 0 := ih t s fun e => h (block_up e)
    simp only [inv, sub_apply, h0, zero_sub, neg_eq_zero, mul_apply]
    refine Finset.sum_eq_zero fun a _ => ?_
    by_cases ha : t.val / 2 ^ l = a.val / 2 ^ l
    · refine mul_eq_zero_of_right _ (Finset.sum_eq_zero fun b _ => ?_)
      by_cases hb : b.val / 2 ^ l = s.val / 2 ^ l
      · by_cases hm : Half l a b
        · exact absurd ((block_up ha).trans (hm.1.trans (block_up hb))) h
        · simp [half, hm]
      · simp [ih b s hb]
    · simp [ih t a ha]

/-- Two blocks of one level in a row meet nothing: the first ends in a first half, the second begins in a second half. -/
theorem half_inv_half (A : Matrix (Fin n) (Fin n) ℝ) (l : ℕ) : half l A * (inv A l * half l A) = 0 := by
  ext t s
  simp only [mul_apply, zero_apply]
  refine Finset.sum_eq_zero fun a _ => ?_
  by_cases ha : Half l t a
  · refine mul_eq_zero_of_right _ (Finset.sum_eq_zero fun b _ => ?_)
    by_cases hb : Half l b s
    · have : a.val / 2 ^ l ≠ b.val / 2 ^ l := fun e => by
        have h1 := ha.2.2; have h2 := hb.2.1; rw [e] at h1; omega
      simp [inv_block A l a b this]
    · simp [half, hb]
  · simp [half, ha]

/-- A strictly lower triangular matrix inside the larger blocks: its part inside the smaller ones, and the level's part. -/
theorem inside_succ (A : Matrix (Fin n) (Fin n) ℝ) (hA : ∀ t s : Fin n, t.val ≤ s.val → A t s = 0) (l : ℕ) :
    inside (l + 1) A = inside l A + half l A := by
  ext t s
  simp only [inside, half, add_apply]
  by_cases hts : t.val ≤ s.val
  · simp [hA t s hts]
  have hle : s.val / 2 ^ l ≤ t.val / 2 ^ l := Nat.div_le_div_right (by omega)
  by_cases h : t.val / 2 ^ l = s.val / 2 ^ l
  · have hm : ¬Half l t s := fun hm => by have h1 := hm.2.1; have h2 := hm.2.2; rw [h] at h1; omega
    simp [h, hm, block_up h]
  · by_cases h' : t.val / 2 ^ (l + 1) = s.val / 2 ^ (l + 1)
    · have hm : Half l t s := by
        have h2 := h'
        rw [pow_succ, ← Nat.div_div_eq_div_mul, ← Nat.div_div_eq_div_mul] at h2
        exact ⟨h', by omega, by omega⟩
      simp [h, h', hm]
    · have hm : ¬Half l t s := fun hm => h' hm.1
      simp [h, h', hm]

/-- The levels invert: over blocks of `2 ^ l` rows. -/
theorem inv_mul (A : Matrix (Fin n) (Fin n) ℝ) (hA : ∀ t s : Fin n, t.val ≤ s.val → A t s = 0) (l : ℕ) :
    inv A l * (1 + inside l A) = 1 := by
  induction l with
  | zero =>
    have : inside 0 A = 0 := by
      ext t s
      simp only [inside, pow_zero, Nat.div_one, zero_apply, ite_eq_right_iff]
      exact fun h => hA t s (le_of_eq h)
    simp [this, inv]
  | succ l ih =>
    rw [inside_succ A hA, ← add_assoc, mul_add, inv, sub_mul, sub_mul, ih]
    have e1 : inv A l * (half l A * inv A l) * (1 + inside l A) = inv A l * half l A := by
      rw [mul_assoc, mul_assoc, ih, mul_one]
    have e2 : inv A l * (half l A * inv A l) * half l A = 0 := by
      rw [mul_assoc, mul_assoc, half_inv_half, mul_zero]
    rw [e1, e2]; abel

/-- After the last level: `inv` is a left inverse of `1 + A`. -/
theorem inv_mul_last (A : Matrix (Fin n) (Fin n) ℝ) (hA : ∀ t s : Fin n, t.val ≤ s.val → A t s = 0) (l : ℕ) (hl : n ≤ 2 ^ l) :
    inv A l * (1 + A) = 1 := by
  have : inside l A = A := by
    ext t s
    have ht : t.val / 2 ^ l = 0 := Nat.div_eq_of_lt (by omega)
    have hs : s.val / 2 ^ l = 0 := Nat.div_eq_of_lt (by omega)
    simp [inside, ht, hs]
  have h := inv_mul A hA l
  rwa [this] at h

end Delta

end
-- ==== Proof.Recurrence.lean ====
/- The gated delta recurrence, a token at a time, and a chunk of its tokens at once. Real numbers only. -/
module

public import proofs.«01_k».proof.Proof.Inverse
public import Mathlib.Analysis.SpecialFunctions.Exp

@[expose] public section

noncomputable section

namespace Delta

open Matrix

variable {D E : Type} [Fintype D] [Fintype E]

/-- One token: the state decays, forgets what it holds along the key, and takes in the value there. -/
def tok (S : D → E → ℝ) (k : D → ℝ) (v : E → ℝ) (g b : ℝ) : D → E → ℝ :=
  fun d e => Real.exp g * (S d e - b * k d * ∑ d', k d' * S d' e) + b * k d * v e

/-- The state after `t` tokens, from `S`. -/
def st (S : D → E → ℝ) (k : ℕ → D → ℝ) (v : ℕ → E → ℝ) (g b : ℕ → ℝ) : ℕ → D → E → ℝ
  | 0 => S
  | t + 1 => tok (st S k v g b t) (k t) (v t) (g t) (b t)

/-- What token `t` writes along its key. -/
def fresh (S : D → E → ℝ) (k : ℕ → D → ℝ) (v : ℕ → E → ℝ) (g b : ℕ → ℝ) (t : ℕ) (e : E) : ℝ :=
  b t * (v t e - Real.exp (g t) * ∑ d, k t d * st S k v g b t d e)

section
variable (S : D → E → ℝ) (k : ℕ → D → ℝ) (v : ℕ → E → ℝ) (g b : ℕ → ℝ)

theorem st_succ (t : ℕ) (d : D) (e : E) :
    st S k v g b (t + 1) d e = Real.exp (g t) * st S k v g b t d e + k t d * fresh S k v g b t e := by
  simp only [st, tok, fresh]; ring

/-- The tokens after the first `T`: the recurrence from the state that those left. -/
theorem st_add (T t : ℕ) : st S k v g b (T + t)
    = st (st S k v g b T) (fun s => k (T + s)) (fun s => v (T + s)) (fun s => g (T + s)) (fun s => b (T + s)) t := by
  induction t with
  | zero => rfl
  | succ t ih => rw [← Nat.add_assoc, st, ih]; rfl

/-- The state, unrolled: the first state decayed, and every token's writing decayed since. -/
theorem st_eq (t : ℕ) (d : D) (e : E) :
    st S k v g b t d e = Real.exp (∑ s ∈ Finset.range t, g s) * S d e
      + ∑ s ∈ Finset.range t, Real.exp (∑ r ∈ Finset.range t, g r - ∑ r ∈ Finset.range (s + 1), g r) * (k s d * fresh S k v g b s e) := by
  induction t with
  | zero => simp [st]
  | succ t ih =>
    rw [st_succ, ih, Finset.sum_range_succ (fun s => Real.exp _ * _) t, mul_add, Finset.mul_sum]
    have e1 : Real.exp (g t) * (Real.exp (∑ s ∈ Finset.range t, g s) * S d e)
        = Real.exp (∑ s ∈ Finset.range (t + 1), g s) * S d e := by
      rw [Finset.sum_range_succ, Real.exp_add]; ring
    have e2 : ∀ s ∈ Finset.range t, Real.exp (g t) * (Real.exp (∑ r ∈ Finset.range t, g r - ∑ r ∈ Finset.range (s + 1), g r) * (k s d * fresh S k v g b s e))
        = Real.exp (∑ r ∈ Finset.range (t + 1), g r - ∑ r ∈ Finset.range (s + 1), g r) * (k s d * fresh S k v g b s e) := by
      intro s _
      rw [← mul_assoc, ← Real.exp_add, Finset.sum_range_succ g t]
      congr 2; ring
    rw [e1, Finset.sum_congr rfl e2, sub_self, Real.exp_zero, one_mul, add_assoc]

end

/-! ### A chunk -/

section chunk
variable {n : ℕ} (q k : Fin n → D → ℝ) (v : Fin n → E → ℝ) (G b : Fin n → ℝ) (S : D → E → ℝ)

/-- The decay from row `s` to row `t`, where `s` is not after `t`. -/
def decay (t s : Fin n) : ℝ := if s.val ≤ t.val then Real.exp (if s.val ≤ t.val then G t - G s else 0) else 0

/-- The chunk's strictly lower triangular matrix. -/
def lowA : Matrix (Fin n) (Fin n) ℝ :=
  fun t s => if s.val < t.val then (∑ d, k t d * b t * k s d) * decay G t s else 0

/-- The keys, weighted and decayed, through an inverse `X`. -/
def rowW (X : Matrix (Fin n) (Fin n) ℝ) (t : Fin n) (d : D) : ℝ := ∑ s, X t s * (k s d * b s * Real.exp (G s))

/-- The values, weighted, through an inverse `X`. -/
def rowU (X : Matrix (Fin n) (Fin n) ℝ) (t : Fin n) (e : E) : ℝ := ∑ s, X t s * (v s e * b s)

/-- The chunk's writings. -/
def vnew (X : Matrix (Fin n) (Fin n) ℝ) (t : Fin n) (e : E) : ℝ :=
  rowU v b X t e - ∑ d, rowW k G b X t d * S d e

/-- The queries against the keys. -/
def attn (t s : Fin n) : ℝ := if s.val ≤ t.val then (∑ d, q t d * k s d) * decay G t s else 0

/-- The chunk's outputs. -/
def outs (X : Matrix (Fin n) (Fin n) ℝ) (t : Fin n) (e : E) : ℝ :=
  (∑ d, q t d * Real.exp (G t) * S d e) + ∑ s, attn q k G t s * vnew k v G b S X s e

/-- The state that the chunk leaves; `L` is the chunk's whole log-decay. -/
def left (L : ℝ) (X : Matrix (Fin n) (Fin n) ℝ) (d : D) (e : E) : ℝ :=
  S d e * Real.exp L + ∑ s, k s d * Real.exp (L - G s) * vnew k v G b S X s e

end chunk

section
variable {n : ℕ} (S : D → E → ℝ) (q k : ℕ → D → ℝ) (v : ℕ → E → ℝ) (g b : ℕ → ℝ) (G : Fin n → ℝ)
  (hG : ∀ t : Fin n, G t = ∑ s ∈ Finset.range (t.val + 1), g s)
include hG

theorem decay_eq {t s : Fin n} (h : s.val ≤ t.val) : decay G t s = Real.exp (G t - G s) := by simp [decay, h]

/-- A sum over the rows before row `t` (or up to it), as a sum of masked rows. -/
theorem sum_rows (f : ℕ → ℝ) (t : ℕ) (ht : t ≤ n) :
    ∑ s ∈ Finset.range t, f s = ∑ s : Fin n, if s.val < t then f s.val else 0 := by
  rw [Finset.sum_fin_eq_sum_range, ← Finset.sum_subset (Finset.range_subset_range.mpr ht)]
  · refine Finset.sum_congr rfl fun s hs => ?_
    have h1 := Finset.mem_range.mp hs
    have h2 : s < n := by omega
    simp [h1, h2]
  · intro s hs hs'
    have h1 := Finset.mem_range.mp hs
    have h2 : ¬s < t := fun h => hs' (Finset.mem_range.mpr h)
    simp [h1, h2]

/-- The chunk's writings solve its triangular system. -/
theorem fresh_system (t : Fin n) (e : E) :
    fresh S k v g b t.val e + ∑ s : Fin n, lowA (fun s : Fin n => k s.val) G (fun s => b s.val) t s * fresh S k v g b s.val e
      = v t.val e * b t.val - ∑ d, k t.val d * b t.val * Real.exp (G t) * S d e := by
  have hd : ∀ d, Real.exp (g t.val) * st S k v g b t.val d e = Real.exp (G t) * S d e
      + ∑ s : Fin n, if s.val < t.val then Real.exp (G t - G s) * (k s.val d * fresh S k v g b s.val e) else 0 := by
    intro d
    rw [st_eq, mul_add, ← mul_assoc, ← Real.exp_add, hG t, Finset.sum_range_succ, add_comm (g t.val)]
    congr 1
    rw [Finset.mul_sum, sum_rows (n := n) g G hG _ t.val (le_of_lt t.isLt)]
    refine Finset.sum_congr rfl fun s _ => ?_
    split_ifs
    · rw [← mul_assoc, ← Real.exp_add, hG s]; congr 2; ring
    · rfl
  have h1 : fresh S k v g b t.val e = b t.val * (v t.val e - ∑ d, k t.val d * (Real.exp (g t.val) * st S k v g b t.val d e)) := by
    unfold fresh
    rw [Finset.mul_sum]
    congr 2
    exact Finset.sum_congr rfl fun d _ => by ring
  have h2 : ∑ d, k t.val d * (Real.exp (g t.val) * st S k v g b t.val d e)
      = (∑ d, k t.val d * (Real.exp (G t) * S d e))
        + ∑ s : Fin n, if s.val < t.val then (∑ d, k t.val d * k s.val d) * Real.exp (G t - G s) * fresh S k v g b s.val e else 0 := by
    simp only [hd, mul_add, Finset.sum_add_distrib]
    congr 1
    simp only [Finset.mul_sum]
    rw [Finset.sum_comm]
    refine Finset.sum_congr rfl fun s _ => ?_
    split_ifs
    · rw [Finset.sum_mul, Finset.sum_mul]; exact Finset.sum_congr rfl fun d _ => by ring
    · simp
  have h3 : ∑ s : Fin n, lowA (fun s : Fin n => k s.val) G (fun s => b s.val) t s * fresh S k v g b s.val e
      = b t.val * ∑ s : Fin n, if s.val < t.val then (∑ d, k t.val d * k s.val d) * Real.exp (G t - G s) * fresh S k v g b s.val e else 0 := by
    rw [Finset.mul_sum]
    refine Finset.sum_congr rfl fun s _ => ?_
    unfold lowA
    split_ifs with h
    · rw [decay_eq g G hG (le_of_lt h)]
      have : ∑ d, k t.val d * b t.val * k s.val d = b t.val * ∑ d, k t.val d * k s.val d := by
        rw [Finset.mul_sum]; exact Finset.sum_congr rfl fun d _ => by ring
      rw [this]; ring
    · simp
  have h4 : ∑ d, k t.val d * b t.val * Real.exp (G t) * S d e = b t.val * ∑ d, k t.val d * (Real.exp (G t) * S d e) := by
    rw [Finset.mul_sum]; exact Finset.sum_congr rfl fun d _ => by ring
  rw [h3, h4, h1, h2]; ring

/-- The chunk's writings by a left inverse of its matrix. -/
theorem vnew_eq (X : Matrix (Fin n) (Fin n) ℝ)
    (hX : X * (1 + lowA (fun s : Fin n => k s.val) G (fun s => b s.val)) = 1) (t : Fin n) (e : E) :
    vnew (fun s : Fin n => k s.val) (fun s => v s.val) G (fun s => b s.val) S X t e = fresh S k v g b t.val e := by
  have h : (fun s : Fin n => fresh S k v g b s.val e) = X *ᵥ ((1 + lowA (fun s : Fin n => k s.val) G (fun s => b s.val)) *ᵥ fun s => fresh S k v g b s.val e) := by
    rw [mulVec_mulVec, hX, one_mulVec]
  have h' := congrFun h t
  rw [h']
  have hs : ∀ s : Fin n, ((1 + lowA (fun s : Fin n => k s.val) G (fun s => b s.val)) *ᵥ fun s => fresh S k v g b s.val e) s
      = v s.val e * b s.val - ∑ d, k s.val d * b s.val * Real.exp (G s) * S d e := by
    intro s
    rw [add_mulVec, one_mulVec, ← fresh_system S k v g b G hG s e]
    rfl
  simp only [mulVec, dotProduct] at hs ⊢
  simp only [hs, mul_sub, Finset.sum_sub_distrib]
  unfold vnew rowU rowW
  congr 1
  simp only [Finset.sum_mul, Finset.mul_sum]
  rw [Finset.sum_comm]
  exact Finset.sum_congr rfl fun s _ => Finset.sum_congr rfl fun d _ => by ring

/-- A chunk's outputs are the recurrence's. -/
theorem outs_eq (X : Matrix (Fin n) (Fin n) ℝ)
    (hX : X * (1 + lowA (fun s : Fin n => k s.val) G (fun s => b s.val)) = 1) (t : Fin n) (e : E) :
    outs (fun s : Fin n => q s.val) (fun s : Fin n => k s.val) (fun s => v s.val) G (fun s => b s.val) S X t e
      = ∑ d, q t.val d * st S k v g b (t.val + 1) d e := by
  unfold outs
  simp only [vnew_eq S k v g b G hG X hX, st_eq, mul_add, Finset.sum_add_distrib, ← hG t]
  congr 1
  · exact Finset.sum_congr rfl fun d _ => by ring
  · simp only [sum_rows (n := n) g G hG _ (t.val + 1) t.isLt, Finset.mul_sum]
    rw [Finset.sum_comm]
    refine Finset.sum_congr rfl fun s _ => ?_
    unfold attn
    by_cases h : s.val ≤ t.val
    · have h' : s.val < t.val + 1 := by omega
      simp only [h, h', if_true, decay_eq g G hG h, ← hG s, Finset.sum_mul]
      exact Finset.sum_congr rfl fun d _ => by ring
    · have h' : ¬s.val < t.val + 1 := by omega
      simp [h, h']

/-- The state that a chunk leaves is the recurrence's after the chunk's tokens. -/
theorem left_eq (X : Matrix (Fin n) (Fin n) ℝ)
    (hX : X * (1 + lowA (fun s : Fin n => k s.val) G (fun s => b s.val)) = 1) (L : ℝ) (hL : L = ∑ s ∈ Finset.range n, g s) (d : D) (e : E) :
    left (fun s : Fin n => k s.val) (fun s => v s.val) G (fun s => b s.val) S L X d e = st S k v g b n d e := by
  unfold left
  simp only [vnew_eq S k v g b G hG X hX]
  rw [st_eq, ← hL, sum_rows (n := n) g G hG _ n le_rfl]
  congr 1
  · ring
  · refine Finset.sum_congr rfl fun s _ => ?_
    rw [if_pos s.isLt, hG s]; ring

end

end Delta

end
-- ==== Proof.Eval.lean ====
/- One chunk of one head over the extended reals, on finite inputs: the kernel's operations are the real formulas. -/
module

public import proofs.«01_k».proof.Proof.Body
public import proofs.«01_k».proof.Proof.Recurrence
public import proofs.«01_k».proof.Proof.Inverse
public import Idealize.ShloMosaic.Lib.Pointwise
public import Idealize.ShloMosaic.Lib.ValueIdx

@[expose] public section

set_option backward.proofsInPublic true
set_option maxRecDepth 65536

noncomputable section

namespace Delta.Body

open Idealize.ShloMosaic Idealize.ShloMosaic.TcCoe Idealize.SL.Sem Cert.KernelIdeal Cert.KernelIdeal.Gen

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The masks -/

theorem mask_le (r s : Fin 64) : (k0_pay3 (ix2 r s) : BitVec 1) = if s.val ≤ r.val then 1#1 else 0#1 := by
  pointwise [k0_pay3]
  revert r s; decide +kernel

theorem mask_lt (r s : Fin 64) : (k0_pay4 (ix2 r s) : BitVec 1) = if s.val < r.val then 1#1 else 0#1 := by
  pointwise [k0_pay4]
  revert r s; decide +kernel

theorem mask_level (l : Fin 6) (r s : Fin 64) :
    (levelMask (BitVec.ofNat 32 l.val) (BitVec.ofNat 32 l.val + 1#32) (ix2 r s) : BitVec 1) = if Half l.val r s then 1#1 else 0#1 := by
  pointwise [levelMask, rowI, colI]
  revert l r s; decide +kernel

theorem sitofp_bit (b : BitVec 1) : (FloatOps.sitofp (F := Ideal) .f32 (BitVec.setWidth 32 b) : EReal) = if b = 1#1 then 1 else 0 := by
  rcases (show b = 0#1 ∨ b = 1#1 by revert b; decide) with rfl | rfl
  · show (((0 : ℤ) : ℝ) : EReal) = _
    simp
  · show (((1 : ℤ) : ℝ) : EReal) = _
    simp

theorem eq_bit {n : ℕ} (hn : n ≤ 2 ^ 32) (a b : ℕ) (ha : a < n) (hb : b < n) :
    IntOp.cmpi CmpIPredicate.eq (BitVec.ofNat 32 a) (BitVec.ofNat 32 b) = 1#1 ↔ a = b := by
  constructor
  · intro e
    by_contra hne
    have : (BitVec.ofNat 32 a == BitVec.ofNat 32 b) = false := by
      rw [beq_eq_false_iff_ne]
      intro e'
      have := congrArg BitVec.toNat e'
      rw [BitVec.toNat_ofNat, BitVec.toNat_ofNat, Nat.mod_eq_of_lt (by omega), Nat.mod_eq_of_lt (by omega)] at this
      exact hne this
    simp [IntOp.cmpi, this] at e
  · rintro rfl
    simp [IntOp.cmpi]

theorem eye (r s : Fin 64) : k0_pay5 (F := Ideal) (ix2 r s) = (((1 : Matrix (Fin 64) (Fin 64) ℝ) r s : ℝ) : EReal) := by
  pointwise [k0_pay5]
  rw [sitofp_bit, Matrix.one_apply]
  simp only [eq_bit (n := 64) (by norm_num) _ _ r.isLt s.isLt, Fin.ext_iff]
  split <;> simp

theorem tri (r s : Fin 64) : k0_pay6 (F := Ideal) (ix2 r s) = if s.val ≤ r.val then 1 else 0 := by
  pointwise [k0_pay6]
  rw [sitofp_bit, mask_le]
  split <;> simp

theorem pick (r : Fin 8) (s : Fin 128) : k0_pay7 (F := Ideal) (ix2 r s) = if s.val = r.val then 1 else 0 := by
  pointwise [k0_pay7]
  rw [sitofp_bit]
  simp only [eq_bit (n := 128) (by norm_num) r.val s.val (by omega) s.isLt, eq_comm]

/-! ## Products of real matrices -/

theorem mm64_real {x y : FVec Ideal S64x64 .f32} {f g : Matrix (Fin 64) (Fin 64) ℝ}
    (hx : ∀ r s, x (ix2 r s) = (f r s : EReal)) (hy : ∀ r s, y (ix2 r s) = (g r s : EReal)) (r s : Fin 64) :
    mm64 x y (ix2 r s) = (((f * g) r s : ℝ) : EReal) := by
  pointwise [mm64, hx, hy]
  simp only [Matrix.mul_apply, coe_sum, EReal.coe_mul]

theorem through_real {x : FVec Ideal S64x64 .f32} {y : FVec Ideal S64x128 .f32} {f : Fin 64 → Fin 64 → ℝ} {g : Fin 64 → Fin 128 → ℝ}
    (hx : ∀ r s, x (ix2 r s) = (f r s : EReal)) (hy : ∀ r s, y (ix2 r s) = (g r s : EReal)) (r : Fin 64) (s : Fin 128) :
    through x y (ix2 r s) = ((∑ j, f r j * g j s : ℝ) : EReal) := by
  pointwise [through, hx, hy]
  simp only [coe_sum, EReal.coe_mul]

theorem throughS_real {x : FVec Ideal S64x128 .f32} {y : FVec Ideal S128x128 .f32} {f : Fin 64 → Fin 128 → ℝ} {g : Fin 128 → Fin 128 → ℝ}
    (hx : ∀ r s, x (ix2 r s) = (f r s : EReal)) (hy : ∀ r s, y (ix2 r s) = (g r s : EReal)) (r : Fin 64) (s : Fin 128) :
    throughS y x (ix2 r s) = ((∑ j, f r j * g j s : ℝ) : EReal) := by
  pointwise [throughS, hx, hy]
  simp only [coe_sum, EReal.coe_mul]

/-- One level of the inverse on a real matrix. -/
theorem levelV_real {a x : FVec Ideal S64x64 .f32} {A X : Matrix (Fin 64) (Fin 64) ℝ} (l : Fin 6)
    (ha : ∀ r s, a (ix2 r s) = (A r s : EReal)) (hx : ∀ r s, x (ix2 r s) = (X r s : EReal)) (r s : Fin 64) :
    levelV a x (BitVec.ofNat 32 l.val) (ix2 r s) = (((X - X * (half l.val A * X)) r s : ℝ) : EReal) := by
  have hh : ∀ r s : Fin 64, (select (levelMask (BitVec.ofNat 32 l.val) (BitVec.ofNat 32 l.val + 1#32)) a zero64 : FVec Ideal S64x64 .f32) (ix2 r s)
      = (half l.val A r s : EReal) := by
    intro r s
    pointwise [mask_level, ha, zero64]
    unfold half
    split <;> simp [Scalar.select]
  have := mm64_real hx (mm64_real hh hx) r s
  pointwise [levelV, hx]
  rw [this, Matrix.sub_apply, EReal.coe_sub]

theorem invV_real {a : FVec Ideal S64x64 .f32} {A : Matrix (Fin 64) (Fin 64) ℝ}
    (ha : ∀ r s, a (ix2 r s) = (A r s : EReal)) (r s : Fin 64) : invV a (ix2 r s) = ((inv A 6 r s : ℝ) : EReal) := by
  have h0 := fun r s => levelV_real (X := inv A 0) 0 ha eye r s
  have h1 := fun r s => levelV_real (X := inv A 1) 1 ha h0 r s
  have h2 := fun r s => levelV_real (X := inv A 2) 2 ha h1 r s
  have h3 := fun r s => levelV_real (X := inv A 3) 3 ha h2 r s
  have h4 := fun r s => levelV_real (X := inv A 4) 4 ha h3 r s
  exact levelV_real (X := inv A 5) 5 ha h4 r s

/-! ## The gates -/

section gates
variable {gb : Vec Ideal S1x64x128 .f32} {h : Fin 4} {g b : ℕ → ℝ}
  (hg : ∀ r : Fin 64, gb (ix3 0 r ⟨h.val, by omega⟩) = ((g r.val : ℝ) : EReal))
  (hb : ∀ r : Fin 64, gb (ix3 0 r ⟨4 + h.val, by omega⟩) = ((b r.val : ℝ) : EReal))

theorem betaV_at (gb : Vec Ideal S1x64x128 .f32) (h : Fin 4) (r : Fin 64) : betaV gb h (ix2 r 0) = gb (ix3 0 r ⟨4 + h.val, by omega⟩) := by
  fin_cases h <;> pointwise [betaV]

theorem gcolV_at (gb : Vec Ideal S1x64x128 .f32) (h : Fin 4) (r : Fin 64) : gcolV gb h (ix2 r 0) = gcumV gb (ix2 r ⟨h.val, by omega⟩) := by
  fin_cases h <;> pointwise [gcolV]

theorem growV_at (gb : Vec Ideal S1x64x128 .f32) (h : Fin 4) (r : Fin 64) : growV gb h (ix2 0 r) = gcumT gb (ix2 ⟨h.val, by omega⟩ r) := by
  fin_cases h <;> pointwise [growV]

include hg in
theorem gcumV_real (r : Fin 64) : gcumV gb (ix2 r ⟨h.val, by omega⟩) = ((∑ s ∈ Finset.range (r.val + 1), g s : ℝ) : EReal) := by
  pointwise [gcumV, tri, hg]
  rw [sum_rows (n := 64) g (fun t : Fin 64 => ∑ s ∈ Finset.range (t.val + 1), g s) (fun _ => rfl) g (r.val + 1) r.isLt, coe_sum]
  refine Finset.sum_congr rfl fun s _ => ?_
  by_cases hs : s.val ≤ r.val
  · rw [if_pos hs, if_pos (by omega), one_mul]
  · rw [if_neg hs, if_neg (by omega), zero_mul, EReal.coe_zero]

theorem gcumT_real (r : Fin 64) : gcumT gb (ix2 ⟨h.val, by omega⟩ r) = gcumV gb (ix2 r ⟨h.val, by omega⟩) := by
  pointwise [gcumT, pick]
  rw [Finset.sum_eq_single (⟨h.val, by omega⟩ : Fin 128)]
  · simp
  · intro s _ hs
    rw [if_neg (fun e => hs (Fin.ext e)), zero_mul]
  · exact fun e => absurd (Finset.mem_univ _) e

end gates

/-! ## The chunk -/

section chunk
variable {q k v : FVec Ideal S64x128 .f32} {beta gcol : FVec Ideal S64x1 .f32} {grow : FVec Ideal S1x64 .f32} {S : FVec Ideal S128x128 .f32}
  {Q K V : Fin 64 → Fin 128 → ℝ} {B G : Fin 64 → ℝ} {T : Fin 128 → Fin 128 → ℝ}
  (hq : ∀ r d, q (ix2 r d) = ((Q r d : ℝ) : EReal)) (hk : ∀ r d, k (ix2 r d) = ((K r d : ℝ) : EReal)) (hv : ∀ r d, v (ix2 r d) = ((V r d : ℝ) : EReal))
  (hb : ∀ r, beta (ix2 r 0) = ((B r : ℝ) : EReal)) (hc : ∀ r, gcol (ix2 r 0) = ((G r : ℝ) : EReal)) (hr : ∀ r, grow (ix2 0 r) = ((G r : ℝ) : EReal))
  (hS : ∀ d e, S (ix2 d e) = ((T d e : ℝ) : EReal))

include hc hr in
theorem decayV_real (r s : Fin 64) : decayV gcol grow (ix2 r s) = ((decay G r s : ℝ) : EReal) := by
  pointwise [decayV, mask_le, hc, hr]
  unfold decay
  by_cases hs : s.val ≤ r.val
  · simp only [if_pos hs, Scalar.select, if_true, ← EReal.coe_sub, Ideal.exp_coe]
    rfl
  · simp only [if_neg hs, Scalar.select, EReal.coe_zero]
    rfl

include hk hb in
theorem kbetaV_real (r : Fin 64) (d : Fin 128) : kbetaV k beta (ix2 r d) = ((K r d * B r : ℝ) : EReal) := by
  pointwise [kbetaV, hk, hb]
  rw [EReal.coe_mul]

include hk hc hr in
theorem againstKeys_real {x : FVec Ideal S64x128 .f32} {X : Fin 64 → Fin 128 → ℝ} (hx : ∀ r d, x (ix2 r d) = ((X r d : ℝ) : EReal)) (r s : Fin 64) :
    againstKeys k gcol grow x (ix2 r s) = (((∑ d, X r d * K s d) * decay G r s : ℝ) : EReal) := by
  pointwise [againstKeys, hx, hk, decayV_real hc hr]
  simp only [coe_sum, EReal.coe_mul]

include hk hb hc hr in
theorem lowV_real (r s : Fin 64) : lowV k beta gcol grow (ix2 r s) = ((lowA K G B r s : ℝ) : EReal) := by
  pointwise [lowV, mask_lt, againstKeys_real hk hc hr (kbetaV_real hk hb), zero64]
  unfold lowA
  split <;> simp [Scalar.select]

include hq hk hc hr in
theorem attnV_real (r s : Fin 64) : attnV q k gcol grow (ix2 r s) = ((attn Q K G r s : ℝ) : EReal) := by
  pointwise [attnV, mask_le, againstKeys_real hk hc hr hq, zero64]
  unfold attn
  split <;> simp [Scalar.select]

/-- The chunk's inverse. -/
abbrev chunkInv (K : Fin 64 → Fin 128 → ℝ) (G B : Fin 64 → ℝ) : Matrix (Fin 64) (Fin 64) ℝ := inv (lowA K G B) 6

include hk hv hb hc hr hS in
theorem vnewV_real (r : Fin 64) (e : Fin 128) :
    vnewV k v beta gcol grow S (ix2 r e) = ((vnew K V G B T (chunkInv K G B) r e : ℝ) : EReal) := by
  have hX := invV_real (lowV_real hk hb hc hr)
  have hw : ∀ (r : Fin 64) (d : Fin 128), (mulf (kbetaV k beta) (growth gcol) : FVec Ideal S64x128 .f32) (ix2 r d) = ((K r d * B r * Real.exp (G r) : ℝ) : EReal) := by
    intro r d
    pointwise [kbetaV_real hk hb, growth, hc]
    rw [Ideal.exp_coe, ← EReal.coe_mul]
  have hu := through_real hX (kbetaV_real hv hb) r e
  have hs := throughS_real (through_real hX hw) hS r e
  pointwise [vnewV]
  rw [hu, hs, ← EReal.coe_sub]
  rfl

include hq hk hv hb hc hr hS in
theorem outV_real (r : Fin 64) (e : Fin 128) :
    outV q k v beta gcol grow S (ix2 r e) = ((outs Q K V G B T (chunkInv K G B) r e : ℝ) : EReal) := by
  have hw : ∀ (r : Fin 64) (d : Fin 128), (mulf q (growth gcol) : FVec Ideal S64x128 .f32) (ix2 r d) = ((Q r d * Real.exp (G r) : ℝ) : EReal) := by
    intro r d
    pointwise [hq, growth, hc]
    rw [Ideal.exp_coe, ← EReal.coe_mul]
  have hu := through_real (attnV_real hq hk hc hr) (vnewV_real hk hv hb hc hr hS) r e
  have hs := throughS_real hw hS r e
  pointwise [outV]
  rw [hu, hs, ← EReal.coe_add]
  rfl

include hk hv hb hc hr hS in
theorem leftV_real (d e : Fin 128) :
    leftV k v beta gcol grow S (ix2 d e) = ((left K V G B T (G 63) (chunkInv K G B) d e : ℝ) : EReal) := by
  pointwise [leftV, lastV, hc, hk, hS, vnewV_real hk hv hb hc hr hS]
  simp only [← EReal.coe_sub, Ideal.exp_coe, ← EReal.coe_mul, ← coe_sum, ← EReal.coe_add]
  rfl

end chunk

/-- The queries' scale. -/
def scale : ℝ := (Ideal.ofBits .f32 0x3DB504F3#32 : EReal).toReal

theorem coe_scale : (Ideal.ofBits .f32 0x3DB504F3#32 : EReal) = ((scale : ℝ) : EReal) := by
  refine (EReal.coe_toReal ?_ ?_).symm
  · simp [Ideal.ofBits, Ideal.ieee]
    rw [← EReal.coe_mul]
    exact EReal.coe_ne_top _
  · simp [Ideal.ofBits, Ideal.ieee]
    rw [← EReal.coe_mul]
    exact EReal.coe_ne_bot _

section whole
variable {q k v gb : Vec Ideal S1x64x128 .f32} {S : Vec Ideal S1x128x128 .f32} {h : Fin 4}
  {Q K V : ℕ → Fin 128 → ℝ} {g b : ℕ → ℝ} {T : Fin 128 → Fin 128 → ℝ}
  (hq : ∀ (r : Fin 64) d, q (ix3 0 r d) = ((Q r.val d : ℝ) : EReal)) (hk : ∀ (r : Fin 64) d, k (ix3 0 r d) = ((K r.val d : ℝ) : EReal))
  (hv : ∀ (r : Fin 64) d, v (ix3 0 r d) = ((V r.val d : ℝ) : EReal))
  (hg : ∀ r : Fin 64, gb (ix3 0 r ⟨h.val, by omega⟩) = ((g r.val : ℝ) : EReal))
  (hb : ∀ r : Fin 64, gb (ix3 0 r ⟨4 + h.val, by omega⟩) = ((b r.val : ℝ) : EReal))
  (hS : ∀ d e, S (ix3 0 d e) = ((T d e : ℝ) : EReal))

theorem cast64 (x : Vec Ideal S1x64x128 .f32) (r : Fin 64) (d : Fin 128) :
    shapeCast S64x128 x shapeCasts_S1x64x128_S64x128 (ix2 r d) = x (ix3 0 r d) := by
  pointwise

theorem cast128 (x : Vec Ideal S1x128x128 .f32) (r d : Fin 128) :
    shapeCast S128x128 x shapeCasts_S1x128x128_S128x128 (ix2 r d) = x (ix3 0 r d) := by
  pointwise

theorem chunk_inv (K : ℕ → Fin 128 → ℝ) (g b : ℕ → ℝ) :
    chunkInv (fun r => K r.val) (fun r => ∑ s ∈ Finset.range (r.val + 1), g s) (fun r => b r.val)
      * (1 + lowA (fun s : Fin 64 => K s.val) (fun r => ∑ s ∈ Finset.range (r.val + 1), g s) (fun s => b s.val)) = 1 :=
  inv_mul_last _ (fun t s hts => by unfold lowA; rw [if_neg (by omega)]) 6 (by norm_num)

include hk hv hg hb hS in
theorem chunkLeft_real (d e : Fin 128) : chunkLeft h k v gb S (ix3 0 d e) = ((st T K V g b 64 d e : ℝ) : EReal) := by
  have key := leftV_real (fun r d => (cast64 k r d).trans (hk r d)) (fun r d => (cast64 v r d).trans (hv r d))
    (fun r => (betaV_at gb h r).trans (hb r)) (fun r => (gcolV_at gb h r).trans (gcumV_real hg r))
    (fun r => (growV_at gb h r).trans ((gcumT_real r).trans (gcumV_real hg r))) (fun d e => (cast128 S d e).trans (hS d e)) d e
  rw [left_eq T K V g b (fun r : Fin 64 => ∑ s ∈ Finset.range (r.val + 1), g s) (fun _ => rfl) _ (chunk_inv K g b)
    (∑ s ∈ Finset.range ((63 : Fin 64).val + 1), g s) rfl] at key
  pointwise [chunkLeft]
  exact key

include hq hk hv hg hb hS in
theorem chunkOut_real (r : Fin 64) (e : Fin 128) :
    chunkOut h q k v gb S (ix3 0 r e) = ((∑ d, Q r.val d * scale * st T K V g b (r.val + 1) d e : ℝ) : EReal) := by
  have hq' : ∀ (r : Fin 64) (d : Fin 128), scaleQ q (ix2 r d) = ((Q r.val d * scale : ℝ) : EReal) := by
    intro r d
    pointwise [scaleQ, hq]
    rw [coe_scale, EReal.coe_mul]
  have key := outV_real hq' (fun r d => (cast64 k r d).trans (hk r d)) (fun r d => (cast64 v r d).trans (hv r d))
    (fun r => (betaV_at gb h r).trans (hb r)) (fun r => (gcolV_at gb h r).trans (gcumV_real hg r))
    (fun r => (growV_at gb h r).trans ((gcumT_real r).trans (gcumV_real hg r))) (fun d e => (cast128 S d e).trans (hS d e)) r e
  rw [outs_eq T (fun t d => Q t d * scale) K V g b _ (fun _ => rfl) _ (chunk_inv K g b)] at key
  pointwise [chunkOut]
  exact key

end whole

end Delta.Body

end
-- ==== Proof.RefLoop.lean ====
/- The reference's loop over the extended reals, on finite inputs: after `k` trips its state is the recurrence's after `k` tokens. -/
module

public import proofs.«01_k».proof.Proof.Gen.ReferenceIdeal.Run
public import proofs.«01_k».proof.Proof.Gen.ReferenceIdeal.Step
public import proofs.«01_k».proof.Proof.Recurrence
public import proofs.«01_k».proof.Proof.Eval
public import Idealize.ShloMosaic.Lib.Pointwise
public import Idealize.ShloMosaic.Lib.ValueIdx
public import Idealize.ShloMosaic.Lib.DynamicIndex

@[expose] public section

set_option backward.proofsInPublic true
set_option maxRecDepth 65536

noncomputable section

namespace Delta.Ref

open Idealize.ShloMosaic Idealize.ShloMosaic.TcCoe Idealize.SL.Sem Idealize.ShloMosaic.StableHlo Cert.ReferenceIdeal Cert.ReferenceIdeal.Gen Cert.ReferenceIdeal.Value

/-! ## The buffers one trip reads, at an index -/

/-- The start of a trip's slices: the counter, and zeros. -/
theorem start4 (t : ℕ) (ht : t < 8256) (n : (⟨S_, .i32⟩ : BufTy).Contents (Elt Ideal)) (hn : n = constantI S_ 32 (BitVec.ofNat 32 t)) (a : Fin 4) :
    ((![n, constantI S_ 32 0#32, constantI S_ 32 0#32, constantI S_ 32 0#32] : Fin 4 → (⟨S_, .i32⟩ : BufTy).Contents (Elt Ideal)) a (Shape.Idx.first h_S_)).toInt
      = ((![t, 0, 0, 0] : Fin 4 → ℕ) a : ℤ) := by
  subst hn
  fin_cases a
  · show (BitVec.ofNat 32 t).toInt = _
    rw [toInt_ofNat_of_lt (by omega)]; rfl
  all_goals rfl

theorem start3 (t : ℕ) (ht : t < 8256) (n : (⟨S_, .i32⟩ : BufTy).Contents (Elt Ideal)) (hn : n = constantI S_ 32 (BitVec.ofNat 32 t)) (a : Fin 3) :
    ((![n, constantI S_ 32 0#32, constantI S_ 32 0#32] : Fin 3 → (⟨S_, .i32⟩ : BufTy).Contents (Elt Ideal)) a (Shape.Idx.first h_S_)).toInt
      = ((![t, 0, 0] : Fin 3 → ℕ) a : ℤ) := by
  subst hn
  fin_cases a
  · show (BitVec.ofNat 32 t).toInt = _
    rw [toInt_ofNat_of_lt (by omega)]; rfl
  all_goals rfl

/-- Token `t`'s row of a stack of rows of vectors. -/
theorem row4 (x : S8256x4x4x128.Idx → EReal) (start : Fin 4 → ℤ) (h) (t : ℕ) (ht : t < 8256) (hs : ∀ a, start a = ((![t, 0, 0, 0] : Fin 4 → ℕ) a : ℤ))
    (b h' : Fin 4) (d : Fin 128) :
    shapeCast S4x4x128 (Host.dynamicSlice S1x4x4x128 x start h) shapeCasts_S1x4x4x128_S4x4x128 (ix3 b h' d) = x (ix4 ⟨t, ht⟩ b h' d) := by
  have hoff : S8256x4x4x128.Slices ![t, 0, 0, 0] S1x4x4x128 := by
    refine ⟨rfl, fun a => ?_⟩
    fin_cases a
    · show t + 1 ≤ 8256
      omega
    all_goals exact Nat.le_refl _
  rw [Host.dynamicSlice_eq_extractStridedSlice S1x4x4x128 x start ![t, 0, 0, 0] h hoff hs]
  pointwise

/-- Token `t`'s row of a stack of rows of numbers. -/
theorem row3 (x : S8256x4x4.Idx → EReal) (start : Fin 3 → ℤ) (h) (t : ℕ) (ht : t < 8256) (hs : ∀ a, start a = ((![t, 0, 0] : Fin 3 → ℕ) a : ℤ))
    (b h' : Fin 4) :
    shapeCast S4x4 (Host.dynamicSlice S1x4x4 x start h) shapeCasts_S1x4x4_S4x4 (ix2 b h') = x (ix3 ⟨t, ht⟩ b h') := by
  have hoff : S8256x4x4.Slices ![t, 0, 0] S1x4x4 := by
    refine ⟨rfl, fun a => ?_⟩
    fin_cases a
    · show t + 1 ≤ 8256
      omega
    all_goals exact Nat.le_refl _
  rw [Host.dynamicSlice_eq_extractStridedSlice S1x4x4 x start ![t, 0, 0] h hoff hs]
  pointwise

/-- A vector against a matrix, in each batch and head. -/
theorem dot4 (l : S4x4x128.Idx → EReal) (r : S4x4x128x128.Idx → EReal) (b h : Fin 4) (e : Fin 128) :
    Host.dotGeneral (F := Ideal) (φ₁ := .f32) (φ₂ := .f32) dot_S4x4x128_S4x4x128x128_S4x4x128_2_2_n_3_01_01 none l r (ix3 b h e)
      = ∑ d : Fin 128, l (ix3 b h d) * r (ix4 b h d e) := by
  pointwise

/-! ## The carried buffers -/

variable (V : Valuation τ sig (Elt Ideal))

abbrev bq : S8256x4x4x128.Idx → EReal := V (Proc.devRef .tc main_v19_0)
abbrev bk : S8256x4x4x128.Idx → EReal := V (Proc.devRef .tc main_v19_1)
abbrev bv : S8256x4x4x128.Idx → EReal := V (Proc.devRef .tc main_v19_2)
abbrev bg : S8256x4x4.Idx → EReal := V (Proc.devRef .tc main_v19_3)
abbrev bb : S8256x4x4.Idx → EReal := V (Proc.devRef .tc main_v19_4)
abbrev bs : S4x4x128x128.Idx → EReal := V (Proc.devRef .tc main_v19_6)
abbrev bo : S8256x4x4x128.Idx → EReal := V (Proc.devRef .tc main_v19_7)
abbrev new : S4x4x128x128.Idx → EReal := res_main_while0b_v46 V

/-! ## One trip -/

section
variable (t : ℕ) (ht : t < 8256) (hn : V (Proc.devRef .tc main_v19_5) = constantI S_ 32 (BitVec.ofNat 32 t))
include ht hn

theorem v24_at (b h : Fin 4) (d : Fin 128) : res_main_while0b_v24 V (ix3 b h d) = bk V (ix4 ⟨t, ht⟩ b h d) := by
  unfold res_main_while0b_v24
  exact row4 _ _ _ t ht (start4 t ht _ hn) b h d

theorem v32_at (b h : Fin 4) (d : Fin 128) : res_main_while0b_v32 V (ix4 b h d 0)
    = bb V (ix3 ⟨t, ht⟩ b h) * bk V (ix4 ⟨t, ht⟩ b h d) := by
  unfold res_main_while0b_v32
  have e1 := row3 (bb V) _ sliceFits_S8256x4x4_S1x4x4 t ht (start3 t ht _ hn) b h
  have e2 := v24_at V t ht hn b h d
  generalize shapeCast S4x4 (Host.dynamicSlice S1x4x4 (bb V) _ sliceFits_S8256x4x4_S1x4x4) shapeCasts_S1x4x4_S4x4 = B at e1 ⊢
  generalize res_main_while0b_v24 V = K at e2 ⊢
  rw [← e1, ← e2]
  pointwise

theorem v46_at (b h : Fin 4) (d e : Fin 128) : res_main_while0b_v46 V (ix4 b h d e)
    = Ideal.exp (bg V (ix3 ⟨t, ht⟩ b h)) * (bs V (ix4 b h d e)
        - bb V (ix3 ⟨t, ht⟩ b h) * bk V (ix4 ⟨t, ht⟩ b h d)
          * ∑ d' : Fin 128, bk V (ix4 ⟨t, ht⟩ b h d') * bs V (ix4 b h d' e))
      + bb V (ix3 ⟨t, ht⟩ b h) * bk V (ix4 ⟨t, ht⟩ b h d)
        * bv V (ix4 ⟨t, ht⟩ b h e) := by
  unfold res_main_while0b_v46
  have e1 := row3 (bg V) _ sliceFits_S8256x4x4_S1x4x4 t ht (start3 t ht _ hn) b h
  have e2 := row4 (bv V) _ sliceFits_S8256x4x4x128_S1x4x4x128 t ht (start4 t ht _ hn) b h e
  have e3 := v32_at V t ht hn b h d
  have e4 := dot4 (res_main_while0b_v24 V) (bs V) b h e
  simp only [v24_at V t ht hn] at e4
  generalize shapeCast S4x4 (Host.dynamicSlice S1x4x4 (bg V) _ sliceFits_S8256x4x4_S1x4x4) shapeCasts_S1x4x4_S4x4 = G at e1 ⊢
  generalize shapeCast S4x4x128 (Host.dynamicSlice S1x4x4x128 (bv V) _ sliceFits_S8256x4x4x128_S1x4x4x128) shapeCasts_S1x4x4x128_S4x4x128 = X at e2 ⊢
  generalize res_main_while0b_v32 V = K at e3 ⊢
  generalize Host.dotGeneral dot_S4x4x128_S4x4x128x128_S4x4x128_2_2_n_3_01_01 none (res_main_while0b_v24 V) (bs V) = D at e4 ⊢
  rw [← e1, ← e2, ← e3, ← e4]
  pointwise

/-- The output row a trip writes, and the rows it leaves. -/
theorem step7_at (r : Fin 8256) (b h : Fin 4) (e : Fin 128) : step_main_v19_7 V (ix4 r b h e)
    = if r.val = t then ∑ d : Fin 128, bq V (ix4 ⟨t, ht⟩ b h d) * new V (ix4 b h d e)
      else bo V (ix4 r b h e) := by
  unfold step_main_v19_7
  have e2 := fun d => row4 (bq V) _ sliceFits_S8256x4x4x128_S1x4x4x128 t ht (start4 t ht _ hn) b h d
  generalize shapeCast S4x4x128 (Host.dynamicSlice S1x4x4x128 (bq V) _ sliceFits_S8256x4x4x128_S1x4x4x128) shapeCasts_S1x4x4x128_S4x4x128 = X at e2 ⊢
  have e4 := dot4 X (res_main_while0b_v46 V) b h e
  simp only [e2] at e4
  generalize Host.dotGeneral dot_S4x4x128_S4x4x128x128_S4x4x128_2_2_n_3_01_01 none X (res_main_while0b_v46 V) = D at e4 ⊢
  have hoff : S8256x4x4x128.Slices ![t, 0, 0, 0] S1x4x4x128 := by
    refine ⟨rfl, fun a => ?_⟩
    fin_cases a
    · show t + 1 ≤ 8256
      omega
    all_goals exact Nat.le_refl _
  rw [← e4]
  show Host.dynamicUpdateSlice _ _ _ _ (ix4 r b h e) = _
  rw [Host.dynamicUpdateSlice_eq_updateSlice (adj := ![t, 0, 0, 0]) (h' := hoff)]
  · pointwise
    by_cases hr : r.val = t
    · rw [dif_pos ⟨by omega, by omega⟩, if_pos hr]
    · rw [dif_neg (by omega), if_neg hr]
  · intro a
    rw [start4 t ht _ hn a]
    fin_cases a
    · show (min (max (t : ℤ) 0) ((8255 : ℕ) : ℤ)).toNat = t
      omega
    all_goals rfl

end

/-! ## All trips -/

/-- Column `d` of head `h` among the columns of all heads. -/
def col (h : Fin 4) (d : Fin 128) : Fin 512 := ⟨h.val * 128 + d.val, by omega⟩

/-- The arrays are these real numbers, where the layer reads them. -/
structure Reals (a0 a1 a2 : S4x8256x512.Idx → EReal) (a3 : S4x8256x128.Idx → EReal) (xq xk xv : Fin 4 → ℕ → Fin 512 → ℝ) (xg : Fin 4 → ℕ → Fin 8 → ℝ) : Prop where
  q : ∀ (b : Fin 4) (t : Fin 8256) j, a0 (ix3 b t j) = ((xq b t.val j : ℝ) : EReal)
  k : ∀ (b : Fin 4) (t : Fin 8256) j, a1 (ix3 b t j) = ((xk b t.val j : ℝ) : EReal)
  v : ∀ (b : Fin 4) (t : Fin 8256) j, a2 (ix3 b t j) = ((xv b t.val j : ℝ) : EReal)
  g : ∀ (b : Fin 4) (t : Fin 8256) (j : Fin 8), a3 (ix3 b t ⟨j.val, by omega⟩) = ((xg b t.val j : ℝ) : EReal)

/-- The state of batch `b`, head `h` after `t` tokens. -/
def stB (xk xv : Fin 4 → ℕ → Fin 512 → ℝ) (xg : Fin 4 → ℕ → Fin 8 → ℝ) (b h : Fin 4) : ℕ → Fin 128 → Fin 128 → ℝ :=
  st (fun _ _ => 0) (fun t d => xk b t (col h d)) (fun t e => xv b t (col h e)) (fun t => xg b t ⟨h.val, by omega⟩) (fun t => xg b t ⟨4 + h.val, by omega⟩)

/-- The layer's output of batch `b`, head `h`, token `t`: the query, scaled, against the state that has taken the token in. -/
def outB (xq xk xv : Fin 4 → ℕ → Fin 512 → ℝ) (xg : Fin 4 → ℕ → Fin 8 → ℝ) (b h : Fin 4) (t : ℕ) (e : Fin 128) : ℝ :=
  ∑ d, xq b t (col h d) * Body.scale * stB xk xv xg b h (t + 1) d e

variable (xq xk xv : Fin 4 → ℕ → Fin 512 → ℝ) (xg : Fin 4 → ℕ → Fin 8 → ℝ)

/-- What the carried buffers hold before trip `n`. -/
structure At (n : ℕ) : Prop where
  q : ∀ (t : Fin 8256) b h d, bq V (ix4 t b h d) = ((xq b t.val (col h d) * Body.scale : ℝ) : EReal)
  k : ∀ (t : Fin 8256) b h d, bk V (ix4 t b h d) = ((xk b t.val (col h d) : ℝ) : EReal)
  v : ∀ (t : Fin 8256) b h d, bv V (ix4 t b h d) = ((xv b t.val (col h d) : ℝ) : EReal)
  g : ∀ (t : Fin 8256) (b h : Fin 4), bg V (ix3 t b h) = ((xg b t.val ⟨h.val, by omega⟩ : ℝ) : EReal)
  b : ∀ (t : Fin 8256) (b h : Fin 4), bb V (ix3 t b h) = ((xg b t.val ⟨4 + h.val, by omega⟩ : ℝ) : EReal)
  ctr : V (Proc.devRef .tc main_v19_5) = constantI S_ 32 (BitVec.ofNat 32 n)
  s : ∀ b h d e, bs V (ix4 b h d e) = ((stB xk xv xg b h n d e : ℝ) : EReal)
  o : ∀ (t : Fin 8256) b h e, t.val < n → bo V (ix4 t b h e) = ((outB xq xk xv xg b h t.val e : ℝ) : EReal)

theorem new_real {n : ℕ} (hn : n < 8256) (H : At V xq xk xv xg n) (b h : Fin 4) (d e : Fin 128) :
    new V (ix4 b h d e) = ((stB xk xv xg b h (n + 1) d e : ℝ) : EReal) := by
  rw [show new V (ix4 b h d e) = _ from v46_at V n hn H.ctr b h d e, H.g, H.b, H.v, H.k, H.s]
  simp only [H.k, H.s]
  rw [show stB xk xv xg b h (n + 1) = tok (stB xk xv xg b h n) _ _ _ _ from rfl, Ideal.exp_coe]
  simp only [tok, ← EReal.coe_mul, ← Body.coe_sum, ← EReal.coe_sub, ← EReal.coe_add]

theorem at_step {n : ℕ} (hn : n < 8256) (H : At V xq xk xv xg n) : At (STEP V) xq xk xv xg (n + 1) where
  q := by intro t b h d; show STEP V (Proc.devRef .tc main_v19_0) _ = _; rw [STEP_main_v19_0]; exact H.q t b h d
  k := by intro t b h d; show STEP V (Proc.devRef .tc main_v19_1) _ = _; rw [STEP_main_v19_1]; exact H.k t b h d
  v := by intro t b h d; show STEP V (Proc.devRef .tc main_v19_2) _ = _; rw [STEP_main_v19_2]; exact H.v t b h d
  g := by intro t b h; show STEP V (Proc.devRef .tc main_v19_3) _ = _; rw [STEP_main_v19_3]; exact H.g t b h
  b := by intro t b h; show STEP V (Proc.devRef .tc main_v19_4) _ = _; rw [STEP_main_v19_4]; exact H.b t b h
  ctr := by
    rw [STEP_main_v19_5]
    unfold step_main_v19_5
    rw [H.ctr]
    funext i
    show BitVec.ofNat 32 n + 1#32 = BitVec.ofNat 32 (n + 1)
    rw [BitVec.ofNat_add]
  s := by
    intro b h d e
    show STEP V (Proc.devRef .tc main_v19_6) _ = _
    rw [STEP_main_v19_6]
    exact new_real V xq xk xv xg hn H b h d e
  o := by
    intro t b h e ht
    show STEP V (Proc.devRef .tc main_v19_7) _ = _
    rw [STEP_main_v19_7, step7_at V n hn H.ctr]
    by_cases hr : t.val = n
    · rw [if_pos hr]
      simp only [H.q, new_real V xq xk xv xg hn H, ← EReal.coe_mul, ← Body.coe_sum]
      subst hr
      rfl
    · rw [if_neg hr]
      exact H.o t b h e (by omega)

variable (m : (ℓ : Loc nD τ sig) → Buf (Elt Ideal) ℓ) (c : Dev nD)

/-- The values the loop starts from, of the arrays. -/
abbrev start : Step.State Ideal :=
  Step.init (m ((c.tc : Thread nD τ).loc main_arg0)) (m ((c.tc : Thread nD τ).loc main_arg1)) (m ((c.tc : Thread nD τ).loc main_arg2)) (m ((c.tc : Thread nD τ).loc main_arg3))

set_option maxHeartbeats 400000 in
theorem entry_q : bq (entryContents preI m c) = (start m c).main_v19_0 := by
  simp only [entryContents, afterL_cons, afterL_nil]; after_reads_simp; rfl
set_option maxHeartbeats 400000 in
theorem entry_k : bk (entryContents preI m c) = (start m c).main_v19_1 := by
  simp only [entryContents, afterL_cons, afterL_nil]; after_reads_simp; rfl
set_option maxHeartbeats 400000 in
theorem entry_v : bv (entryContents preI m c) = (start m c).main_v19_2 := by
  simp only [entryContents, afterL_cons, afterL_nil]; after_reads_simp; rfl
set_option maxHeartbeats 400000 in
theorem entry_g : bg (entryContents preI m c) = (start m c).main_v19_3 := by
  simp only [entryContents, afterL_cons, afterL_nil]; after_reads_simp; rfl
set_option maxHeartbeats 400000 in
theorem entry_b : bb (entryContents preI m c) = (start m c).main_v19_4 := by
  simp only [entryContents, afterL_cons, afterL_nil]; after_reads_simp; rfl
set_option maxHeartbeats 400000 in
theorem entry_s : bs (entryContents preI m c) = (start m c).main_v19_6 := by
  simp only [entryContents, afterL_cons, afterL_nil]; after_reads_simp; rfl

/-- The whole array of real numbers the run starts from. -/
abbrev RealsOf : Prop :=
  Reals (m ((c.tc : Thread nD τ).loc main_arg0)) (m ((c.tc : Thread nD τ).loc main_arg1)) (m ((c.tc : Thread nD τ).loc main_arg2)) (m ((c.tc : Thread nD τ).loc main_arg3)) xq xk xv xg

theorem at_entry (H : RealsOf xq xk xv xg m c) : At (entryContents preI m c) xq xk xv xg 0 where
  q := by
    intro t b h d
    have e := H.q b t (col h d)
    rw [entry_q, EReal.coe_mul, ← Body.coe_scale, ← e]
    pointwise [Step.init, Step.A_main_v13, Step.A_main_v11, Step.A_main_v5, Step.A_main_v4, Step.K_main_v10, Step.K_main_cst]
    rfl
  k := by
    intro t b h d
    rw [entry_k, ← H.k]
    pointwise [Step.init, Step.A_main_v14, Step.A_main_v7, Step.A_main_v6]
    rfl
  v := by
    intro t b h d
    rw [entry_v, ← H.v]
    pointwise [Step.init, Step.A_main_v15, Step.A_main_v9, Step.A_main_v8]
    rfl
  g := by
    intro t b h
    rw [entry_g, ← H.g]
    pointwise [Step.init, Step.A_main_v16, Step.A_main_v1, Step.A_main_v0]
  b := by
    intro t b h
    rw [entry_b, ← H.g]
    pointwise [Step.init, Step.A_main_v17, Step.A_main_v3, Step.A_main_v2]
  ctr := by
    rw [ctr_entry]; rfl
  s := by
    intro b h d e
    rw [entry_s]
    pointwise [Step.init, Step.K_main_v12, Step.K_main_cst_0]
    simp [stB, st]
  o := by
    intro t b h e ht
    omega

theorem at_iter (H : RealsOf xq xk xv xg m c) : ∀ n, n ≤ 8256 → At (STEP^[n] (entryContents preI m c)) xq xk xv xg n
  | 0, _ => at_entry xq xk xv xg m c H
  | n + 1, hn => by
    rw [Function.iterate_succ_apply']
    exact at_step _ xq xk xv xg (by omega) (at_iter H n (by omega))

/-- The reference's result. -/
theorem out_real (H : RealsOf xq xk xv xg m c) (b : Fin 4) (t : Fin 8256) (h : Fin 4) (e : Fin 128) :
    (out_main_v22 (STEP^[8256] (entryContents preI m c)) : S4x8256x512.Idx → EReal) (ix3 b t (col h e)) = ((outB xq xk xv xg b h t.val e : ℝ) : EReal) := by
  have A := at_iter xq xk xv xg m c H 8256 le_rfl
  rw [← A.o t b h e t.isLt]
  generalize STEP^[8256] (entryContents preI m c) = W
  pointwise [out_main_v22]
  have e1 : (⟨(col h e).val / 128, by have := (col h e).isLt; omega⟩ : Fin 4) = h := Fin.ext (by simp only [col]; omega)
  have e2 : (⟨(col h e).val % 128, by omega⟩ : Fin 128) = e := Fin.ext (by simp only [col]; omega)
  rw [e1, e2]

end Delta.Ref
-- ==== Proof.KernelValue.lean ====
/- The kernel's output array over the extended reals, on finite inputs: by induction over the grid points, the carried
   states are the recurrence's after the tokens read so far. -/
module

public import proofs.«01_k».proof.Proof.Gen.KernelIdeal.Value
public import proofs.«01_k».proof.Proof.Points
public import proofs.«01_k».proof.Proof.Eval
public import proofs.«01_k».proof.Proof.RefLoop

@[expose] public section

set_option backward.proofsInPublic true
set_option maxRecDepth 65536

noncomputable section

namespace Delta.Points

open Idealize.ShloMosaic Idealize.ShloMosaic.TcCoe Idealize.SL.Sem Cert.KernelIdeal Cert.KernelIdeal.Gen Delta.Body Delta.Bridge
open Delta.Ref (col stB outB)

/-! ## Places in a block -/

theorem emb_Q (cc : Fin 3) (h : Fin 4) (r : Fin 64) (d : Fin 128) :
    (rectQ cc h).emb (ix3 0 r d) = ix3 0 ⟨64 * cc.val + r.val, by omega⟩ (col h d) := by
  funext a
  apply Fin.ext
  match a with
  | ⟨0, _⟩ => rfl
  | ⟨1, _⟩ => show 64 * cc.val + 1 * r.val = 64 * cc.val + r.val; omega
  | ⟨2, _⟩ => show 128 * h.val + 1 * d.val = h.val * 128 + d.val; omega

theorem emb_G (cc : Fin 3) (r : Fin 64) (l : Fin 128) :
    (rectG cc).emb (ix3 0 r l) = ix3 0 ⟨64 * cc.val + r.val, by omega⟩ l := by
  funext a
  apply Fin.ext
  match a with
  | ⟨0, _⟩ => rfl
  | ⟨1, _⟩ => show 64 * cc.val + 1 * r.val = 64 * cc.val + r.val; omega
  | ⟨2, _⟩ => show 0 + 1 * l.val = l.val; omega

theorem emb_S (h : Fin 4) (d e : Fin 128) : (rectS h).emb (ix3 0 d e) = ix3 h d e := by
  funext a
  apply Fin.ext
  match a with
  | ⟨0, _⟩ => show h.val + 1 * 0 = h.val; omega
  | ⟨1, _⟩ => show 0 + 1 * d.val = d.val; omega
  | ⟨2, _⟩ => show 0 + 1 * e.val = e.val; omega

/-! ## One point: 192 tokens of one batch, from token `T` on -/

section
variable (xq xk xv : Fin 4 → ℕ → Fin 512 → ℝ) (xg : Fin 4 → ℕ → Fin 8 → ℝ) (b : Fin 4) (T : ℕ)

/-- A point's input blocks hold the tokens from `T` on. -/
structure Block (x0 x1 x2 : Vec Ideal S1x192x512 .f32) (x3 : Vec Ideal S1x192x128 .f32) : Prop where
  q : ∀ (r : Fin 192) j, x0 (ix3 0 r j) = ((xq b (T + r.val) j : ℝ) : EReal)
  k : ∀ (r : Fin 192) j, x1 (ix3 0 r j) = ((xk b (T + r.val) j : ℝ) : EReal)
  v : ∀ (r : Fin 192) j, x2 (ix3 0 r j) = ((xv b (T + r.val) j : ℝ) : EReal)
  g : ∀ (r : Fin 192) (j : Fin 8), x3 (ix3 0 r ⟨j.val, by omega⟩) = ((xg b (T + r.val) j : ℝ) : EReal)

variable {xq xk xv xg b T} {x0 x1 x2 : Vec Ideal S1x192x512 .f32} {x3 : Vec Ideal S1x192x128 .f32} {xs0 : Vec Ideal S4x128x128 .f32}
  (H : Block xq xk xv xg b T x0 x1 x2 x3)
  (hS : ∀ h d e, xs0 (ix3 h d e) = ((stB xk xv xg b h T d e : ℝ) : EReal))
include H

theorem rows_q (cc : Fin 3) (h : Fin 4) (r : Fin 64) (d : Fin 128) :
    rowsQ x0 cc h (ix3 0 r d) = ((xq b (T + 64 * cc.val + r.val) (col h d) : ℝ) : EReal) := by
  unfold rowsQ
  rw [emb_Q, H.q, Nat.add_assoc]
theorem rows_k (cc : Fin 3) (h : Fin 4) (r : Fin 64) (d : Fin 128) :
    rowsQ x1 cc h (ix3 0 r d) = ((xk b (T + 64 * cc.val + r.val) (col h d) : ℝ) : EReal) := by
  unfold rowsQ
  rw [emb_Q, H.k, Nat.add_assoc]
theorem rows_v (cc : Fin 3) (h : Fin 4) (r : Fin 64) (d : Fin 128) :
    rowsQ x2 cc h (ix3 0 r d) = ((xv b (T + 64 * cc.val + r.val) (col h d) : ℝ) : EReal) := by
  unfold rowsQ
  rw [emb_Q, H.v, Nat.add_assoc]
theorem rows_g (cc : Fin 3) (r : Fin 64) (j : Fin 8) :
    rowsG x3 cc (ix3 0 r ⟨j.val, by omega⟩) = ((xg b (T + 64 * cc.val + r.val) j : ℝ) : EReal) := by
  unfold rowsG
  rw [emb_G, H.g, Nat.add_assoc]

include hS in
/-- The state before chunk `n` of the point. -/
theorem state_real (h : Fin 4) : ∀ n, n ≤ 3 → ∀ d e : Fin 128,
    stateAt x1 x2 x3 xs0 h n (ix3 0 d e) = ((stB xk xv xg b h (T + 64 * n) d e : ℝ) : EReal)
  | 0, _, d, e => by
    show xs0 ((rectS h).emb (ix3 0 d e)) = _
    rw [emb_S, hS]; rfl
  | n + 1, hn, d, e => by
    have hv : (Fin.ofNat 3 n).val = n := Nat.mod_eq_of_lt (by omega)
    have e1 : T + 64 * (n + 1) = (T + 64 * n) + 64 := by ring
    rw [e1, stB, st_add]
    refine chunkLeft_real (fun r d => ?_) (fun r e => ?_) (fun r => ?_) (fun r => ?_) (fun d e => ?_) d e
    · rw [rows_k H, hv]
    · rw [rows_v H, hv]
    · exact (rows_g H _ r ⟨h.val, by omega⟩).trans (by rw [hv])
    · exact (rows_g H _ r ⟨4 + h.val, by omega⟩).trans (by rw [hv])
    · exact state_real h n (by omega) d e

include hS in
/-- The outputs of chunk `cc` of the point. -/
theorem out_real (cc : Fin 3) (h : Fin 4) (r : Fin 64) (e : Fin 128) :
    chunkOut h (rowsQ x0 cc h) (rowsQ x1 cc h) (rowsQ x2 cc h) (rowsG x3 cc) (stateAt x1 x2 x3 xs0 h cc.val) (ix3 0 r e)
      = ((outB xq xk xv xg b h (T + 64 * cc.val + r.val) e : ℝ) : EReal) := by
  rw [outB, stB, Nat.add_assoc (T + 64 * cc.val), st_add]
  refine chunkOut_real (Q := fun r d => xq b (T + 64 * cc.val + r) (col h d)) (K := fun r d => xk b (T + 64 * cc.val + r) (col h d))
    (V := fun r e => xv b (T + 64 * cc.val + r) (col h e)) (g := fun r => xg b (T + 64 * cc.val + r) ⟨h.val, by omega⟩)
    (b := fun r => xg b (T + 64 * cc.val + r) ⟨4 + h.val, by omega⟩) (fun r d => ?_) (fun r d => ?_) (fun r e => ?_) (fun r => ?_) (fun r => ?_) (fun d e => ?_) r e
  · exact rows_q H cc h r d
  · exact rows_k H cc h r d
  · exact rows_v H cc h r e
  · exact rows_g H cc r ⟨h.val, by omega⟩
  · exact rows_g H cc r ⟨4 + h.val, by omega⟩
  · exact state_real H hS h cc.val (by omega) d e

end

/-! ## The input blocks of a point -/

variable (m : (ℓ : Loc nD τ sig) → Buf (Elt Ideal) ℓ) (c : Dev nD)

theorem index_in : ∀ t : Fin cfg0.N,
    (win0_0.index t (0 : Fin 3) = t.val / 43 ∧ win0_0.index t (1 : Fin 3) = t.val % 43 ∧ win0_0.index t (2 : Fin 3) = 0)
    ∧ (win0_1.index t (0 : Fin 3) = t.val / 43 ∧ win0_1.index t (1 : Fin 3) = t.val % 43 ∧ win0_1.index t (2 : Fin 3) = 0)
    ∧ (win0_2.index t (0 : Fin 3) = t.val / 43 ∧ win0_2.index t (1 : Fin 3) = t.val % 43 ∧ win0_2.index t (2 : Fin 3) = 0)
    ∧ (win0_3.index t (0 : Fin 3) = t.val / 43 ∧ win0_3.index t (1 : Fin 3) = t.val % 43 ∧ win0_3.index t (2 : Fin 3) = 0) :=
  (by decide +kernel : ∀ t : Fin grid0.N, _)

theorem pt_lt (t : Fin cfg0.N) : t.val < 172 := lt_of_lt_of_eq t.isLt N_0

/-- The batch of a point. -/
def bat (n : ℕ) : Fin 4 := ⟨n / 43 % 4, Nat.mod_lt _ (by decide)⟩

theorem blk0 (t : Fin cfg0.N) (r : Fin 192) (j : Fin 512) : (iblk m c 0 t : Vec Ideal S1x192x512 .f32) (ix3 0 r j)
    = (m ((c : Thread nD τ).loc main_arg0) : S4x8256x512.Idx → EReal) (ix3 (bat t.val) ⟨192 * (t.val % 43) + r.val, by omega⟩ j) := by
  have ht := pt_lt t
  obtain ⟨e0, e1, e2⟩ := (index_in t).1
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 43 % 4; rw [e0]; omega
  | ⟨1, _⟩ => show win0_0.index t 1 * 192 + 1 * r.val = 192 * (t.val % 43) + r.val; rw [e1]; omega
  | ⟨2, _⟩ => show win0_0.index t 2 * 512 + 1 * j.val = j.val; rw [e2]; omega

theorem blk1 (t : Fin cfg0.N) (r : Fin 192) (j : Fin 512) : (iblk m c 1 t : Vec Ideal S1x192x512 .f32) (ix3 0 r j)
    = (m ((c : Thread nD τ).loc main_arg1) : S4x8256x512.Idx → EReal) (ix3 (bat t.val) ⟨192 * (t.val % 43) + r.val, by omega⟩ j) := by
  have ht := pt_lt t
  obtain ⟨e0, e1, e2⟩ := (index_in t).2.1
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 43 % 4; rw [e0]; omega
  | ⟨1, _⟩ => show win0_1.index t 1 * 192 + 1 * r.val = 192 * (t.val % 43) + r.val; rw [e1]; omega
  | ⟨2, _⟩ => show win0_1.index t 2 * 512 + 1 * j.val = j.val; rw [e2]; omega

theorem blk2 (t : Fin cfg0.N) (r : Fin 192) (j : Fin 512) : (iblk m c 2 t : Vec Ideal S1x192x512 .f32) (ix3 0 r j)
    = (m ((c : Thread nD τ).loc main_arg2) : S4x8256x512.Idx → EReal) (ix3 (bat t.val) ⟨192 * (t.val % 43) + r.val, by omega⟩ j) := by
  have ht := pt_lt t
  obtain ⟨e0, e1, e2⟩ := (index_in t).2.2.1
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 43 % 4; rw [e0]; omega
  | ⟨1, _⟩ => show win0_2.index t 1 * 192 + 1 * r.val = 192 * (t.val % 43) + r.val; rw [e1]; omega
  | ⟨2, _⟩ => show win0_2.index t 2 * 512 + 1 * j.val = j.val; rw [e2]; omega

theorem blk3 (t : Fin cfg0.N) (r : Fin 192) (j : Fin 128) : (iblk m c 3 t : Vec Ideal S1x192x128 .f32) (ix3 0 r j)
    = (m ((c : Thread nD τ).loc main_arg3) : S4x8256x128.Idx → EReal) (ix3 (bat t.val) ⟨192 * (t.val % 43) + r.val, by omega⟩ j) := by
  have ht := pt_lt t
  obtain ⟨e0, e1, e2⟩ := (index_in t).2.2.2
  unfold iblk
  rw [View.read_apply]
  show V m c main_arg3 _ = m (c.tc.loc main_arg3) _
  unfold V
  congr 1
  funext a
  apply Fin.ext
  match a with
  | ⟨0, _⟩ => show win0_3.index t 0 * 1 + 1 * 0 = t.val / 43 % 4; rw [e0]; omega
  | ⟨1, _⟩ => show win0_3.index t 1 * 192 + 1 * r.val = 192 * (t.val % 43) + r.val; rw [e1]; omega
  | ⟨2, _⟩ => show win0_3.index t 2 * 128 + 1 * j.val = j.val; rw [e2]; omega

/-! ## One point's outputs and states, over what the point before left -/

section
variable (t : Fin cfg0.N)

theorem states_first (h0 : t.val % 43 = 0) (h : Fin 4) (j : S1x128x128.Idx) : (outsAt0 m c t.val t.isLt).2 ((rectS h).emb j)
    = stateAt (iblk m c 1 t) (iblk m c 2 t) (iblk m c 3 t) (k0_pay2 (F := Ideal)) h 3 j := by
  refine (congrFun (congrArg Prod.snd (outsAt0_A m c t h0)) _).trans ?_
  have key := state_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0) h j
  with_reducible exact key

theorem states_next (h0 : ¬t.val % 43 = 0) (h : Fin 4) (j : S1x128x128.Idx) : (outsAt0 m c t.val t.isLt).2 ((rectS h).emb j)
    = stateAt (iblk m c 1 t) (iblk m c 2 t) (iblk m c 3 t) (outsAt0 m c (t.val - 1) (Nat.lt_of_le_of_lt (Nat.sub_le _ _) t.isLt)).2 h 3 j := by
  rw [outsAt0_B m c t h0]
  exact state_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (outsAt0 m c (t.val - 1) (Nat.lt_of_le_of_lt (Nat.sub_le _ _) t.isLt)).2 (fun h => h0 ((hcond0_0 t).mp h)) h j

theorem outs_first (h0 : t.val % 43 = 0) (cc : Fin 3) (h : Fin 4) (j : S1x64x128.Idx) : (outsAt0 m c t.val t.isLt).1 ((rectQ cc h).emb j)
    = chunkOut h (rowsQ (iblk m c 0 t) cc h) (rowsQ (iblk m c 1 t) cc h) (rowsQ (iblk m c 2 t) cc h) (rowsG (iblk m c 3 t) cc)
        (stateAt (iblk m c 1 t) (iblk m c 2 t) (iblk m c 3 t) (k0_pay2 (F := Ideal)) h cc.val) j := by
  refine (congrFun (congrArg Prod.fst (outsAt0_A m c t h0)) _).trans ?_
  have key := out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0) cc h j
  with_reducible exact key

theorem outs_next (h0 : ¬t.val % 43 = 0) (cc : Fin 3) (h : Fin 4) (j : S1x64x128.Idx) : (outsAt0 m c t.val t.isLt).1 ((rectQ cc h).emb j)
    = chunkOut h (rowsQ (iblk m c 0 t) cc h) (rowsQ (iblk m c 1 t) cc h) (rowsQ (iblk m c 2 t) cc h) (rowsG (iblk m c 3 t) cc)
        (stateAt (iblk m c 1 t) (iblk m c 2 t) (iblk m c 3 t) (outsAt0 m c (t.val - 1) (Nat.lt_of_le_of_lt (Nat.sub_le _ _) t.isLt)).2 h cc.val) j := by
  rw [outsAt0_B m c t h0]
  exact out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (outsAt0 m c (t.val - 1) (Nat.lt_of_le_of_lt (Nat.sub_le _ _) t.isLt)).2 (fun h => h0 ((hcond0_0 t).mp h)) cc h j

end

/-! ## All points -/

variable (xq xk xv : Fin 4 → ℕ → Fin 512 → ℝ) (xg : Fin 4 → ℕ → Fin 8 → ℝ)

/-- The arrays the run starts from are these real numbers. -/
abbrev RealsOf : Prop :=
  Delta.Ref.Reals (m ((c : Thread nD τ).loc main_arg0)) (m ((c : Thread nD τ).loc main_arg1)) (m ((c : Thread nD τ).loc main_arg2)) (m ((c : Thread nD τ).loc main_arg3)) xq xk xv xg

variable {m c xq xk xv xg} (H : RealsOf m c xq xk xv xg)
include H

theorem block (t : Fin cfg0.N) :
    Block xq xk xv xg (bat t.val) (192 * (t.val % 43)) (iblk m c 0 t) (iblk m c 1 t) (iblk m c 2 t) (iblk m c 3 t) where
  q := fun r j => (blk0 m c t r j).trans (H.q _ _ _)
  k := fun r j => (blk1 m c t r j).trans (H.k _ _ _)
  v := fun r j => (blk2 m c t r j).trans (H.v _ _ _)
  g := fun r j => (blk3 m c t r _).trans (H.g _ _ _)

omit H in
/-- The first point of a batch starts from zeros. -/
theorem zeros (b : Fin 4) (T : ℕ) (hT : T = 0) (h : Fin 4) (d e : Fin 128) :
    (k0_pay2 (F := Ideal)) (ix3 h d e) = ((stB xk xv xg b h T d e : ℝ) : EReal) := by
  subst hT
  pointwise [k0_pay2]
  simp [stB, st]

/-- The carried states after point `n`. -/
theorem states : ∀ (n : ℕ) (hn : n < cfg0.N) (h : Fin 4) (d e : Fin 128),
    (outsAt0 m c n hn).2 (ix3 h d e) = ((stB xk xv xg (bat n) h (192 * (n % 43) + 192) d e : ℝ) : EReal) := by
  intro n
  induction n with
  | zero =>
    intro hn h d e
    rw [← emb_S]
    refine (states_first m c ⟨0, hn⟩ rfl h (ix3 0 d e)).trans ?_
    exact state_real (block H ⟨0, hn⟩) (zeros _ _ rfl) h 3 le_rfl d e
  | succ n ih =>
    intro hn h d e
    by_cases h0 : (n + 1) % 43 = 0
    · rw [← emb_S]
      refine (states_first m c ⟨n + 1, hn⟩ h0 h (ix3 0 d e)).trans ?_
      exact state_real (block H ⟨n + 1, hn⟩) (zeros _ _ (by show 192 * ((n + 1) % 43) = 0; omega)) h 3 le_rfl d e
    · rw [← emb_S]
      refine (states_next m c ⟨n + 1, hn⟩ h0 h (ix3 0 d e)).trans ?_
      refine state_real (block H ⟨n + 1, hn⟩) (fun h d e => ?_) h 3 le_rfl d e
      have hb : bat (n + 1) = bat n := Fin.ext (by simp only [bat]; omega)
      have hT : 192 * ((n + 1) % 43) = 192 * (n % 43) + 192 := by omega
      show (outsAt0 m c n _).2 (ix3 h d e) = ((stB xk xv xg (bat (n + 1)) h (192 * ((n + 1) % 43)) d e : ℝ) : EReal)
      rw [ih, hb, hT]

/-- The output block of point `n`. -/
theorem outs (n : ℕ) (hn : n < cfg0.N) (cc : Fin 3) (h : Fin 4) (r : Fin 64) (e : Fin 128) :
    (outsAt0 m c n hn).1 (ix3 0 ⟨64 * cc.val + r.val, by omega⟩ (col h e))
      = ((outB xq xk xv xg (bat n) h (192 * (n % 43) + 64 * cc.val + r.val) e : ℝ) : EReal) := by
  by_cases h0 : n % 43 = 0
  · rw [← emb_Q]
    refine (outs_first m c ⟨n, hn⟩ h0 cc h (ix3 0 r e)).trans ?_
    exact out_real (block H ⟨n, hn⟩) (zeros _ _ (by show 192 * (n % 43) = 0; omega)) cc h r e
  · rw [← emb_Q]
    refine (outs_next m c ⟨n, hn⟩ h0 cc h (ix3 0 r e)).trans ?_
    refine out_real (block H ⟨n, hn⟩) (fun h d e => ?_) cc h r e
    have hb : bat n = bat (n - 1) := Fin.ext (by simp only [bat]; omega)
    have hT : 192 * (n % 43) = 192 * ((n - 1) % 43) + 192 := by omega
    show (outsAt0 m c (n - 1) _).2 (ix3 h d e) = ((stB xk xv xg (bat n) h (192 * (n % 43)) d e : ℝ) : EReal)
    rw [states H, hb, hT]

/-- The kernel's result. -/
theorem result (b : Fin 4) (t : Fin 8256) (h : Fin 4) (e : Fin 128) :
    (Cert.KernelIdeal.Value.G4 m c : S4x8256x512.Idx → EReal) (ix3 b t (col h e)) = ((outB xq xk xv xg b h t.val e : ℝ) : EReal) := by
  have hp : Cert.KernelIdeal.Value.pt4Of (ix3 b t (col h e)) = 43 * b.val + t.val / 192 := by
    show 43 * (b.val / 1 - 0) + 1 * (t.val / 192 - 0) + 1 * ((h.val * 128 + e.val) / 512 - 0) = _
    omega
  have hN : cfg0.N = 172 := N_0
  have hlt : 43 * b.val + t.val / 192 < cfg0.N := by rw [hN]; omega
  have hl : Cert.KernelIdeal.Value.loc4Of (ix3 b t (col h e))
      = ix3 0 ⟨64 * (t.val % 192 / 64) + t.val % 64, by omega⟩ (col h e) := by
    funext a
    apply Fin.ext
    match a with
    | ⟨0, _⟩ => show b.val % 1 = 0; omega
    | ⟨1, _⟩ => show t.val % 192 = 64 * (t.val % 192 / 64) + t.val % 64; omega
    | ⟨2, _⟩ => show (h.val * 128 + e.val) % 512 = h.val * 128 + e.val; omega
  unfold Cert.KernelIdeal.Value.G4
  rw [dif_pos (by rw [hp]; exact hlt), hl, ← Cert.KernelIdeal.Value.outsAt0_sweep m c _ (by rw [hp]; exact hlt)]
  have key := outs H (43 * b.val + t.val / 192) hlt ⟨t.val % 192 / 64, by omega⟩ h ⟨t.val % 64, by omega⟩ e
  have hb : bat (43 * b.val + t.val / 192) = b := Fin.ext (by simp only [bat]; omega)
  have hT : 192 * ((43 * b.val + t.val / 192) % 43) + 64 * (t.val % 192 / 64) + t.val % 64 = t.val := by omega
  simp only [hb, hT] at key
  rw [← key]
  congr 2
  simp only [hp]

end Delta.Points
-- ==== Proof.Finite.lean ====
/- The precondition read back: every entry the layer reads is a real number. -/
module

public import proofs.«01_k».proof.Pre_finite_inputs
public import proofs.«01_k».proof.Proof.RefLoop
public import Idealize.ShloMosaic.Lib.ReduceAll
public import Idealize.ShloMosaic.Lib.Pointwise
public import Idealize.ShloMosaic.Lib.ValueIdx

@[expose] public section

set_option backward.proofsInPublic true
set_option maxRecDepth 65536

noncomputable section

namespace Delta.Finite

open Idealize.ShloMosaic

/-- The shape relations the precondition states. -/
instance facts : Cert.Pre_finite_inputs.Facts where
  bcast_S_S4x8256x512 := by decide
  reducesTo_S4x8256x512_S_d0_1_2 := by decide
  h_S_ := by decide
  slices_S4x8256x128_S4x8256x8_0_0_0 := by decide
  bcast_S_S4x8256x8 := by decide
  reducesTo_S4x8256x8_S_d0_1_2 := by decide

instance one_index : Subsingleton (⟨0, ![]⟩ : Shape).Idx := ⟨fun _ _ => funext fun a => a.elim0⟩

/-- A number whose absolute value is below the format's infinity is real. -/
theorem real_of_lt (x : EReal) (h : FloatOps.cmpf (F := Ideal) (φ := .f32) .olt (FloatOps.absf (F := Ideal) (φ := .f32) x) ((FloatOps.ofBits FTy.f32 0x7F800000#32 : Ideal .f32)) = 1#1) :
    x = ((x.toReal : ℝ) : EReal) := by
  have hinf : (FloatOps.ofBits FTy.f32 0x7F800000#32 : Ideal .f32) = (⊤ : EReal) := by
    show Ideal.ofBits .f32 0x7F800000#32 = _
    simp [Ideal.ofBits, Ideal.ieee]
  rw [hinf] at h
  have hlt : max x (-x) < (⊤ : EReal) := by
    by_contra hn
    have : FloatOps.cmpf (F := Ideal) (φ := .f32) .olt (FloatOps.absf (F := Ideal) (φ := .f32) x) (⊤ : EReal) = 0#1 := by
      show BitVec.ofBool (decide (max x (-x) < (⊤ : EReal))) = 0#1
      rw [decide_eq_false hn]; rfl
    rw [this] at h
    exact absurd h (by decide)
  refine (EReal.coe_toReal ?_ ?_).symm
  · rintro rfl
    exact absurd hlt (by simp)
  · rintro rfl
    exact absurd hlt (by simp)

/-- The precondition's inputs are real numbers. -/
theorem reals (a0 a1 a2 : Cert.ReferenceIdeal.S4x8256x512.Idx → EReal) (a3 : Cert.ReferenceIdeal.S4x8256x128.Idx → EReal)
    (h : (Cert.Pre_finite_inputs.fn (F := Ideal) a0 a1 a2 a3) = fun _ => 1#1) :
    Delta.Ref.Reals a0 a1 a2 a3
      (fun b t j => (a0 (ix3 b ⟨t % 8256, by omega⟩ j)).toReal) (fun b t j => (a1 (ix3 b ⟨t % 8256, by omega⟩ j)).toReal)
      (fun b t j => (a2 (ix3 b ⟨t % 8256, by omega⟩ j)).toReal) (fun b t j => (a3 (ix3 b ⟨t % 8256, by omega⟩ ⟨j.val, by omega⟩)).toReal) := by
  let a3l : Cert.Pre_finite_inputs.S4x8256x8.Idx → EReal := extractStridedSlice Cert.Pre_finite_inputs.S4x8256x8 ![0, 0, 0] a3 Cert.Pre_finite_inputs.Facts.slices_S4x8256x128_S4x8256x8_0_0_0
  have h0 := congrFun h (fun a => a.elim0)
  obtain ⟨h012, h3⟩ := IntOp.andi_eq_one.1 h0
  obtain ⟨h01, h2⟩ := IntOp.andi_eq_one.1 h012
  obtain ⟨h0, h1⟩ := IntOp.andi_eq_one.1 h01
  have e0 : ∀ i, a0 i = (((a0 i).toReal : ℝ) : EReal) := fun i => real_of_lt (a0 i) (Host.reduce_andi_all _ _ _ _ _ h0 i)
  have e1 : ∀ i, a1 i = (((a1 i).toReal : ℝ) : EReal) := fun i => real_of_lt (a1 i) (Host.reduce_andi_all _ _ _ _ _ h1 i)
  have e2 : ∀ i, a2 i = (((a2 i).toReal : ℝ) : EReal) := fun i => real_of_lt (a2 i) (Host.reduce_andi_all _ _ _ _ _ h2 i)
  have e3 : ∀ i, a3l i = (((a3l i).toReal : ℝ) : EReal) := fun i => real_of_lt (a3l i) (Host.reduce_andi_all _ _ _ _ _ h3 i)
  have ht : ∀ t : Fin 8256, (⟨t.val % 8256, by omega⟩ : Fin 8256) = t := fun t => Fin.ext (Nat.mod_eq_of_lt t.isLt)
  refine ⟨fun b t j => ?_, fun b t j => ?_, fun b t j => ?_, fun b t j => ?_⟩
  · simp only [ht]; exact e0 (ix3 b t j)
  · simp only [ht]; exact e1 (ix3 b t j)
  · simp only [ht]; exact e2 (ix3 b t j)
  · simp only [ht]
    have := e3 (ix3 b t j)
    have hx : extractStridedSlice Cert.Pre_finite_inputs.S4x8256x8 ![0, 0, 0] a3 Cert.Pre_finite_inputs.Facts.slices_S4x8256x128_S4x8256x8_0_0_0 (ix3 b t j) = a3 (ix3 b t ⟨j.val, by omega⟩) := by
      pointwise
    rw [← hx]
    exact this

end Delta.Finite

end
-- ==== Proof.ProjBody.lean ====
/- What the in-projection's body stores at one grid point, piece by piece: the payloads of the rows it loads and of the
   rows carried from the block before. -/
module

public import proofs.«01_k».proof.Proof.Gen.Kernel2Ideal.Frame
public import Idealize.ShloMosaic.Lib.Tactic
public import Idealize.ShloMosaic.Lib.Pipeline.Value

@[expose] public section

set_option maxRecDepth 65536

noncomputable section

namespace Proj

open Idealize.ShloMosaic Idealize.ShloMosaic.TcCoe Idealize.SL.Sem Cert.Kernel2Ideal Cert.Kernel2Ideal.Gen

variable {F : FTy → Type} [FloatOps F]

/-- A load of a whole buffer. -/
def rd {S : Shape} {e : EltTy} (a : Memref sig .tc .vmem S e) (ha : a.IsWhole) (off : Fin S.rank → ℕ) (inb : ∀ b, off b + S.size b ≤ S.size b)
    (x : Vec F S e) : Vec F S e :=
  View.readAt (Elt F) a.view (Rect.unit (s := S) off S.size inb).toLoadRect (ha.unread x)

theorem rd_eq {S : Shape} {e : EltTy} (a : Memref sig .tc .vmem S e) (ha : a.IsWhole) {off : Fin S.rank → ℕ} (inb : ∀ b, off b + S.size b ≤ S.size b)
    (x : Vec F S e) (h : off = fun _ => 0) : rd a ha off inb x = x := by
  unfold rd
  rw [View.readAt_eq_ld, ha.read_unread]
  exact View.ld_unit_zero h inb x

theorem zeros3 : (![0, 0, 0] : Fin 3 → ℕ) = fun _ => 0 := by decide
theorem zeros2 : (![0, 0] : Fin 2 → ℕ) = fun _ => 0 := by decide
theorem rd3 {a b n : ℕ} {e : EltTy} (m : Memref sig .tc .vmem ⟨3, ![a, b, n]⟩ e) (hm : m.IsWhole) (inb) (x : Vec F ⟨3, ![a, b, n]⟩ e) :
    rd m hm ![0, 0, 0] inb x = x := rd_eq m hm inb x zeros3
theorem rd2 {a b : ℕ} {e : EltTy} (m : Memref sig .tc .vmem ⟨2, ![a, b]⟩ e) (hm : m.IsWhole) (inb) (x : Vec F ⟨2, ![a, b]⟩ e) :
    rd m hm ![0, 0] inb x = x := rd_eq m hm inb x zeros2

/-! ## The heads' places in a block -/

theorem inbH (e : Fin 4) : ∀ x, (![0, 0, 128 * e.val] : Fin 3 → ℕ) x + S1x688x128.size x ≤ S1x688x512.size x := by
  revert e; decide +kernel

abbrev rectH (e : Fin 4) : Rect S1x688x512 := Rect.unit (s := S1x688x512) ![0, 0, 128 * e.val] S1x688x128.size (inbH e)

abbrev pieceH (e : Fin 4) (w : Vec F S1x688x128 .f32) : View.Piece (Elt F) S1x688x512 .f32 := ⟨rectH e, w⟩

section
variable (i : grid0.Coords) (x0 : Vec F S1x688x1024 .f32) (x1 : Vec F S1024x1536 .bf16) (x2 : Vec F S1024x1536 .bf16) (x3 : Vec F S1024x512 .bf16) (x4 : Vec F S1024x128 .bf16) (x5 : Vec F S3x512 .f32) (x6 : Vec F S4x1536 .f32) (x7 : Vec F S1x128 .f32) (x8 : Vec F S1x128 .f32) (s0 : Vec F S8x512 .f32) (s1 : Vec F S8x1536 .f32)
  (b0 : List (View.Piece (Elt F) S8x512 .f32)) (b1 : List (View.Piece (Elt F) S8x1536 .f32))

abbrev P9 : List (View.Piece (Elt F) S1x688x512 .bf16) :=
  [⟨Rect.unit (s := S1x688x512) ![0, 0, 0] S1x688x512.size inb_S1x688x512_S1x688x512_0_0_0, k0_pay12 (k0_pay8 x0 x1) x5 (k0_pay9 i x0 x1 x5) (k0_pay10 i x0 x1 s0) (k0_pay11 x5)⟩]
def qw : Fin 4 → Vec F S1x688x128 .f32
  | 0 => k0_pay21 (k0_pay20 (k0_pay14 (k0_pay4 x0) (k0_pay5 i) x2) s1 x6 (k0_pay15 (k0_pay4 x0) (k0_pay5 i) x2 x6) (k0_pay16 (k0_pay4 x0) (k0_pay5 i) x2))
  | 1 => k0_pay23 (k0_pay17 (k0_pay14 (k0_pay4 x0) (k0_pay5 i) x2) s1 x6 (k0_pay15 (k0_pay4 x0) (k0_pay5 i) x2 x6) (k0_pay16 (k0_pay4 x0) (k0_pay5 i) x2))
  | 2 => k0_pay28 (k0_pay25 (k0_pay17 (k0_pay14 (k0_pay4 x0) (k0_pay5 i) x2) s1 x6 (k0_pay15 (k0_pay4 x0) (k0_pay5 i) x2 x6) (k0_pay16 (k0_pay4 x0) (k0_pay5 i) x2))) (k0_pay27 (k0_pay17 (k0_pay14 (k0_pay4 x0) (k0_pay5 i) x2) s1 x6 (k0_pay15 (k0_pay4 x0) (k0_pay5 i) x2 x6) (k0_pay16 (k0_pay4 x0) (k0_pay5 i) x2)))
  | 3 => k0_pay31 (k0_pay17 (k0_pay14 (k0_pay4 x0) (k0_pay5 i) x2) s1 x6 (k0_pay15 (k0_pay4 x0) (k0_pay5 i) x2 x6) (k0_pay16 (k0_pay4 x0) (k0_pay5 i) x2))
def kw : Fin 4 → Vec F S1x688x128 .f32
  | 0 => k0_pay22 (k0_pay19 (k0_pay14 (k0_pay4 x0) (k0_pay5 i) x2) s1 x6 (k0_pay15 (k0_pay4 x0) (k0_pay5 i) x2 x6) (k0_pay16 (k0_pay4 x0) (k0_pay5 i) x2))
  | 1 => k0_pay24 (k0_pay17 (k0_pay14 (k0_pay4 x0) (k0_pay5 i) x2) s1 x6 (k0_pay15 (k0_pay4 x0) (k0_pay5 i) x2 x6) (k0_pay16 (k0_pay4 x0) (k0_pay5 i) x2))
  | 2 => k0_pay29 (k0_pay26 (k0_pay17 (k0_pay14 (k0_pay4 x0) (k0_pay5 i) x2) s1 x6 (k0_pay15 (k0_pay4 x0) (k0_pay5 i) x2 x6) (k0_pay16 (k0_pay4 x0) (k0_pay5 i) x2)))
  | 3 => k0_pay33 (k0_pay30 (k0_pay17 (k0_pay14 (k0_pay4 x0) (k0_pay5 i) x2) s1 x6 (k0_pay15 (k0_pay4 x0) (k0_pay5 i) x2 x6) (k0_pay16 (k0_pay4 x0) (k0_pay5 i) x2))) (k0_pay32 (k0_pay17 (k0_pay14 (k0_pay4 x0) (k0_pay5 i) x2) s1 x6 (k0_pay15 (k0_pay4 x0) (k0_pay5 i) x2 x6) (k0_pay16 (k0_pay4 x0) (k0_pay5 i) x2)))
abbrev P10 : List (View.Piece (Elt F) S1x688x512 .f32) :=
  [pieceH 3 (qw i x0 x2 x6 s1 3), pieceH 2 (qw i x0 x2 x6 s1 2), pieceH 1 (qw i x0 x2 x6 s1 1), pieceH 0 (qw i x0 x2 x6 s1 0)]
abbrev P11 : List (View.Piece (Elt F) S1x688x512 .f32) :=
  [pieceH 3 (kw i x0 x2 x6 s1 3), pieceH 2 (kw i x0 x2 x6 s1 2), pieceH 1 (kw i x0 x2 x6 s1 1), pieceH 0 (kw i x0 x2 x6 s1 0)]
abbrev P12 : List (View.Piece (Elt F) S1x688x512 .f32) :=
  [⟨Rect.unit (s := S1x688x512) ![0, 0, 0] S1x688x512.size inb_S1x688x512_S1x688x512_0_0_0, k0_pay34 (k0_pay17 (k0_pay14 (k0_pay4 x0) (k0_pay5 i) x2) s1 x6 (k0_pay15 (k0_pay4 x0) (k0_pay5 i) x2 x6) (k0_pay16 (k0_pay4 x0) (k0_pay5 i) x2))⟩]
abbrev P13 : List (View.Piece (Elt F) S1x688x512 .bf16) := [⟨Rect.unit (s := S1x688x512) ![0, 0, 0] S1x688x512.size inb_S1x688x512_S1x688x512_0_0_0, k0_pay35 (k0_pay4 x0) x3⟩]
abbrev P14 : List (View.Piece (Elt F) S1x688x128 .f32) :=
  [⟨Rect.unit (s := S1x688x128) ![0, 0, 0] S1x688x128.size inb_S1x688x128_S1x688x128_0_0_0, k0_pay1 (k0_pay5 i) (k0_pay36 (k0_pay4 x0) x4) (k0_pay37 (k0_pay4 x0) x4 x8) (k0_pay38 x7)⟩]
abbrev PS0 : List (View.Piece (Elt F) S8x512 .f32) := ⟨Rect.unit (s := S8x512) ![0, 0] S8x512.size inb_S8x512_S8x512_0_0, k0_pay13 (k0_pay7 i x0 x1)⟩ :: b0
abbrev PS1 : List (View.Piece (Elt F) S8x1536 .f32) := ⟨Rect.unit (s := S8x1536) ![0, 0] S8x1536.size inb_S8x1536_S8x1536_0_0, k0_pay18 (k0_pay14 (k0_pay4 x0) (k0_pay5 i) x2)⟩ :: b1
abbrev zero0 : View.Piece (Elt F) S8x512 .f32 := ⟨Rect.unit (s := S8x512) ![0, 0] S8x512.size inb_S8x512_S8x512_0_0, k0_pay2⟩
abbrev zero1 : View.Piece (Elt F) S8x1536 .f32 := ⟨Rect.unit (s := S8x1536) ![0, 0] S8x1536.size inb_S8x1536_S8x1536_0_0, k0_pay3⟩
end

section
variable (c : Dev nD) (i : grid0.Coords)
  (arg2 : Memref sig .tc .vmem S1x688x1024 .f32) (harg2 : arg2.IsWhole)
  (arg3 : Memref sig .tc .vmem S1024x1536 .bf16) (harg3 : arg3.IsWhole)
  (arg4 : Memref sig .tc .vmem S1024x1536 .bf16) (harg4 : arg4.IsWhole)
  (arg5 : Memref sig .tc .vmem S1024x512 .bf16) (harg5 : arg5.IsWhole)
  (arg6 : Memref sig .tc .vmem S1024x128 .bf16) (harg6 : arg6.IsWhole)
  (arg7 : Memref sig .tc .vmem S3x512 .f32) (harg7 : arg7.IsWhole)
  (arg8 : Memref sig .tc .vmem S4x1536 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x688x512 .bf16) (harg11 : arg11.IsWhole)
  (arg12 : Memref sig .tc .vmem S1x688x512 .f32) (harg12 : arg12.IsWhole)
  (arg13 : Memref sig .tc .vmem S1x688x512 .f32) (harg13 : arg13.IsWhole)
  (arg14 : Memref sig .tc .vmem S1x688x512 .f32) (harg14 : arg14.IsWhole)
  (arg15 : Memref sig .tc .vmem S1x688x512 .bf16) (harg15 : arg15.IsWhole)
  (arg16 : Memref sig .tc .vmem S1x688x128 .f32) (harg16 : arg16.IsWhole)
  (arg17 : Memref sig .tc .vmem S8x512 .f32) (harg17 : arg17.IsWhole)
  (arg18 : Memref sig .tc .vmem S8x1536 .f32) (harg18 : arg18.IsWhole)
  (x0 : Vec F S1x688x1024 .f32) (x1 : Vec F S1024x1536 .bf16) (x2 : Vec F S1024x1536 .bf16) (x3 : Vec F S1024x512 .bf16) (x4 : Vec F S1024x128 .bf16) (x5 : Vec F S3x512 .f32) (x6 : Vec F S4x1536 .f32) (x7 : Vec F S1x128 .f32) (x8 : Vec F S1x128 .f32) (xs0 : Vec F S8x512 .f32) (xs1 : Vec F S8x1536 .f32)

/-- The stores of a point that is not a batch's first. -/
theorem stores_next (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).1 = P9 i (rd arg2 harg2 ![0, 0, 0] inb_S1x688x1024_S1x688x1024_0_0_0 x0) (rd arg3 harg3 ![0, 0] inb_S1024x1536_S1024x1536_0_0 x1) (rd arg7 harg7 ![0, 0] inb_S3x512_S3x512_0_0 x5) (rd arg17 harg17 ![0, 0] inb_S8x512_S8x512_0_0 xs0)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.1 = P10 i (rd arg2 harg2 ![0, 0, 0] inb_S1x688x1024_S1x688x1024_0_0_0 x0) (rd arg4 harg4 ![0, 0] inb_S1024x1536_S1024x1536_0_0 x2) (rd arg8 harg8 ![0, 0] inb_S4x1536_S4x1536_0_0 x6) (rd arg18 harg18 ![0, 0] inb_S8x1536_S8x1536_0_0 xs1)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.1 = P11 i (rd arg2 harg2 ![0, 0, 0] inb_S1x688x1024_S1x688x1024_0_0_0 x0) (rd arg4 harg4 ![0, 0] inb_S1024x1536_S1024x1536_0_0 x2) (rd arg8 harg8 ![0, 0] inb_S4x1536_S4x1536_0_0 x6) (rd arg18 harg18 ![0, 0] inb_S8x1536_S8x1536_0_0 xs1)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.1 = P12 i (rd arg2 harg2 ![0, 0, 0] inb_S1x688x1024_S1x688x1024_0_0_0 x0) (rd arg4 harg4 ![0, 0] inb_S1024x1536_S1024x1536_0_0 x2) (rd arg8 harg8 ![0, 0] inb_S4x1536_S4x1536_0_0 x6) (rd arg18 harg18 ![0, 0] inb_S8x1536_S8x1536_0_0 xs1)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.1 = P13 (rd arg2 harg2 ![0, 0, 0] inb_S1x688x1024_S1x688x1024_0_0_0 x0) (rd arg5 harg5 ![0, 0] inb_S1024x512_S1024x512_0_0 x3)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.2.1 = P14 i (rd arg2 harg2 ![0, 0, 0] inb_S1x688x1024_S1x688x1024_0_0_0 x0) (rd arg6 harg6 ![0, 0] inb_S1024x128_S1024x128_0_0 x4) (rd arg9 harg9 ![0, 0] inb_S1x128_S1x128_0_0 x7) (rd arg10 harg10 ![0, 0] inb_S1x128_S1x128_0_0 x8)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.2.2.1 = PS0 i (rd arg2 harg2 ![0, 0, 0] inb_S1x688x1024_S1x688x1024_0_0_0 x0) (rd arg3 harg3 ![0, 0] inb_S1024x1536_S1024x1536_0_0 x1) []
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.2.2.2.1 = PS1 i (rd arg2 harg2 ![0, 0, 0] inb_S1x688x1024_S1x688x1024_0_0_0 x0) (rd arg4 harg4 ![0, 0] inb_S1024x1536_S1024x1536_0_0 x2) [] := by
  refine ⟨?_, ?_, ?_, ?_, ?_, ?_, ?_, ?_⟩ <;> sl_kernel_rfl

/-- The stores of a batch's first point. -/
theorem stores_first (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).1 = P9 i (rd arg2 harg2 ![0, 0, 0] inb_S1x688x1024_S1x688x1024_0_0_0 x0) (rd arg3 harg3 ![0, 0] inb_S1024x1536_S1024x1536_0_0 x1) (rd arg7 harg7 ![0, 0] inb_S3x512_S3x512_0_0 x5) (arg17.view.readCov [zero0] (Rect.unit (s := S8x512) ![0, 0] S8x512.size inb_S8x512_S8x512_0_0).toLoadRect)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.1 = P10 i (rd arg2 harg2 ![0, 0, 0] inb_S1x688x1024_S1x688x1024_0_0_0 x0) (rd arg4 harg4 ![0, 0] inb_S1024x1536_S1024x1536_0_0 x2) (rd arg8 harg8 ![0, 0] inb_S4x1536_S4x1536_0_0 x6) (arg18.view.readCov [zero1] (Rect.unit (s := S8x1536) ![0, 0] S8x1536.size inb_S8x1536_S8x1536_0_0).toLoadRect)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.1 = P11 i (rd arg2 harg2 ![0, 0, 0] inb_S1x688x1024_S1x688x1024_0_0_0 x0) (rd arg4 harg4 ![0, 0] inb_S1024x1536_S1024x1536_0_0 x2) (rd arg8 harg8 ![0, 0] inb_S4x1536_S4x1536_0_0 x6) (arg18.view.readCov [zero1] (Rect.unit (s := S8x1536) ![0, 0] S8x1536.size inb_S8x1536_S8x1536_0_0).toLoadRect)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.1 = P12 i (rd arg2 harg2 ![0, 0, 0] inb_S1x688x1024_S1x688x1024_0_0_0 x0) (rd arg4 harg4 ![0, 0] inb_S1024x1536_S1024x1536_0_0 x2) (rd arg8 harg8 ![0, 0] inb_S4x1536_S4x1536_0_0 x6) (arg18.view.readCov [zero1] (Rect.unit (s := S8x1536) ![0, 0] S8x1536.size inb_S8x1536_S8x1536_0_0).toLoadRect)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.1 = P13 (rd arg2 harg2 ![0, 0, 0] inb_S1x688x1024_S1x688x1024_0_0_0 x0) (rd arg5 harg5 ![0, 0] inb_S1024x512_S1024x512_0_0 x3)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.1 = P14 i (rd arg2 harg2 ![0, 0, 0] inb_S1x688x1024_S1x688x1024_0_0_0 x0) (rd arg6 harg6 ![0, 0] inb_S1024x128_S1024x128_0_0 x4) (rd arg9 harg9 ![0, 0] inb_S1x128_S1x128_0_0 x7) (rd arg10 harg10 ![0, 0] inb_S1x128_S1x128_0_0 x8)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.1 = PS0 i (rd arg2 harg2 ![0, 0, 0] inb_S1x688x1024_S1x688x1024_0_0_0 x0) (rd arg3 harg3 ![0, 0] inb_S1024x1536_S1024x1536_0_0 x1) [zero0]
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.2.1 = PS1 i (rd arg2 harg2 ![0, 0, 0] inb_S1x688x1024_S1x688x1024_0_0_0 x0) (rd arg4 harg4 ![0, 0] inb_S1024x1536_S1024x1536_0_0 x2) [zero1] := by
  refine ⟨?_, ?_, ?_, ?_, ?_, ?_, ?_, ?_⟩ <;> sl_kernel_rfl

/-- What a point that is not a batch's first leaves. -/
theorem left_next (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (P9 i x0 x1 x5 xs0)
    ∧ out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (P10 i x0 x2 x6 xs1)
    ∧ out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (P11 i x0 x2 x6 xs1)
    ∧ out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (P12 i x0 x2 x6 xs1)
    ∧ out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (P13 x0 x3)
    ∧ out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (P14 i x0 x4 x7 x8)
    ∧ sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (PS0 i x0 x1 [])
    ∧ sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 = View.canon (PS1 i x0 x2 [])
    := by
  have h := stores_next c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 hc0
  simp only [rd3, rd2] at h
  obtain ⟨h9, h10, h11, h12, h13, h14, h17, h18⟩ := h
  refine ⟨?_, ?_, ?_, ?_, ?_, ?_, ?_, ?_⟩
  · unfold out0_B_9; rw [View.read_writes_junk_eq_canon, h9]
  · unfold out0_B_10; rw [View.read_writes_junk_eq_canon, h10]
  · unfold out0_B_11; rw [View.read_writes_junk_eq_canon, h11]
  · unfold out0_B_12; rw [View.read_writes_junk_eq_canon, h12]
  · unfold out0_B_13; rw [View.read_writes_junk_eq_canon, h13]
  · unfold out0_B_14; rw [View.read_writes_junk_eq_canon, h14]
  · unfold sout0_B_0; rw [View.read_writes_junk_eq_canon, h17]
  · unfold sout0_B_1; rw [View.read_writes_junk_eq_canon, h18]

/-- What a batch's first point leaves. -/
theorem left_first (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (P9 i x0 x1 x5 k0_pay2)
    ∧ out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (P10 i x0 x2 x6 k0_pay3)
    ∧ out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (P11 i x0 x2 x6 k0_pay3)
    ∧ out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (P12 i x0 x2 x6 k0_pay3)
    ∧ out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (P13 x0 x3)
    ∧ out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (P14 i x0 x4 x7 x8)
    ∧ sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (PS0 i x0 x1 [zero0])
    ∧ sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = View.canon (PS1 i x0 x2 [zero1])
    := by
  have h := stores_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0
  simp only [rd3, rd2, View.readCov_cons_toLoadRect] at h
  obtain ⟨h9, h10, h11, h12, h13, h14, h17, h18⟩ := h
  refine ⟨?_, ?_, ?_, ?_, ?_, ?_, ?_, ?_⟩
  · unfold out0_A_9; rw [View.read_writes_junk_eq_canon, h9]
  · unfold out0_A_10; rw [View.read_writes_junk_eq_canon, h10]
  · unfold out0_A_11; rw [View.read_writes_junk_eq_canon, h11]
  · unfold out0_A_12; rw [View.read_writes_junk_eq_canon, h12]
  · unfold out0_A_13; rw [View.read_writes_junk_eq_canon, h13]
  · unfold out0_A_14; rw [View.read_writes_junk_eq_canon, h14]
  · unfold sout0_A_0; rw [View.read_writes_junk_eq_canon, h17]
  · unfold sout0_A_1; rw [View.read_writes_junk_eq_canon, h18]
end

end Proj

end
-- ==== Proof.ProjConv.lean ====
/- The in-projection's blocks over the extended reals: the masked products a block carries to the next one, and the two
   short convolutions over them. -/
module

public import proofs.«01_k».proof.Proof.Gen.Kernel2Ideal.Skeleton
public import Idealize.ShloMosaic.Lib.Pointwise

@[expose] public section

set_option backward.proofsInPublic true
set_option maxRecDepth 65536

noncomputable section

namespace Proj

open Idealize.ShloMosaic Cert.Kernel2Ideal Cert.Kernel2Ideal.Gen

/-! ## The functions computed, over one batch's rows `X`

Rows are counted with an offset of eight: row `T` of these functions is token `T - 8`, so that the rows before the
first token have indices too. Tokens below 48 are padding. -/

section
variable (X : ℕ → Fin 1024 → EReal)

/-- A row against a column. -/
def dotW {n : ℕ} (w : (⟨2, ![1024, n]⟩ : Shape).Idx → EReal) (t : ℕ) (j : Fin n) : EReal := ∑ k : Fin 1024, X t k * w (ix2 k j)

/-- The gated branch of the convolution: zero on padding. -/
def gate (wc : (⟨2, ![1024, 1536]⟩ : Shape).Idx → EReal) (T : ℕ) (j : Fin 512) : EReal :=
  if 56 ≤ T then dotW X wc (T - 8) ⟨512 + j.val, by omega⟩ * dotW X wc (T - 8) ⟨1024 + j.val, by omega⟩ else 0

/-- The queries, keys and values before their convolution: zero on padding. -/
def raw (wqkv : (⟨2, ![1024, 1536]⟩ : Shape).Idx → EReal) (T : ℕ) (j : Fin 1536) : EReal :=
  if 56 ≤ T then dotW X wqkv (T - 8) j else 0
end

/-- A convolution of three taps ending at row `T`. -/
def conv3 {n : ℕ} (U : ℕ → Fin n → EReal) (w : (⟨2, ![3, n]⟩ : Shape).Idx → EReal) (T : ℕ) (j : Fin n) : EReal :=
  U T j * w (ix2 2 j) + U (T - 1) j * w (ix2 1 j) + U (T - 2) j * w (ix2 0 j)

/-- A convolution of four taps ending at row `T`. -/
def conv4 {n : ℕ} (U : ℕ → Fin n → EReal) (w : (⟨2, ![4, n]⟩ : Shape).Idx → EReal) (T : ℕ) (j : Fin n) : EReal :=
  U T j * w (ix2 3 j) + U (T - 1) j * w (ix2 2 j) + U (T - 2) j * w (ix2 1 j) + U (T - 3) j * w (ix2 0 j)

/-- A number times its logistic. -/
def silu (x : EReal) : EReal := x * Ideal.logistic x

/-- A head's row over its length (the sum of squares is offset by the reference's small constant). -/
def unit (f : Fin 128 → EReal) (d : Fin 128) : EReal :=
  f d * Ideal.rsqrt (∑ x, f x * f x + Ideal.ofBits FTy.f32 897988541#32)

/-- The decays (lanes 0 to 3) and write strengths (the other lanes): zero on padding. -/
def gates (X : ℕ → Fin 1024 → EReal) (w : (⟨2, ![1024, 128]⟩ : Shape).Idx → EReal) (a b : (⟨2, ![1, 128]⟩ : Shape).Idx → EReal)
    (T : ℕ) (l : Fin 128) : EReal :=
  if 56 ≤ T then
    if l.val < 4 then
      (0 - Ideal.exp (a (ix2 0 l))) * (max (dotW X w (T - 8) l + b (ix2 0 l)) 0
        + Ideal.log1p (Ideal.exp (0 - (FloatOps.absf (F := Ideal) (φ := .f32) (dotW X w (T - 8) l + b (ix2 0 l)) : EReal))))
    else Ideal.logistic (dotW X w (T - 8) l)
  else 0

/-! ## One block: tokens `688 * p` to `688 * p + 687` -/

section
variable {X : ℕ → Fin 1024 → EReal} {p : ℕ} (hp : p < 12) {i : grid0.Coords} (hi : (i 1).val = p)
  {x0 : Vec Ideal S1x688x1024 .f32} (hx : ∀ (r : Fin 688) k, x0 (ix3 0 r k) = X (688 * p + r.val) k)

include hp hi in
theorem mask_at (r : Fin 688) : k0_pay5 i (ix2 r 0) = BitVec.ofBool (decide (48 ≤ 688 * p + r.val)) := by
  pointwise [k0_pay5]
  rw [hi]
  have hr := r.isLt
  have e : IntOp.addi (Scalar.muli (BitVec.ofNat 32 p) 688#32) (BitVec.ofNat 32 r.val) = BitVec.ofNat 32 (688 * p + r.val) := by
    apply BitVec.eq_of_toNat_eq
    simp only [IntOp.addi, Scalar.muli, IntOp.muli, BitVec.toNat_add, BitVec.toNat_mul, BitVec.toNat_ofNat]
    omega
  rw [e]
  show BitVec.ofBool (BitVec.sle 48#32 (BitVec.ofNat 32 (688 * p + r.val))) = _
  congr 1
  rw [BitVec.sle_eq_decide, decide_eq_decide, BitVec.toInt_eq_toNat_of_lt (by simp), BitVec.toInt_eq_toNat_of_lt (by rw [BitVec.toNat_ofNat, Nat.mod_eq_of_lt (by omega)]; omega)]
  simp only [BitVec.toNat_ofNat]
  omega

theorem select_ofBool {α : Type} (P : Prop) [Decidable P] (a b : α) : Scalar.select (BitVec.ofBool (decide P)) a b = if P then a else b := by
  by_cases h : P <;> simp [Scalar.select, h]

include hx in
theorem rows_at (r : Fin 688) (k : Fin 1024) : k0_pay4 (F := Ideal) x0 (ix2 r k) = X (688 * p + r.val) k := by
  rw [← hx]
  pointwise [k0_pay4]

include hx in
theorem dot_at (wc : Vec Ideal S1024x1536 .bf16) (r : Fin 688) (j : Fin 1536) :
    k0_pay6 (F := Ideal) x0 wc (ix2 r j) = dotW X wc (688 * p + r.val) j := by
  pointwise [k0_pay6, rows_at hx, dotW]

include hp hi hx in
theorem gate_at (wc : Vec Ideal S1024x1536 .bf16) (r : Fin 688) (j : Fin 512) :
    k0_pay7 (F := Ideal) i x0 wc (ix2 r j) = gate X wc (688 * p + 8 + r.val) j := by
  pointwise [k0_pay7]
  rw [mask_at hp hi, dot_at hx, dot_at hx, gate]
  have e : 688 * p + 8 + r.val - 8 = 688 * p + r.val := by omega
  rw [e, select_ofBool]
  exact if_congr (by omega) rfl rfl

include hp hi hx in
theorem raw_at (w : Vec Ideal S1024x1536 .bf16) (r : Fin 688) (j : Fin 1536) :
    k0_pay14 (F := Ideal) (k0_pay4 x0) (k0_pay5 i) w (ix2 r j) = raw X w (688 * p + 8 + r.val) j := by
  pointwise [k0_pay14, rows_at hx]
  have e : 688 * p + 8 + r.val - 8 = 688 * p + r.val := by omega
  rw [mask_at hp hi, select_ofBool, raw, e]
  exact if_congr (by omega) rfl rfl

/-- A row of the block's head: from the rows carried, then from the block. -/
theorem head_at {n : ℕ} {U : ℕ → Fin n → EReal} {xs : (⟨2, ![8, n]⟩ : Shape).Idx → EReal}
    (hs : ∀ (r : Fin 8) j, xs (ix2 r j) = U (688 * p + r.val) j) {r s : ℕ} (hr : r < 8) (h1 : 1 ≤ s) (h8 : s ≤ 8) (j : Fin n) :
    (if h : (8 + r + 16 - s) % 16 < 8 then xs (ix2 ⟨(8 + r + 16 - s) % 16, h⟩ j) else U (688 * p + 8 + ((8 + r + 16 - s) % 16 - 8)) j)
      = U (688 * p + 8 + r - s) j := by
  split
  · rw [hs]; congr 1; show 688 * p + (8 + r + 16 - s) % 16 = _; omega
  · congr 1; omega

/-- A row of the block's rest. -/
theorem rest_at {n : ℕ} {U : ℕ → Fin n → EReal} {r s : ℕ} (hr : ¬ r < 8) (hr2 : r < 688) (h8 : s ≤ 8) (j : Fin n) :
    U (688 * p + 8 + (8 + (r - 8) + 688 - s) % 688) j = U (688 * p + 8 + r - s) j := by
  congr 1; omega

include hp hi hx in
/-- The stored convolution branch. -/
theorem yconv_at (wc : Vec Ideal S1024x1536 .bf16) (cw : Vec Ideal S3x512 .f32) (xs : Vec Ideal S8x512 .f32)
    (hs : ∀ (r : Fin 8) j, xs (ix2 r j) = gate X wc (688 * p + r.val) j) (r : Fin 688) (j : Fin 512) :
    k0_pay12 (F := Ideal) (k0_pay8 x0 wc) cw (k0_pay9 i x0 wc cw) (k0_pay10 i x0 wc xs) (k0_pay11 cw) (ix3 0 r j)
      = dotW X wc (688 * p + r.val) ⟨j.val, by omega⟩ * conv3 (gate X wc) cw (688 * p + 8 + r.val) j := by
  pointwise [k0_pay12, k0_pay8, k0_pay9, k0_pay10, k0_pay11, dot_at hx, gate_at hp hi hx]
  congr 1
  split
  · next h => rw [head_at hs h (by decide) (by decide), head_at hs h (by decide) (by decide)]; rfl
  · next h =>
    have e : 688 * p + 8 + (8 + (r.val - 8)) = 688 * p + 8 + r.val := by omega
    rw [rest_at (U := gate X wc) (s := 1) h r.isLt (by decide), rest_at (U := gate X wc) (s := 2) h r.isLt (by decide), e]; rfl

/-- The block's queries, keys and values after their convolution. -/
def act (i : grid0.Coords) (x0 : Vec Ideal S1x688x1024 .f32) (w : Vec Ideal S1024x1536 .bf16) (g : Vec Ideal S4x1536 .f32)
    (xs : Vec Ideal S8x1536 .f32) : Vec Ideal S688x1536 .f32 :=
  k0_pay17 (F := Ideal) (k0_pay14 (k0_pay4 x0) (k0_pay5 i) w) xs g (k0_pay15 (k0_pay4 x0) (k0_pay5 i) w g) (k0_pay16 (k0_pay4 x0) (k0_pay5 i) w)

include hp hi hx in
theorem act_at (w : Vec Ideal S1024x1536 .bf16) (g : Vec Ideal S4x1536 .f32) (xs : Vec Ideal S8x1536 .f32)
    (hs : ∀ (r : Fin 8) j, xs (ix2 r j) = raw X w (688 * p + r.val) j) (r : Fin 688) (j : Fin 1536) :
    act i x0 w g xs (ix2 r j) = silu (conv4 (raw X w) g (688 * p + 8 + r.val) j) := by
  pointwise [act, k0_pay17, k0_pay15, k0_pay16, raw_at hp hi hx]
  refine congrArg silu ?_
  split
  · next h => rw [head_at hs h (by decide) (by decide), head_at hs h (by decide) (by decide), head_at hs h (by decide) (by decide)]; rfl
  · next h =>
    have e : 688 * p + 8 + (8 + (r.val - 8)) = 688 * p + 8 + r.val := by omega
    rw [rest_at (U := raw X w) (s := 1) h r.isLt (by decide), rest_at (U := raw X w) (s := 2) h r.isLt (by decide), rest_at (U := raw X w) (s := 3) h r.isLt (by decide), e]; rfl

include hx in
/-- The stored gate. -/
theorem sz_at (w : Vec Ideal S1024x512 .bf16) (r : Fin 688) (d : Fin 512) :
    k0_pay35 (F := Ideal) (k0_pay4 x0) w (ix3 0 r d) = silu (dotW X w (688 * p + r.val) d) := by
  pointwise [k0_pay35, rows_at hx]
  rfl

include hp hi hx in
/-- The stored decays and write strengths. -/
theorem gb_at (w : Vec Ideal S1024x128 .bf16) (a b : Vec Ideal S1x128 .f32) (r : Fin 688) (d : Fin 128) :
    k0_pay1 (F := Ideal) (k0_pay5 i) (k0_pay36 (k0_pay4 x0) w) (k0_pay37 (k0_pay4 x0) w b) (k0_pay38 a) (ix3 0 r d)
      = gates X w a b (688 * p + 8 + r.val) d := by
  pointwise [k0_pay1, k0_pay36, k0_pay37, k0_pay38, rows_at hx]
  have e : 688 * p + 8 + r.val - 8 = 688 * p + r.val := by omega
  have e4 : IntOp.cmpi CmpIPredicate.slt (BitVec.ofNat 32 d.val) 4#32 = BitVec.ofBool (decide (d.val < 4)) := by
    have hd := d.isLt
    show BitVec.ofBool (BitVec.slt (BitVec.ofNat 32 d.val) 4#32) = _
    congr 1
    rw [BitVec.slt_eq_decide, decide_eq_decide, BitVec.toInt_eq_toNat_of_lt (by rw [BitVec.toNat_ofNat]; omega), BitVec.toInt_eq_toNat_of_lt (by simp)]
    simp only [BitVec.toNat_ofNat]
    omega
  rw [mask_at hp hi, select_ofBool, e4, select_ofBool, gates, e]
  exact if_congr (by omega) rfl rfl

include hp hi hx in
theorem carry_gate_at (wc : Vec Ideal S1024x1536 .bf16) (r : Fin 8) (j : Fin 512) :
    k0_pay13 (F := Ideal) (k0_pay7 i x0 wc) (ix2 r j) = gate X wc (688 * (p + 1) + r.val) j := by
  pointwise [k0_pay13, gate_at hp hi hx]
  congr 1
  show 688 * p + 8 + (680 + r.val) = _
  omega

include hp hi hx in
theorem carry_raw_at (w : Vec Ideal S1024x1536 .bf16) (r : Fin 8) (j : Fin 1536) :
    k0_pay18 (F := Ideal) (k0_pay14 (k0_pay4 x0) (k0_pay5 i) w) (ix2 r j) = raw X w (688 * (p + 1) + r.val) j := by
  pointwise [k0_pay18, raw_at hp hi hx]
  congr 1
  show 688 * p + 8 + (680 + r.val) = _
  omega

end

/-! ## The heads' pieces, over any block of activations -/

theorem v_at (v : FVec Ideal S688x1536 .f32) (r : Fin 688) (d : Fin 512) :
    k0_pay34 (F := Ideal) v (ix3 0 r d) = v (ix2 r ⟨1024 + d.val, by omega⟩) := by
  pointwise [k0_pay34]

theorem q0_at (v69 : FVec Ideal S688x1536 .f32) (v70 : Vec Ideal S8x1536 .f32) (v71 : Vec Ideal S4x1536 .f32) (v79 v80 : FVec Ideal S688x1536 .f32) (r : Fin 688) (d : Fin 128) :
    k0_pay21 (F := Ideal) (k0_pay20 v69 v70 v71 v79 v80) (ix3 0 r d)
      = unit (fun x : Fin 128 => k0_pay17 v69 v70 v71 v79 v80 (ix2 r ⟨x.val, by omega⟩)) d := by
  pointwise [k0_pay21, k0_pay20, unit]
theorem k0_at (v69 : FVec Ideal S688x1536 .f32) (v70 : Vec Ideal S8x1536 .f32) (v71 : Vec Ideal S4x1536 .f32) (v79 v80 : FVec Ideal S688x1536 .f32) (r : Fin 688) (d : Fin 128) :
    k0_pay22 (F := Ideal) (k0_pay19 v69 v70 v71 v79 v80) (ix3 0 r d)
      = unit (fun x : Fin 128 => k0_pay17 v69 v70 v71 v79 v80 (ix2 r ⟨512 + x.val, by omega⟩)) d := by
  pointwise [k0_pay22, k0_pay19, unit]

section
variable (v : FVec Ideal S688x1536 .f32) (r : Fin 688) (d : Fin 128)
theorem q1_at : k0_pay23 (F := Ideal) v (ix3 0 r d) = unit (fun x : Fin 128 => v (ix2 r ⟨128 + x.val, by omega⟩)) d := by
  pointwise [k0_pay23, unit]
theorem k1_at : k0_pay24 (F := Ideal) v (ix3 0 r d) = unit (fun x : Fin 128 => v (ix2 r ⟨640 + x.val, by omega⟩)) d := by
  pointwise [k0_pay24, unit]
theorem q2_at : k0_pay28 (F := Ideal) (k0_pay25 v) (k0_pay27 v) (ix3 0 r d) = unit (fun x : Fin 128 => v (ix2 r ⟨256 + x.val, by omega⟩)) d := by
  pointwise [k0_pay28, k0_pay25, k0_pay27, unit]
theorem k2_at : k0_pay29 (F := Ideal) (k0_pay26 v) (ix3 0 r d) = unit (fun x : Fin 128 => v (ix2 r ⟨768 + x.val, by omega⟩)) d := by
  pointwise [k0_pay29, k0_pay26, unit]
theorem q3_at : k0_pay31 (F := Ideal) v (ix3 0 r d) = unit (fun x : Fin 128 => v (ix2 r ⟨384 + x.val, by omega⟩)) d := by
  pointwise [k0_pay31, unit]
theorem k3_at : k0_pay33 (F := Ideal) (k0_pay30 v) (k0_pay32 v) (ix3 0 r d) = unit (fun x : Fin 128 => v (ix2 r ⟨896 + x.val, by omega⟩)) d := by
  pointwise [k0_pay33, k0_pay30, k0_pay32, unit]
end

end Proj
-- ==== Proof.ProjPoints.lean ====
/- What one grid point of the in-projection leaves in its output blocks and in the carried rows, over the extended reals. -/
module

public import proofs.«01_k».proof.Proof.ProjBody
public import proofs.«01_k».proof.Proof.ProjConv

@[expose] public section

set_option backward.proofsInPublic true
set_option maxRecDepth 65536

noncomputable section

namespace Proj

open Idealize.ShloMosaic Idealize.ShloMosaic.TcCoe Idealize.SL.Sem Cert.Kernel2Ideal Cert.Kernel2Ideal.Gen

/-- What a point leaves: the six output blocks, then the two carried buffers. -/
abbrev Left : Type :=
  Vec Ideal S1x688x512 .bf16 × Vec Ideal S1x688x512 .f32 × Vec Ideal S1x688x512 .f32 × Vec Ideal S1x688x512 .f32
    × Vec Ideal S1x688x512 .bf16 × Vec Ideal S1x688x128 .f32 × Vec Ideal S8x512 .f32 × Vec Ideal S8x1536 .f32

/-! ## Four heads' pieces -/

theorem disj_head {e e' : Fin 4} (h : e ≠ e') : Disjoint (rectH e).set (rectH e').set := by
  refine Rect.unit_disjoint (s := S1x688x512) (2 : Fin 3) ?_
  show 128 * e.val + 128 ≤ 128 * e'.val ∨ 128 * e'.val + 128 ≤ 128 * e.val
  have := Fin.val_ne_of_ne h; omega

theorem emb_head (e : Fin 4) (r : Fin 688) (d : Fin 128) : (rectH e).emb (ix3 0 r d) = ix3 0 r ⟨128 * e.val + d.val, by omega⟩ := by
  funext x
  apply Fin.ext
  match x with
  | ⟨0, _⟩ => rfl
  | ⟨1, _⟩ => show 0 + 1 * r.val = r.val; omega
  | ⟨2, _⟩ => show 128 * e.val + 1 * d.val = 128 * e.val + d.val; omega

theorem head_hit (e : Fin 4) (w : Vec Ideal S1x688x128 .f32) (L : List (View.Piece (Elt Ideal) S1x688x512 .f32)) (j : S1x688x128.Idx) :
    View.canon (pieceH e w :: L) ((rectH e).emb j) = w j :=
  View.canon_cons_emb (rectH e) w L j

theorem head_skip {e e' : Fin 4} (h : e ≠ e') (w : Vec Ideal S1x688x128 .f32) (L : List (View.Piece (Elt Ideal) S1x688x512 .f32)) (j : S1x688x128.Idx) :
    View.canon (pieceH e w :: L) ((rectH e').emb j) = View.canon L ((rectH e').emb j) :=
  View.canon_cons_of_not_mem (pieceH e w) L (Finset.disjoint_right.mp (disj_head h) ((rectH e').toLoadRect.idx_mem j))

/-- Four heads' pieces, at an index of head `e`. -/
theorem heads_at (w : Fin 4 → Vec Ideal S1x688x128 .f32) (e : Fin 4) (r : Fin 688) (d : Fin 128) :
    View.canon ([pieceH 3 (w 3), pieceH 2 (w 2), pieceH 1 (w 1), pieceH 0 (w 0)] : List (View.Piece (Elt Ideal) S1x688x512 .f32))
        (ix3 0 r ⟨128 * e.val + d.val, by omega⟩) = w e (ix3 0 r d) := by
  rw [← emb_head]
  match e with
  | 0 => rw [head_skip (by decide), head_skip (by decide), head_skip (by decide), head_hit]
  | 1 => rw [head_skip (by decide), head_skip (by decide), head_hit]
  | 2 => rw [head_skip (by decide), head_hit]
  | 3 => rw [head_hit]

theorem unit_congr {f g : Fin 128 → EReal} (h : ∀ x, f x = g x) (d : Fin 128) : unit f d = unit g d := by rw [funext h]

/-! ## The functions of one point -/

section
variable (X : ℕ → Fin 1024 → EReal) (wc wqkv : (⟨2, ![1024, 1536]⟩ : Shape).Idx → EReal) (wz : (⟨2, ![1024, 512]⟩ : Shape).Idx → EReal)
  (wab : (⟨2, ![1024, 128]⟩ : Shape).Idx → EReal) (cw : (⟨2, ![3, 512]⟩ : Shape).Idx → EReal) (gcw : (⟨2, ![4, 1536]⟩ : Shape).Idx → EReal)
  (alog dtb : (⟨2, ![1, 128]⟩ : Shape).Idx → EReal)

/-- The queries, keys and values at row `T`. -/
def mixed (T : ℕ) (j : Fin 1536) : EReal := silu (conv4 (raw X wqkv) gcw T j)

/-- The convolution branch's output for token `t`. -/
def branch (t : ℕ) (j : Fin 512) : EReal := dotW X wc t ⟨j.val, by omega⟩ * conv3 (gate X wc) cw (t + 8) j

/-- A point's outputs are the functions' values at the tokens from `688 * p` on, its carried rows those of the next point. -/
structure Good (p : ℕ) (o : Left) : Prop where
  y : ∀ (r : Fin 688) (j : Fin 512), o.1 (ix3 0 r j) = branch X wc cw (688 * p + r.val) j
  q : ∀ (r : Fin 688) (e : Fin 4) (d : Fin 128), o.2.1 (ix3 0 r ⟨128 * e.val + d.val, by omega⟩)
    = unit (fun x => mixed X wqkv gcw (688 * p + 8 + r.val) ⟨128 * e.val + x.val, by omega⟩) d
  k : ∀ (r : Fin 688) (e : Fin 4) (d : Fin 128), o.2.2.1 (ix3 0 r ⟨128 * e.val + d.val, by omega⟩)
    = unit (fun x => mixed X wqkv gcw (688 * p + 8 + r.val) ⟨512 + (128 * e.val + x.val), by omega⟩) d
  v : ∀ (r : Fin 688) (j : Fin 512), o.2.2.2.1 (ix3 0 r j) = mixed X wqkv gcw (688 * p + 8 + r.val) ⟨1024 + j.val, by omega⟩
  z : ∀ (r : Fin 688) (j : Fin 512), o.2.2.2.2.1 (ix3 0 r j) = silu (dotW X wz (688 * p + r.val) j)
  g : ∀ (r : Fin 688) (l : Fin 128), o.2.2.2.2.2.1 (ix3 0 r l) = gates X wab alog dtb (688 * p + 8 + r.val) l
  c0 : ∀ (r : Fin 8) (j : Fin 512), o.2.2.2.2.2.2.1 (ix2 r j) = gate X wc (688 * (p + 1) + r.val) j
  c1 : ∀ (r : Fin 8) (j : Fin 1536), o.2.2.2.2.2.2.2 (ix2 r j) = raw X wqkv (688 * (p + 1) + r.val) j
end

section
variable {X : ℕ → Fin 1024 → EReal} {p : ℕ} (hp : p < 12) {i : grid0.Coords} (hi : (i 1).val = p)
  {x0 : Vec Ideal S1x688x1024 .f32} (hx : ∀ (r : Fin 688) k, x0 (ix3 0 r k) = X (688 * p + r.val) k)
  {x1 : Vec Ideal S1024x1536 .bf16} {x2 : Vec Ideal S1024x1536 .bf16} {x3 : Vec Ideal S1024x512 .bf16} {x4 : Vec Ideal S1024x128 .bf16}
  {x5 : Vec Ideal S3x512 .f32} {x6 : Vec Ideal S4x1536 .f32} {x7 : Vec Ideal S1x128 .f32} {x8 : Vec Ideal S1x128 .f32}
  {s0 : Vec Ideal S8x512 .f32} {s1 : Vec Ideal S8x1536 .f32}
  (hs0 : ∀ (r : Fin 8) j, s0 (ix2 r j) = gate X x1 (688 * p + r.val) j) (hs1 : ∀ (r : Fin 8) j, s1 (ix2 r j) = raw X x2 (688 * p + r.val) j)
include hp hi hx hs0 hs1

theorem good_of {b0 : List (View.Piece (Elt Ideal) S8x512 .f32)} {b1 : List (View.Piece (Elt Ideal) S8x1536 .f32)}
    {o9 o13 : Vec Ideal S1x688x512 .bf16} {o10 o11 o12 : Vec Ideal S1x688x512 .f32} {o14 : Vec Ideal S1x688x128 .f32} {o17 : Vec Ideal S8x512 .f32} {o18 : Vec Ideal S8x1536 .f32}
    (h9 : o9 = View.canon (P9 (F := Ideal) i x0 x1 x5 s0)) (h10 : o10 = View.canon (P10 (F := Ideal) i x0 x2 x6 s1))
    (h11 : o11 = View.canon (P11 (F := Ideal) i x0 x2 x6 s1)) (h12 : o12 = View.canon (P12 (F := Ideal) i x0 x2 x6 s1))
    (h13 : o13 = View.canon (P13 (F := Ideal) x0 x3)) (h14 : o14 = View.canon (P14 (F := Ideal) i x0 x4 x7 x8))
    (h17 : o17 = View.canon (PS0 (F := Ideal) i x0 x1 b0)) (h18 : o18 = View.canon (PS1 (F := Ideal) i x0 x2 b1)) :
    Good X x1 x2 x3 x4 x5 x6 x7 x8 p (o9, o10, o11, o12, o13, o14, o17, o18) where
  y := fun r j => by
    show o9 _ = _
    rw [h9, View.canon_cons_unit_zero (S := S1x688x512) zeros3, yconv_at hp hi hx _ _ _ hs0, branch, Nat.add_right_comm]
  q := fun r e d => by
    have A : ∀ j, act i x0 x2 x6 s1 (ix2 r j) = mixed X x2 x6 (688 * p + 8 + r.val) j := act_at hp hi hx x2 x6 s1 hs1 r
    show o10 _ = _
    rw [h10, heads_at]
    match e with
    | 0 => exact (q0_at _ _ _ _ _ r d).trans (unit_congr (fun x => (A _).trans (congrArg (mixed X x2 x6 (688 * p + 8 + r.val)) (Fin.ext (by show x.val = 128 * 0 + x.val; omega)))) d)
    | 1 => exact (q1_at _ r d).trans (unit_congr (fun x => (A _).trans (congrArg (mixed X x2 x6 (688 * p + 8 + r.val)) (Fin.ext (by show 128 + x.val = 128 * 1 + x.val; omega)))) d)
    | 2 => exact (q2_at _ r d).trans (unit_congr (fun x => (A _).trans (congrArg (mixed X x2 x6 (688 * p + 8 + r.val)) (Fin.ext (by show 256 + x.val = 128 * 2 + x.val; omega)))) d)
    | 3 => exact (q3_at _ r d).trans (unit_congr (fun x => (A _).trans (congrArg (mixed X x2 x6 (688 * p + 8 + r.val)) (Fin.ext (by show 384 + x.val = 128 * 3 + x.val; omega)))) d)
  k := fun r e d => by
    have A : ∀ j, act i x0 x2 x6 s1 (ix2 r j) = mixed X x2 x6 (688 * p + 8 + r.val) j := act_at hp hi hx x2 x6 s1 hs1 r
    show o11 _ = _
    rw [h11, heads_at]
    match e with
    | 0 => exact (k0_at _ _ _ _ _ r d).trans (unit_congr (fun x => (A _).trans (congrArg (mixed X x2 x6 (688 * p + 8 + r.val)) (Fin.ext (by show 512 + x.val = 512 + (128 * 0 + x.val); omega)))) d)
    | 1 => exact (k1_at _ r d).trans (unit_congr (fun x => (A _).trans (congrArg (mixed X x2 x6 (688 * p + 8 + r.val)) (Fin.ext (by show 640 + x.val = 512 + (128 * 1 + x.val); omega)))) d)
    | 2 => exact (k2_at _ r d).trans (unit_congr (fun x => (A _).trans (congrArg (mixed X x2 x6 (688 * p + 8 + r.val)) (Fin.ext (by show 768 + x.val = 512 + (128 * 2 + x.val); omega)))) d)
    | 3 => exact (k3_at _ r d).trans (unit_congr (fun x => (A _).trans (congrArg (mixed X x2 x6 (688 * p + 8 + r.val)) (Fin.ext (by show 896 + x.val = 512 + (128 * 3 + x.val); omega)))) d)
  v := fun r j => by
    show o12 _ = _
    rw [h12, View.canon_cons_unit_zero (S := S1x688x512) zeros3, v_at]
    exact act_at hp hi hx x2 x6 s1 hs1 r _
  z := fun r j => by
    show o13 _ = _
    rw [h13, View.canon_cons_unit_zero (S := S1x688x512) zeros3, sz_at hx]
  g := fun r l => by
    show o14 _ = _
    rw [h14, View.canon_cons_unit_zero (S := S1x688x128) zeros3, gb_at hp hi hx]
  c0 := fun r j => by
    show o17 _ = _
    rw [h17, View.canon_cons_unit_zero (S := S8x512) zeros2, carry_gate_at hp hi hx]
  c1 := fun r j => by
    show o18 _ = _
    rw [h18, View.canon_cons_unit_zero (S := S8x1536) zeros2, carry_raw_at hp hi hx]

end

section
variable {X : ℕ → Fin 1024 → EReal} {p : ℕ} (hp : p < 12) (c : Dev nD) {i : grid0.Coords} (hi : (i 1).val = p)
  (arg2 : Memref sig .tc .vmem S1x688x1024 .f32) (harg2 : arg2.IsWhole)
  (arg3 : Memref sig .tc .vmem S1024x1536 .bf16) (harg3 : arg3.IsWhole)
  (arg4 : Memref sig .tc .vmem S1024x1536 .bf16) (harg4 : arg4.IsWhole)
  (arg5 : Memref sig .tc .vmem S1024x512 .bf16) (harg5 : arg5.IsWhole)
  (arg6 : Memref sig .tc .vmem S1024x128 .bf16) (harg6 : arg6.IsWhole)
  (arg7 : Memref sig .tc .vmem S3x512 .f32) (harg7 : arg7.IsWhole)
  (arg8 : Memref sig .tc .vmem S4x1536 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x688x512 .bf16) (harg11 : arg11.IsWhole)
  (arg12 : Memref sig .tc .vmem S1x688x512 .f32) (harg12 : arg12.IsWhole)
  (arg13 : Memref sig .tc .vmem S1x688x512 .f32) (harg13 : arg13.IsWhole)
  (arg14 : Memref sig .tc .vmem S1x688x512 .f32) (harg14 : arg14.IsWhole)
  (arg15 : Memref sig .tc .vmem S1x688x512 .bf16) (harg15 : arg15.IsWhole)
  (arg16 : Memref sig .tc .vmem S1x688x128 .f32) (harg16 : arg16.IsWhole)
  (arg17 : Memref sig .tc .vmem S8x512 .f32) (harg17 : arg17.IsWhole)
  (arg18 : Memref sig .tc .vmem S8x1536 .f32) (harg18 : arg18.IsWhole)
  (x0 : Vec Ideal S1x688x1024 .f32) (x1 : Vec Ideal S1024x1536 .bf16) (x2 : Vec Ideal S1024x1536 .bf16) (x3 : Vec Ideal S1024x512 .bf16) (x4 : Vec Ideal S1024x128 .bf16) (x5 : Vec Ideal S3x512 .f32) (x6 : Vec Ideal S4x1536 .f32) (x7 : Vec Ideal S1x128 .f32) (x8 : Vec Ideal S1x128 .f32) (xs0 : Vec Ideal S8x512 .f32) (xs1 : Vec Ideal S8x1536 .f32)
  (hx : ∀ (r : Fin 688) k, x0 (ix3 0 r k) = X (688 * p + r.val) k)
include hp hi hx

/-- A point that is not a batch's first. -/
theorem good_next (hc0 : ¬cond0_0 i) (hs0 : ∀ (r : Fin 8) j, xs0 (ix2 r j) = gate X x1 (688 * p + r.val) j)
    (hs1 : ∀ (r : Fin 8) j, xs1 (ix2 r j) = raw X x2 (688 * p + r.val) j) :
    Good X x1 x2 x3 x4 x5 x6 x7 x8 p
      (out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1, out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1, out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1, out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1, out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1, out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1, sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1) := by
  obtain ⟨h9, h10, h11, h12, h13, h14, h17, h18⟩ := left_next (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 hc0
  exact good_of hp hi hx hs0 hs1 h9 h10 h11 h12 h13 h14 h17 h18

/-- A batch's first point. -/
theorem good_first (hc0 : cond0_0 i) (h0 : p = 0) :
    Good X x1 x2 x3 x4 x5 x6 x7 x8 p
      (out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8, out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8, out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8, out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8, out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8, out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8, sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) := by
  obtain ⟨h9, h10, h11, h12, h13, h14, h17, h18⟩ := left_first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0
  refine good_of hp hi hx (s0 := k0_pay2 (F := Ideal)) (s1 := k0_pay3 (F := Ideal)) (fun r j => ?_) (fun r j => ?_) h9 h10 h11 h12 h13 h14 h17 h18
  · subst h0; pointwise [k0_pay2, gate]; rw [if_neg (by omega)]
  · subst h0; pointwise [k0_pay3, raw]; rw [if_neg (by omega)]
end

end Proj

end
-- ==== Proof.ProjValue.lean ====
/- The in-projection's output arrays over the extended reals: by induction over the grid points, the carried rows are the
   masked products of the last eight tokens read. -/
module

public import proofs.«01_k».proof.Proof.Gen.Kernel2Ideal.Value
public import proofs.«01_k».proof.Proof.ProjPoints

@[expose] public section

set_option backward.proofsInPublic true
set_option maxRecDepth 65536

noncomputable section

namespace Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-! ## The arrays, and the blocks of a point -/

abbrev arr1 : Vec Ideal S1024x1536 .bf16 := m ((c : Thread nD τ).loc main_arg1)
abbrev arr2 : Vec Ideal S1024x1536 .bf16 := m ((c : Thread nD τ).loc main_arg2)
abbrev arr3 : Vec Ideal S1024x512 .bf16 := m ((c : Thread nD τ).loc main_arg3)
abbrev arr4 : Vec Ideal S1024x128 .bf16 := m ((c : Thread nD τ).loc main_arg4)
abbrev arr5 : Vec Ideal S3x512 .f32 := m ((c : Thread nD τ).loc main_arg5)
abbrev arr6 : Vec Ideal S4x1536 .f32 := m ((c : Thread nD τ).loc main_arg6)
abbrev arr7 : Vec Ideal S1x128 .f32 := m ((c : Thread nD τ).loc main_arg7)
abbrev arr8 : Vec Ideal S1x128 .f32 := m ((c : Thread nD τ).loc main_arg8)
/-- A batch's rows. -/
def rows (h : (⟨3, ![4, 8256, 1024]⟩ : Shape).Idx → EReal) (b : Fin 4) (t : ℕ) (k : Fin 1024) : EReal :=
  h (ix3 b ⟨t % 8256, Nat.mod_lt _ (by decide)⟩ k)
abbrev Xs (b : Fin 4) : ℕ → Fin 1024 → EReal := rows (m ((c : Thread nD τ).loc main_arg0)) b

theorem index_in : ∀ t : Fin cfg0.N,
    (win0_0.index t (0 : Fin 3) = t.val / 12 ∧ win0_0.index t (1 : Fin 3) = t.val % 12 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem pt_lt (t : Fin cfg0.N) : t.val < 48 := lt_of_lt_of_eq t.isLt N_0

theorem coord (t : Fin cfg0.N) : (grid0.coords t 1).val = t.val % 12 :=
  (by decide +kernel : ∀ t : Fin grid0.N, (grid0.coords t 1).val = t.val % 12) t

/-- The batch of a point. -/
def bat (n : ℕ) : Fin 4 := ⟨n / 12 % 4, Nat.mod_lt _ (by decide)⟩

theorem blk0 (t : Fin cfg0.N) (r : Fin 688) (j : Fin 1024) : (iblk m c 0 t : Vec Ideal S1x688x1024 .f32) (ix3 0 r j)
    = Xs m c (bat t.val) (688 * (t.val % 12) + r.val) j := by
  have ht := pt_lt t
  obtain ⟨e0, e1, e2⟩ := (index_in t).1
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 12 % 4; rw [e0]; omega
  | ⟨1, _⟩ => show win0_0.index t 1 * 688 + 1 * r.val = (688 * (t.val % 12) + r.val) % 8256; rw [e1]; omega
  | ⟨2, _⟩ => show win0_0.index t 2 * 1024 + 1 * j.val = j.val; rw [e2]; omega

theorem same_index {a b : ℕ} (j i : (⟨2, ![a, b]⟩ : Shape).Idx) (h0 : (i 0).val = (j 0).val) (h1 : (i 1).val = (j 1).val) : i = j := by
  funext x
  apply Fin.ext
  match x with
  | ⟨0, _⟩ => exact h0
  | ⟨1, _⟩ => exact h1

theorem blk1 (t : Fin cfg0.N) : (iblk m c 1 t : Vec Ideal S1024x1536 .bf16) = arr1 m c := by
  funext j
  obtain ⟨e0, e1⟩ := (index_in t).2.1
  unfold iblk
  rw [View.read_apply]
  show V m c main_arg1 _ = _
  unfold V
  exact congrArg (arr1 m c) (same_index j _ (by show win0_1.index t 0 * _ + 1 * (j 0).val = _; rw [e0]; omega) (by show win0_1.index t 1 * _ + 1 * (j 1).val = _; rw [e1]; omega))

theorem blk2 (t : Fin cfg0.N) : (iblk m c 2 t : Vec Ideal S1024x1536 .bf16) = arr2 m c := by
  funext j
  obtain ⟨e0, e1⟩ := (index_in t).2.2.1
  unfold iblk
  rw [View.read_apply]
  show V m c main_arg2 _ = _
  unfold V
  exact congrArg (arr2 m c) (same_index j _ (by show win0_2.index t 0 * _ + 1 * (j 0).val = _; rw [e0]; omega) (by show win0_2.index t 1 * _ + 1 * (j 1).val = _; rw [e1]; omega))

theorem blk3 (t : Fin cfg0.N) : (iblk m c 3 t : Vec Ideal S1024x512 .bf16) = arr3 m c := by
  funext j
  obtain ⟨e0, e1⟩ := (index_in t).2.2.2.1
  unfold iblk
  rw [View.read_apply]
  show V m c main_arg3 _ = _
  unfold V
  exact congrArg (arr3 m c) (same_index j _ (by show win0_3.index t 0 * _ + 1 * (j 0).val = _; rw [e0]; omega) (by show win0_3.index t 1 * _ + 1 * (j 1).val = _; rw [e1]; omega))

theorem blk4 (t : Fin cfg0.N) : (iblk m c 4 t : Vec Ideal S1024x128 .bf16) = arr4 m c := by
  funext j
  obtain ⟨e0, e1⟩ := (index_in t).2.2.2.2.1
  unfold iblk
  rw [View.read_apply]
  show V m c main_arg4 _ = _
  unfold V
  exact congrArg (arr4 m c) (same_index j _ (by show win0_4.index t 0 * _ + 1 * (j 0).val = _; rw [e0]; omega) (by show win0_4.index t 1 * _ + 1 * (j 1).val = _; rw [e1]; omega))

theorem blk5 (t : Fin cfg0.N) : (iblk m c 5 t : Vec Ideal S3x512 .f32) = arr5 m c := by
  funext j
  obtain ⟨e0, e1⟩ := (index_in t).2.2.2.2.2.1
  unfold iblk
  rw [View.read_apply]
  show V m c main_arg5 _ = _
  unfold V
  exact congrArg (arr5 m c) (same_index j _ (by show win0_5.index t 0 * _ + 1 * (j 0).val = _; rw [e0]; omega) (by show win0_5.index t 1 * _ + 1 * (j 1).val = _; rw [e1]; omega))

theorem blk6 (t : Fin cfg0.N) : (iblk m c 6 t : Vec Ideal S4x1536 .f32) = arr6 m c := by
  funext j
  obtain ⟨e0, e1⟩ := (index_in t).2.2.2.2.2.2.1
  unfold iblk
  rw [View.read_apply]
  show V m c main_arg6 _ = _
  unfold V
  exact congrArg (arr6 m c) (same_index j _ (by show win0_6.index t 0 * _ + 1 * (j 0).val = _; rw [e0]; omega) (by show win0_6.index t 1 * _ + 1 * (j 1).val = _; rw [e1]; omega))

theorem blk7 (t : Fin cfg0.N) : (iblk m c 7 t : Vec Ideal S1x128 .f32) = arr7 m c := by
  funext j
  obtain ⟨e0, e1⟩ := (index_in t).2.2.2.2.2.2.2.1
  unfold iblk
  rw [View.read_apply]
  show V m c main_arg7 _ = _
  unfold V
  exact congrArg (arr7 m c) (same_index j _ (by show win0_7.index t 0 * _ + 1 * (j 0).val = _; rw [e0]; omega) (by show win0_7.index t 1 * _ + 1 * (j 1).val = _; rw [e1]; omega))

theorem blk8 (t : Fin cfg0.N) : (iblk m c 8 t : Vec Ideal S1x128 .f32) = arr8 m c := by
  funext j
  obtain ⟨e0, e1⟩ := (index_in t).2.2.2.2.2.2.2.2
  unfold iblk
  rw [View.read_apply]
  show V m c main_arg8 _ = _
  unfold V
  exact congrArg (arr8 m c) (same_index j _ (by show win0_8.index t 0 * _ + 1 * (j 0).val = _; rw [e0]; omega) (by show win0_8.index t 1 * _ + 1 * (j 1).val = _; rw [e1]; omega))

/-! ## All points -/

/-- What point `n` leaves. -/
abbrev GoodAt (n : ℕ) (o : Left) : Prop :=
  Good (Xs m c (bat n)) (arr1 m c) (arr2 m c) (arr3 m c) (arr4 m c) (arr5 m c) (arr6 m c) (arr7 m c) (arr8 m c) (n % 12) o

theorem good_pt_first (t : Fin cfg0.N) (h0 : t.val % 12 = 0) : GoodAt m c t.val (outsAt0 m c t.val t.isLt) := by
  have key := good_first (Nat.mod_lt t.val (by decide)) c (coord t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)
    (blk0 m c t) ((hcond0_0 t).mpr h0) h0
  rw [outsAt0_A m c t h0]
  simp only [blk1, blk2, blk3, blk4, blk5, blk6, blk7, blk8] at key ⊢
  with_reducible exact key

theorem good_pt_next (t : Fin cfg0.N) (h0 : ¬t.val % 12 = 0)
    (ih : GoodAt m c (t.val - 1) (outsAt0 m c (t.val - 1) (Nat.lt_of_le_of_lt (Nat.sub_le _ _) t.isLt))) :
    GoodAt m c t.val (outsAt0 m c t.val t.isLt) := by
  have hb : bat (t.val - 1) = bat t.val := Fin.ext (by simp only [bat]; omega)
  have hp : (t.val - 1) % 12 + 1 = t.val % 12 := by omega
  have c0 := ih.c0
  have c1 := ih.c1
  rw [hb, hp] at c0 c1
  have key := good_next (Nat.mod_lt t.val (by decide)) c (coord t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)
    _ _ (blk0 m c t) (fun h => h0 ((hcond0_0 t).mp h)) (by rw [blk1]; exact c0) (by rw [blk2]; exact c1)
  rw [outsAt0_B m c t h0]
  simp only [blk1, blk2, blk3, blk4, blk5, blk6, blk7, blk8] at key ⊢
  with_reducible exact key

theorem good : ∀ (n : ℕ) (hn : n < cfg0.N), GoodAt m c n (outsAt0 m c n hn) := by
  intro n
  induction n with
  | zero => exact fun hn => good_pt_first m c ⟨0, hn⟩ rfl
  | succ n ih =>
    intro hn
    by_cases h0 : (n + 1) % 12 = 0
    · exact good_pt_first m c ⟨n + 1, hn⟩ h0
    · exact good_pt_next m c ⟨n + 1, hn⟩ h0 (ih _)

end Proj

end
-- ==== Proof.ProjArrays.lean ====
/- The in-projection kernel's six output arrays, read at an index. -/
module

public import proofs.«01_k».proof.Proof.ProjValue

@[expose] public section

set_option backward.proofsInPublic true
set_option maxRecDepth 65536

noncomputable section

namespace Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem point_lt (b : Fin 4) (t : Fin 8256) : 12 * b.val + t.val / 688 < cfg0.N := lt_of_lt_of_eq (by omega) N_0.symm

/-- What the point of batch `b` and token `t` leaves. -/
theorem good_tok (b : Fin 4) (t : Fin 8256) :
    Good (Xs m c b) (arr1 m c) (arr2 m c) (arr3 m c) (arr4 m c) (arr5 m c) (arr6 m c) (arr7 m c) (arr8 m c) (t.val / 688)
      (outsAt0 m c (12 * b.val + t.val / 688) (point_lt b t)) := by
  have key := good m c _ (point_lt b t)
  have hb : bat (12 * b.val + t.val / 688) = b := Fin.ext (by simp only [bat]; omega)
  have hT : (12 * b.val + t.val / 688) % 12 = t.val / 688 := by omega
  rw [GoodAt, hb, hT] at key
  exact key

theorem tok8 (t : Fin 8256) : 688 * (t.val / 688) + 8 + t.val % 688 = t.val + 8 := by omega
theorem tok (t : Fin 8256) : 688 * (t.val / 688) + t.val % 688 = t.val := by omega

/-- The place in its block of token `t`. -/
abbrev place (t : Fin 8256) : Fin 688 := ⟨t.val % 688, Nat.mod_lt _ (by decide)⟩

theorem pt_at (b : Fin 4) (t : Fin 8256) (j : Fin 512) : Cert.Kernel2Ideal.Value.pt9Of (ix3 b t j) = 12 * b.val + t.val / 688 := by
  show 12 * (b.val / 1 - 0) + 1 * (t.val / 688 - 0) + 1 * (j.val / 512 - 0) = _
  omega

theorem loc_at (b : Fin 4) (t : Fin 8256) (j : Fin 512) : Cert.Kernel2Ideal.Value.loc9Of (ix3 b t j) = ix3 0 (place t) j := by
  funext a
  apply Fin.ext
  match a with
  | ⟨0, _⟩ => show b.val % 1 = 0; omega
  | ⟨1, _⟩ => show t.val % 688 = _; rfl
  | ⟨2, _⟩ => show j.val % 512 = j.val; omega

/-- The fold of the points up to the one that writes a token's block is what that point leaves. -/
theorem swept (b : Fin 4) (t : Fin 8256) (n : ℕ) (hn : n = 12 * b.val + t.val / 688) (h : n < cfg0.N) (h' : 0 + n < cfg0.N) :
    Good (Xs m c b) (arr1 m c) (arr2 m c) (arr3 m c) (arr4 m c) (arr5 m c) (arr6 m c) (arr7 m c) (arr8 m c) (t.val / 688)
      (Pipeline.accAt (fun n h => Cert.Kernel2Ideal.Value.stAt0 m c n h Cert.Kernel2Ideal.Value.junk0) (Cert.Kernel2Ideal.Value.stAt0 m c) 0 n h') := by
  subst hn
  rw [← Cert.Kernel2Ideal.Value.outsAt0_sweep m c _ h]
  exact good_tok m c b t

theorem array9 (b : Fin 4) (t : Fin 8256) (j : Fin 512) :
    (Cert.Kernel2Ideal.Value.G9 m c : S4x8256x512.Idx → EReal) (ix3 b t j) = branch (Xs m c b) (arr1 m c) (arr5 m c) t.val j := by
  have hp := pt_at b t j
  have hlt : Cert.Kernel2Ideal.Value.pt9Of (ix3 b t j) < cfg0.N := by rw [hp]; exact point_lt b t
  have key := (swept m c b t _ hp hlt (lt_of_eq_of_lt (Nat.zero_add _) hlt)).y (place t) j
  rw [tok, ← loc_at b t j] at key
  unfold Cert.Kernel2Ideal.Value.G9
  rw [dif_pos hlt]
  exact key

theorem array10 (b : Fin 4) (t : Fin 8256) (e : Fin 4) (d : Fin 128) :
    (Cert.Kernel2Ideal.Value.G10 m c : S4x8256x512.Idx → EReal) (ix3 b t ⟨128 * e.val + d.val, by omega⟩)
      = unit (fun x => mixed (Xs m c b) (arr2 m c) (arr6 m c) (t.val + 8) ⟨128 * e.val + x.val, by omega⟩) d := by
  have hp := pt_at b t ⟨128 * e.val + d.val, by omega⟩
  have hlt : Cert.Kernel2Ideal.Value.pt10Of (ix3 b t ⟨128 * e.val + d.val, by omega⟩) < cfg0.N := lt_of_eq_of_lt hp (point_lt b t)
  have key := (swept m c b t _ hp hlt (lt_of_eq_of_lt (Nat.zero_add _) hlt)).q (place t) e d
  rw [tok8, ← loc_at b t _] at key
  unfold Cert.Kernel2Ideal.Value.G10
  rw [dif_pos hlt]
  exact key

theorem array11 (b : Fin 4) (t : Fin 8256) (e : Fin 4) (d : Fin 128) :
    (Cert.Kernel2Ideal.Value.G11 m c : S4x8256x512.Idx → EReal) (ix3 b t ⟨128 * e.val + d.val, by omega⟩)
      = unit (fun x => mixed (Xs m c b) (arr2 m c) (arr6 m c) (t.val + 8) ⟨512 + (128 * e.val + x.val), by omega⟩) d := by
  have hp := pt_at b t ⟨128 * e.val + d.val, by omega⟩
  have hlt : Cert.Kernel2Ideal.Value.pt11Of (ix3 b t ⟨128 * e.val + d.val, by omega⟩) < cfg0.N := lt_of_eq_of_lt hp (point_lt b t)
  have key := (swept m c b t _ hp hlt (lt_of_eq_of_lt (Nat.zero_add _) hlt)).k (place t) e d
  rw [tok8, ← loc_at b t _] at key
  unfold Cert.Kernel2Ideal.Value.G11
  rw [dif_pos hlt]
  exact key

theorem array12 (b : Fin 4) (t : Fin 8256) (j : Fin 512) :
    (Cert.Kernel2Ideal.Value.G12 m c : S4x8256x512.Idx → EReal) (ix3 b t j)
      = mixed (Xs m c b) (arr2 m c) (arr6 m c) (t.val + 8) ⟨1024 + j.val, by omega⟩ := by
  have hp := pt_at b t j
  have hlt : Cert.Kernel2Ideal.Value.pt12Of (ix3 b t j) < cfg0.N := lt_of_eq_of_lt hp (point_lt b t)
  have key := (swept m c b t _ hp hlt (lt_of_eq_of_lt (Nat.zero_add _) hlt)).v (place t) j
  rw [tok8, ← loc_at b t j] at key
  unfold Cert.Kernel2Ideal.Value.G12
  rw [dif_pos hlt]
  exact key

theorem array13 (b : Fin 4) (t : Fin 8256) (j : Fin 512) :
    (Cert.Kernel2Ideal.Value.G13 m c : S4x8256x512.Idx → EReal) (ix3 b t j) = silu (dotW (Xs m c b) (arr3 m c) t.val j) := by
  have hp := pt_at b t j
  have hlt : Cert.Kernel2Ideal.Value.pt13Of (ix3 b t j) < cfg0.N := lt_of_eq_of_lt hp (point_lt b t)
  have key := (swept m c b t _ hp hlt (lt_of_eq_of_lt (Nat.zero_add _) hlt)).z (place t) j
  rw [tok, ← loc_at b t j] at key
  unfold Cert.Kernel2Ideal.Value.G13
  rw [dif_pos hlt]
  exact key

theorem array14 (b : Fin 4) (t : Fin 8256) (l : Fin 128) :
    (Cert.Kernel2Ideal.Value.G14 m c : S4x8256x128.Idx → EReal) (ix3 b t l)
      = gates (Xs m c b) (arr4 m c) (arr7 m c) (arr8 m c) (t.val + 8) l := by
  have hp : Cert.Kernel2Ideal.Value.pt14Of (ix3 b t l) = 12 * b.val + t.val / 688 := by
    show 12 * (b.val / 1 - 0) + 1 * (t.val / 688 - 0) + 1 * (l.val / 128 - 0) = _
    omega
  have hl : Cert.Kernel2Ideal.Value.loc14Of (ix3 b t l) = ix3 0 (place t) l := by
    funext a
    apply Fin.ext
    match a with
    | ⟨0, _⟩ => show b.val % 1 = 0; omega
    | ⟨1, _⟩ => show t.val % 688 = _; rfl
    | ⟨2, _⟩ => show l.val % 128 = l.val; omega
  have hlt : Cert.Kernel2Ideal.Value.pt14Of (ix3 b t l) < cfg0.N := lt_of_eq_of_lt hp (point_lt b t)
  have key := (swept m c b t _ hp hlt (lt_of_eq_of_lt (Nat.zero_add _) hlt)).g (place t) l
  rw [tok8, ← hl] at key
  unfold Cert.Kernel2Ideal.Value.G14
  rw [dif_pos hlt]
  exact key

end Proj

end
-- ==== Proof.ProjRef.lean ====
/- The in-projection's reference read at an index: the same functions of a batch's rows as the kernel's. -/
module

public import proofs.«01_k».proof.Proof.Gen.Reference2Ideal.Run
public import proofs.«01_k».proof.Proof.ProjValue

@[expose] public section

set_option backward.proofsInPublic true
set_option maxRecDepth 65536

noncomputable section

namespace Proj.Ref

open Idealize.ShloMosaic Idealize.ShloMosaic.TcCoe Idealize.SL.Sem Cert.Reference2Ideal Cert.Reference2Ideal.Gen Cert.Reference2Ideal.Value

variable (V : Valuation τ sig (Elt Ideal))

abbrev h0 : S4x8256x1024.Idx → EReal := V (Proc.devRef .tc main_arg0)
abbrev w1 : S1024x1536.Idx → EReal := V (Proc.devRef .tc main_arg1)
abbrev w2 : S1024x1536.Idx → EReal := V (Proc.devRef .tc main_arg2)
abbrev w3 : S1024x512.Idx → EReal := V (Proc.devRef .tc main_arg3)
abbrev w4 : S1024x128.Idx → EReal := V (Proc.devRef .tc main_arg4)
abbrev w5 : S3x512.Idx → EReal := V (Proc.devRef .tc main_arg5)
abbrev w6 : S4x1536.Idx → EReal := V (Proc.devRef .tc main_arg6)
abbrev w7 : S1x128.Idx → EReal := V (Proc.devRef .tc main_arg7)
abbrev w8 : S1x128.Idx → EReal := V (Proc.devRef .tc main_arg8)
abbrev X (b : Fin 4) : ℕ → Fin 1024 → EReal := rows (h0 V) b

theorem row_eq (h : S4x8256x1024.Idx → EReal) (b : Fin 4) (t n : ℕ) (ht : t < 8256) (e : n = t) (k : Fin 1024) :
    h (ix3 b ⟨t, ht⟩ k) = rows h b n k := by
  subst e
  exact congrArg h (congrArg (fun q => ix3 b q k) (Fin.ext (Nat.mod_eq_of_lt ht).symm))

theorem zero_word : (FloatOps.sitofp (F := Ideal) FTy.f32 0#32 : EReal) = 0 := by
  show (((BitVec.toInt 0#32 : ℤ) : ℝ) : EReal) = 0
  simp

/-! ## The products -/

theorem dot_tok {n : ℕ} (w : (⟨2, ![1024, n]⟩ : Shape).Idx → EReal) (b : Fin 4) (t s : ℕ) (ht : t < 8256) (e : s = t) (j : Fin n) :
    ∑ x, h0 V (ix3 b ⟨t, ht⟩ x) * w (ix2 x j) = dotW (X V b) w s j :=
  Finset.sum_congr rfl fun k _ => by rw [row_eq (h0 V) b t s ht e k]

theorem v2_at (b : Fin 4) (t : Fin 8208) (j : Fin 1536) :
    (res_main_v2 V : S4x8208x1536.Idx → EReal) (ix3 b t j) = dotW (X V b) (w1 V) (t.val + 48) j := by
  pointwise [res_main_v2, res_main_v0]
  exact dot_tok V (w1 V) b _ _ _ (by omega) j

theorem v30_at (b : Fin 4) (t : Fin 8208) (j : Fin 1536) :
    (res_main_v30 V : S4x8208x1536.Idx → EReal) (ix3 b t j) = dotW (X V b) (w2 V) (t.val + 48) j := by
  pointwise [res_main_v30, res_main_v0]
  exact dot_tok V (w2 V) b _ _ _ (by omega) j

theorem v147_at (b : Fin 4) (t : Fin 8208) (j : Fin 128) :
    (res_main_v147 V : S4x8208x128.Idx → EReal) (ix3 b t j) = dotW (X V b) (w4 V) (t.val + 48) j := by
  pointwise [res_main_v147, res_main_v0]
  exact dot_tok V (w4 V) b _ _ _ (by omega) j

theorem v145_at (b : Fin 4) (t : Fin 8256) (j : Fin 512) :
    (res_main_v145 V : S4x8256x512.Idx → EReal) (ix3 b t j) = dotW (X V b) (w3 V) t.val j := by
  pointwise [res_main_v145]
  exact dot_tok V (w3 V) b t.val _ t.isLt rfl j

/-! ## The rows the convolutions read -/

theorem v7_at (b : Fin 4) (t : Fin 8210) (j : Fin 512) :
    (res_main_v7 V : S4x8210x512.Idx → EReal) (ix3 b t j) = gate (X V b) (w1 V) (t.val + 54) j := by
  pointwise [res_main_v7]
  unfold gate
  by_cases h : 2 ≤ t.val
  · rw [dif_pos ⟨h, by omega⟩, if_pos (by omega), v2_at, v2_at, show t.val + 54 - 8 = t.val - 2 + 48 by omega]
  · rw [dif_neg (fun q => h q.1), if_neg (by omega), zero_word]

theorem raw_tok (b : Fin 4) (t : Fin 8211) (h : 3 ≤ t.val) (j : Fin 1536) :
    (res_main_v30 V : S4x8208x1536.Idx → EReal) (ix3 b ⟨t.val - 3, by omega⟩ j) = raw (X V b) (w2 V) (t.val + 53) j := by
  rw [raw, if_pos (by omega), v30_at, show t.val + 53 - 8 = t.val - 3 + 48 by omega]

theorem raw_zero (b : Fin 4) (t : Fin 8211) (h : ¬ 3 ≤ t.val) (j : Fin 1536) :
    (FloatOps.sitofp (F := Ideal) FTy.f32 0#32 : EReal) = raw (X V b) (w2 V) (t.val + 53) j := by
  rw [raw, if_neg (by omega), zero_word]

theorem v37_at (b : Fin 4) (t : Fin 8211) (j : Fin 512) :
    (res_main_v37 V : S4x8211x512.Idx → EReal) (ix3 b t j) = raw (X V b) (w2 V) (t.val + 53) ⟨j.val, by omega⟩ := by
  pointwise [res_main_v37]
  by_cases h : 3 ≤ t.val
  · rw [dif_pos ⟨h, by omega⟩, raw_tok V b t h]
  · rw [dif_neg (fun q => h q.1), raw_zero V b t h]

theorem v66_at (b : Fin 4) (t : Fin 8211) (j : Fin 512) :
    (res_main_v66 V : S4x8211x512.Idx → EReal) (ix3 b t j) = raw (X V b) (w2 V) (t.val + 53) ⟨512 + j.val, by omega⟩ := by
  pointwise [res_main_v66]
  by_cases h : 3 ≤ t.val
  · rw [dif_pos ⟨h, by omega⟩, raw_tok V b t h]
  · rw [dif_neg (fun q => h q.1), raw_zero V b t h]

theorem v95_at (b : Fin 4) (t : Fin 8211) (j : Fin 512) :
    (res_main_v95 V : S4x8211x512.Idx → EReal) (ix3 b t j) = raw (X V b) (w2 V) (t.val + 53) ⟨1024 + j.val, by omega⟩ := by
  pointwise [res_main_v95]
  by_cases h : 3 ≤ t.val
  · rw [dif_pos ⟨h, by omega⟩, raw_tok V b t h]
  · rw [dif_neg (fun q => h q.1), raw_zero V b t h]

/-! ## The convolutions -/

/-- Four taps, summed from the earliest row. -/
theorem conv4_taps {n : ℕ} (U : ℕ → Fin n → EReal) (w : (⟨2, ![4, n]⟩ : Shape).Idx → EReal) (t : ℕ) (j : Fin n) :
    U (t + 53) j * w (ix2 0 j) + U (1 + t + 53) j * w (ix2 1 j) + U (2 + t + 53) j * w (ix2 2 j) + U (3 + t + 53) j * w (ix2 3 j)
      = conv4 U w (t + 56) j := by
  rw [conv4, show 1 + t + 53 = t + 56 - 2 by omega, show 2 + t + 53 = t + 56 - 1 by omega, show 3 + t + 53 = t + 56 by omega,
    show t + 53 = t + 56 - 3 by omega]
  generalize U (t + 56 - 3) j * w (ix2 0 j) = a
  generalize U (t + 56 - 2) j * w (ix2 1 j) = b
  generalize U (t + 56 - 1) j * w (ix2 2 j) = d
  generalize U (t + 56) j * w (ix2 3 j) = e
  abel

/-- Three taps, summed from the earliest row. -/
theorem conv3_taps {n : ℕ} (U : ℕ → Fin n → EReal) (w : (⟨2, ![3, n]⟩ : Shape).Idx → EReal) (t : ℕ) (j : Fin n) :
    U (t + 54) j * w (ix2 0 j) + U (1 + t + 54) j * w (ix2 1 j) + U (2 + t + 54) j * w (ix2 2 j) = conv3 U w (t + 56) j := by
  rw [conv3, show 1 + t + 54 = t + 56 - 1 by omega, show 2 + t + 54 = t + 56 by omega, show t + 54 = t + 56 - 2 by omega]
  generalize U (t + 56 - 2) j * w (ix2 0 j) = a
  generalize U (t + 56 - 1) j * w (ix2 1 j) = b
  generalize U (t + 56) j * w (ix2 2 j) = d
  abel

theorem v64_at (b : Fin 4) (t : Fin 8208) (j : Fin 512) :
    (res_main_v64 V : S4x8208x512.Idx → EReal) (ix3 b t j) = conv4 (raw (X V b) (w2 V)) (w6 V) (t.val + 56) ⟨j.val, by omega⟩ := by
  pointwise [res_main_v64, res_main_v34, v37_at]
  exact conv4_taps (raw (X V b) (w2 V)) (w6 V) t.val _

theorem v93_at (b : Fin 4) (t : Fin 8208) (j : Fin 512) :
    (res_main_v93 V : S4x8208x512.Idx → EReal) (ix3 b t j) = conv4 (raw (X V b) (w2 V)) (w6 V) (t.val + 56) ⟨512 + j.val, by omega⟩ := by
  pointwise [res_main_v93, res_main_v35, v66_at]
  exact conv4_taps (raw (X V b) (w2 V)) (w6 V) t.val _

theorem v122_at (b : Fin 4) (t : Fin 8208) (j : Fin 512) :
    (res_main_v122 V : S4x8208x512.Idx → EReal) (ix3 b t j) = conv4 (raw (X V b) (w2 V)) (w6 V) (t.val + 56) ⟨1024 + j.val, by omega⟩ := by
  pointwise [res_main_v122, res_main_v36, v95_at]
  exact conv4_taps (raw (X V b) (w2 V)) (w6 V) t.val _

theorem v124_at (b : Fin 4) (t : Fin 8208) (h : Fin 4) (d : Fin 128) :
    (res_main_v124 V : S4x8208x4x128.Idx → EReal) (ix4 b t h d) = mixed (X V b) (w2 V) (w6 V) (t.val + 56) ⟨128 * h.val + d.val, by omega⟩ := by
  pointwise [res_main_v124]
  rw [v64_at]
  simp only [Nat.mul_comm h.val 128]
  rfl

theorem v134_at (b : Fin 4) (t : Fin 8208) (h : Fin 4) (d : Fin 128) :
    (res_main_v134 V : S4x8208x4x128.Idx → EReal) (ix4 b t h d) = mixed (X V b) (w2 V) (w6 V) (t.val + 56) ⟨512 + (128 * h.val + d.val), by omega⟩ := by
  pointwise [res_main_v134]
  rw [v93_at]
  simp only [Nat.mul_comm h.val 128]
  rfl

/-! ## Padding -/

theorem gate_pad {Y : ℕ → Fin 1024 → EReal} {w : (⟨2, ![1024, 1536]⟩ : Shape).Idx → EReal} {T : ℕ} (h : T < 56) (j : Fin 512) :
    gate Y w T j = 0 := if_neg (by omega)

theorem raw_pad {Y : ℕ → Fin 1024 → EReal} {w : (⟨2, ![1024, 1536]⟩ : Shape).Idx → EReal} {T : ℕ} (h : T < 56) (j : Fin 1536) :
    raw Y w T j = 0 := if_neg (by omega)

theorem branch_pad {Y : ℕ → Fin 1024 → EReal} {w : (⟨2, ![1024, 1536]⟩ : Shape).Idx → EReal} {cw : (⟨2, ![3, 512]⟩ : Shape).Idx → EReal}
    {t : ℕ} (h : t < 48) (j : Fin 512) : branch Y w cw t j = 0 := by
  rw [branch, conv3, gate_pad (by omega), gate_pad (by omega), gate_pad (by omega)]
  simp only [zero_mul, add_zero, mul_zero]

theorem mixed_pad {Y : ℕ → Fin 1024 → EReal} {w : (⟨2, ![1024, 1536]⟩ : Shape).Idx → EReal} {g : (⟨2, ![4, 1536]⟩ : Shape).Idx → EReal}
    {t : ℕ} (h : t < 48) (j : Fin 1536) : mixed Y w g (t + 8) j = 0 := by
  rw [mixed, conv4, raw_pad (by omega), raw_pad (by omega), raw_pad (by omega), raw_pad (by omega), silu]
  simp only [zero_mul, add_zero]

theorem unit_pad {f : Fin 128 → EReal} (h : ∀ x, f x = 0) (d : Fin 128) : unit f d = 0 := by
  rw [unit, h, zero_mul]

theorem gates_pad {Y : ℕ → Fin 1024 → EReal} {w : (⟨2, ![1024, 128]⟩ : Shape).Idx → EReal} {a b : (⟨2, ![1, 128]⟩ : Shape).Idx → EReal}
    {t : ℕ} (h : t < 48) (l : Fin 128) : gates Y w a b (t + 8) l = 0 := if_neg (by omega)

end Proj.Ref

end
-- ==== Proof.ProjRes.lean ====
/- The in-projection reference's six results, read at an index. -/
module

public import proofs.«01_k».proof.Proof.ProjRef

@[expose] public section

set_option backward.proofsInPublic true
set_option maxRecDepth 65536

noncomputable section

namespace Proj.Ref

open Idealize.ShloMosaic Idealize.ShloMosaic.TcCoe Idealize.SL.Sem Cert.Reference2Ideal Cert.Reference2Ideal.Gen Cert.Reference2Ideal.Value

variable (V : Valuation τ sig (Elt Ideal))

/-- Tokens from 48 on, and padding before. -/
theorem padded {f : (s : ℕ) → s < 8208 → EReal} {e : ℕ → EReal} {z : EReal} (hz : z = 0) (hf : ∀ s h, f s h = e (s + 48))
    (he : ∀ t, t < 48 → e t = 0) (t : Fin 8256) : (if h : 48 ≤ t.val ∧ t.val - 48 < 8208 then f (t.val - 48) h.2 else z) = e t.val := by
  by_cases h : 48 ≤ t.val
  · rw [dif_pos ⟨h, by omega⟩, hf, Nat.sub_add_cancel h]
  · rw [dif_neg (fun q => h q.1), hz, he _ (by omega)]

/-- An array padded by 48 rows of zeros before its first one. -/
theorem pad_at (x : FVec Ideal S4x8208x512 .f32) {e : ℕ → EReal} (b : Fin 4) (t : Fin 8256) (j : Fin 512)
    (hf : ∀ (s : ℕ) (h : s < 8208), x (ix3 b ⟨s, h⟩ j) = e (s + 48)) (he : ∀ t, t < 48 → e t = 0) :
    (pad S4x8256x512 ![0, 48, 0] ![0, 0, 0] ![0, 0, 0] x (sitofp (F := Ideal) .f32 (constantI S_ 32 0#32)) pads_S4x8208x512_S4x8256x512_000_4800_000 h_S_ : FVec Ideal S4x8256x512 .f32) (ix3 b t j)
      = e t.val := by
  pointwise []
  exact padded (f := fun s h => x (ix3 b ⟨s, h⟩ j)) zero_word hf he t

/-- A head's row over its length. -/
theorem normed_at (x : FVec Ideal S4x8208x4x128 .f32) (b : Fin 4) (t : Fin 8208) (j : Fin 512) :
   (shapeCast S4x8208x512 (mulf x (broadcastInDim S4x8208x4x128 ![0, 1, 2, 3] bcast_S4x8208x4x1_S4x8208x4x128_0_1_2_3 (Host.rsqrt (addf (broadcastInDim S4x8208x4x1 ![0, 1, 2] bcast_S4x8208x4_S4x8208x4x1_0_1_2 (Host.reduceAdd (mulf x x) (constant S_ .f32 0x00000000#32) reducesTo_S4x8208x4x128_S4x8208x4_d3 h_S_)) (broadcastInDim S4x8208x4x1 ![] bcast_S_S4x8208x4x1 (constant S_ .f32 0x358637BD#32)))))) shapeCasts_S4x8208x4x128_S4x8208x512) (ix3 b t j) = unit (fun d => x (ix4 b t ⟨j.val / 128, by omega⟩ d)) ⟨j.val % 128, by omega⟩ := by
  pointwise [unit]

theorem res_y (b : Fin 4) (t : Fin 8256) (j : Fin 512) : (val4 V (Proc.devRef .tc main_v171) : S4x8256x512.Idx → EReal) (ix3 b t j)
    = branch (X V b) (w1 V) (w5 V) t.val j := by
  rw [val4_main_v171]
  pointwise [v2_at, v7_at]
  by_cases h : 48 ≤ t.val
  · rw [dif_pos ⟨h, by omega⟩, branch]
    refine (congrArg _ (conv3_taps (gate (X V b) (w1 V)) (w5 V) (t.val - 48) j)).trans ?_
    rw [show t.val - 48 + 48 = t.val by omega, show t.val - 48 + 56 = t.val + 8 by omega]
  · rw [dif_neg (fun q => h q.1), zero_word, branch_pad (by omega)]

theorem res_q (b : Fin 4) (t : Fin 8256) (j : Fin 512) : (val4 V (Proc.devRef .tc main_v172) : S4x8256x512.Idx → EReal) (ix3 b t j)
    = unit (fun x => mixed (X V b) (w2 V) (w6 V) (t.val + 8) ⟨128 * (j.val / 128) + x.val, by omega⟩) ⟨j.val % 128, by omega⟩ := by
  rw [val4_main_v172]
  refine pad_at _ (e := fun t => unit (fun x => mixed (X V b) (w2 V) (w6 V) (t + 8) ⟨128 * (j.val / 128) + x.val, by omega⟩) ⟨j.val % 128, by omega⟩) b t j
    (fun s h => ?_) (fun t h => unit_pad (fun x => mixed_pad h _) _)
  refine (normed_at (res_main_v124 V) b ⟨s, h⟩ j).trans ?_
  simp only [v124_at]

theorem res_k (b : Fin 4) (t : Fin 8256) (j : Fin 512) : (val4 V (Proc.devRef .tc main_v173) : S4x8256x512.Idx → EReal) (ix3 b t j)
    = unit (fun x => mixed (X V b) (w2 V) (w6 V) (t.val + 8) ⟨512 + (128 * (j.val / 128) + x.val), by omega⟩) ⟨j.val % 128, by omega⟩ := by
  rw [val4_main_v173]
  refine pad_at _ (e := fun t => unit (fun x => mixed (X V b) (w2 V) (w6 V) (t + 8) ⟨512 + (128 * (j.val / 128) + x.val), by omega⟩) ⟨j.val % 128, by omega⟩) b t j
    (fun s h => ?_) (fun t h => unit_pad (fun x => mixed_pad h _) _)
  refine (normed_at (res_main_v134 V) b ⟨s, h⟩ j).trans ?_
  simp only [v134_at]

theorem res_v (b : Fin 4) (t : Fin 8256) (j : Fin 512) : (val4 V (Proc.devRef .tc main_v174) : S4x8256x512.Idx → EReal) (ix3 b t j)
    = mixed (X V b) (w2 V) (w6 V) (t.val + 8) ⟨1024 + j.val, by omega⟩ := by
  rw [val4_main_v174]
  refine pad_at _ (e := fun t => mixed (X V b) (w2 V) (w6 V) (t + 8) ⟨1024 + j.val, by omega⟩) b t j (fun s h => ?_) (fun t h => mixed_pad h _)
  pointwise [v122_at]
  rfl

theorem res_z (b : Fin 4) (t : Fin 8256) (j : Fin 512) : (val4 V (Proc.devRef .tc main_v176) : S4x8256x512.Idx → EReal) (ix3 b t j)
    = silu (dotW (X V b) (w3 V) t.val j) := by
  rw [val4_main_v176]
  pointwise [v145_at]
  rfl

theorem res_g (b : Fin 4) (t : Fin 8256) (j : Fin 128) : (val4 V (Proc.devRef .tc main_v177) : S4x8256x128.Idx → EReal) (ix3 b t j)
    = gates (X V b) (w4 V) (w7 V) (w8 V) (t.val + 8) j := by
  rw [val4_main_v177]
  pointwise [v147_at, res_main_v158, res_main_call7_cst, res_main_call7_v3]
  by_cases h : 48 ≤ t.val
  · have e : t.val - 48 + 48 = t.val := by omega
    rw [dif_pos ⟨h, by omega⟩, gates, e, if_pos (show 56 ≤ t.val + 8 by omega), Nat.add_sub_cancel]
    by_cases h4 : j.val < 4
    · rw [dif_pos h4, if_pos h4, if_neg (not_not_intro rfl), zero_sub, zero_sub]
    · rw [dif_neg h4, if_neg h4]
      simp only [show 4 + (j.val - 4) = j.val by omega]
      rfl
  · rw [dif_neg (fun q => h q.1), zero_word, gates_pad (by omega)]

end Proj.Ref

end
-- ==== Proof.ProjClaims.lean ====
/- The in-projection's claims: the reference runs, and the two programs compute the same six arrays. -/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.ProjArrays
public import proofs.«01_k».proof.Proof.ProjRes

@[expose] public section

set_option backward.proofsInPublic true
set_option maxRecDepth 65536

noncomputable section

namespace Proj.Claims

open Idealize.ShloMosaic Idealize.SL.Sem Proj Proj.Ref

/-- The reference runs, leaves its arguments as they were, and declares no counter. -/
theorem frame_ref : Cert.quiescent_Reference2Ideal := fun m g _ =>
  (θ_run Cert.Reference2Ideal.defs _ _).mono
    (fun r h => ⟨fun c => (h c).2.2.2.2.2.2, sem_eq_zero_of_no_sems (by decide) r.2⟩)
    (Cert.Reference2Ideal.Value.run (F := Ideal) m g)

section
variable (V : Valuation Cert.Reference2Ideal.τ Cert.Reference2Ideal.sig (Elt Ideal))
  (m : (ℓ : Loc Cert.Kernel2Ideal.nD Cert.Kernel2Ideal.τ Cert.Kernel2Ideal.sig) → Buf (Elt Ideal) ℓ) (c : Dev Cert.Kernel2Ideal.nD)

abbrev arr0 : Cert.Kernel2Ideal.S4x8256x1024.Idx → EReal := m ((c.tc : Thread Cert.Kernel2Ideal.nD Cert.Kernel2Ideal.τ).loc Cert.Kernel2Ideal.main_arg0)

/-- An index, by batch, token and column. -/
theorem index {n : ℕ} (i : (⟨3, ![4, 8256, n]⟩ : Shape).Idx) : ∃ b t j, i = ix3 b t j :=
  ⟨i 0, i 1, i 2, by funext a; match a with | ⟨0, _⟩ => rfl | ⟨1, _⟩ => rfl | ⟨2, _⟩ => rfl⟩

/-- A column, by head and entry of the head. -/
theorem col_eq (j : Fin 512) : (⟨128 * (j.val / 128) + j.val % 128, by omega⟩ : Fin 512) = j := Fin.ext (by show 128 * (j.val / 128) + j.val % 128 = j.val; omega)

variable (e0 : h0 V = arr0 m c)
include e0

theorem same_y (e1 : w1 V = arr1 m c) (e5 : w5 V = arr5 m c) :
    (Cert.Reference2Ideal.Value.val4 V (Proc.devRef .tc Cert.Reference2Ideal.main_v171) : Cert.Reference2Ideal.S4x8256x512.Idx → EReal)
      = (Cert.Kernel2Ideal.Value.G9 m c : Cert.Reference2Ideal.S4x8256x512.Idx → EReal) := by
  funext i
  obtain ⟨b, t, j, rfl⟩ := index i
  rw [res_y, X, e0, e1, e5]
  exact (array9 m c b t j).symm

theorem same_q (e2 : w2 V = arr2 m c) (e6 : w6 V = arr6 m c) :
    (Cert.Reference2Ideal.Value.val4 V (Proc.devRef .tc Cert.Reference2Ideal.main_v172) : Cert.Reference2Ideal.S4x8256x512.Idx → EReal)
      = (Cert.Kernel2Ideal.Value.G10 m c : Cert.Reference2Ideal.S4x8256x512.Idx → EReal) := by
  funext i
  obtain ⟨b, t, j, rfl⟩ := index i
  rw [res_q, X, e0, e2, e6]
  exact (array10 m c b t ⟨j.val / 128, by omega⟩ ⟨j.val % 128, by omega⟩).symm.trans
    (congrArg (fun q => (Cert.Kernel2Ideal.Value.G10 m c : Cert.Reference2Ideal.S4x8256x512.Idx → EReal) (ix3 b t q)) (col_eq j))

theorem same_k (e2 : w2 V = arr2 m c) (e6 : w6 V = arr6 m c) :
    (Cert.Reference2Ideal.Value.val4 V (Proc.devRef .tc Cert.Reference2Ideal.main_v173) : Cert.Reference2Ideal.S4x8256x512.Idx → EReal)
      = (Cert.Kernel2Ideal.Value.G11 m c : Cert.Reference2Ideal.S4x8256x512.Idx → EReal) := by
  funext i
  obtain ⟨b, t, j, rfl⟩ := index i
  rw [res_k, X, e0, e2, e6]
  exact (array11 m c b t ⟨j.val / 128, by omega⟩ ⟨j.val % 128, by omega⟩).symm.trans
    (congrArg (fun q => (Cert.Kernel2Ideal.Value.G11 m c : Cert.Reference2Ideal.S4x8256x512.Idx → EReal) (ix3 b t q)) (col_eq j))

theorem same_v (e2 : w2 V = arr2 m c) (e6 : w6 V = arr6 m c) :
    (Cert.Reference2Ideal.Value.val4 V (Proc.devRef .tc Cert.Reference2Ideal.main_v174) : Cert.Reference2Ideal.S4x8256x512.Idx → EReal)
      = (Cert.Kernel2Ideal.Value.G12 m c : Cert.Reference2Ideal.S4x8256x512.Idx → EReal) := by
  funext i
  obtain ⟨b, t, j, rfl⟩ := index i
  rw [res_v, X, e0, e2, e6]
  exact (array12 m c b t j).symm

theorem same_z (e3 : w3 V = arr3 m c) :
    (Cert.Reference2Ideal.Value.val4 V (Proc.devRef .tc Cert.Reference2Ideal.main_v176) : Cert.Reference2Ideal.S4x8256x512.Idx → EReal)
      = (Cert.Kernel2Ideal.Value.G13 m c : Cert.Reference2Ideal.S4x8256x512.Idx → EReal) := by
  funext i
  obtain ⟨b, t, j, rfl⟩ := index i
  rw [res_z, X, e0, e3]
  exact (array13 m c b t j).symm

theorem same_g (e4 : w4 V = arr4 m c) (e7 : w7 V = arr7 m c) (e8 : w8 V = arr8 m c) :
    (Cert.Reference2Ideal.Value.val4 V (Proc.devRef .tc Cert.Reference2Ideal.main_v177) : Cert.Reference2Ideal.S4x8256x128.Idx → EReal)
      = (Cert.Kernel2Ideal.Value.G14 m c : Cert.Reference2Ideal.S4x8256x128.Idx → EReal) := by
  funext i
  obtain ⟨b, t, j, rfl⟩ := index i
  rw [res_g, X, e0, e4, e7, e8]
  exact (array14 m c b t j).symm

end

/-- The value claim: the six results are equal. -/
theorem value : Cert.algebraic_Kernel2Ideal_Reference2Ideal := by
  intro m g m' g' _ hargs
  refine ⟨fun c => Cert.Kernel2Ideal.Value.G9 m c, fun c => Cert.Kernel2Ideal.Value.G10 m c, fun c => Cert.Kernel2Ideal.Value.G11 m c,
    fun c => Cert.Kernel2Ideal.Value.G12 m c, fun c => Cert.Kernel2Ideal.Value.G13 m c, fun c => Cert.Kernel2Ideal.Value.G14 m c,
    Cert.Kernel2Ideal.Value.run m g, ?_⟩
  refine (θ_run Cert.Reference2Ideal.defs _ _).mono (fun r h c => ?_) (Cert.Reference2Ideal.Value.run (F := Ideal) m' g')
  obtain ⟨e0, e1, e2, e3, e4, e5, e6, e7, e8⟩ := hargs c
  obtain ⟨hy, hq, hk, hv, hz, hg, kept⟩ := h c
  exact ⟨(hy.trans (Cert.Reference2Ideal.Value.val4_main_v171 _).symm).trans (same_y _ m c e0 e1 e5),
    (hq.trans (Cert.Reference2Ideal.Value.val4_main_v172 _).symm).trans (same_q _ m c e0 e2 e6),
    (hk.trans (Cert.Reference2Ideal.Value.val4_main_v173 _).symm).trans (same_k _ m c e0 e2 e6),
    (hv.trans (Cert.Reference2Ideal.Value.val4_main_v174 _).symm).trans (same_v _ m c e0 e2 e6),
    (hz.trans (Cert.Reference2Ideal.Value.val4_main_v176 _).symm).trans (same_z _ m c e0 e3),
    (hg.trans (Cert.Reference2Ideal.Value.val4_main_v177 _).symm).trans (same_g _ m c e0 e4 e7 e8), kept⟩

end Proj.Claims

end
-- ==== Proof.OutBody.lean ====
/- The output projection's blocks over the extended reals: the heads normalised and gated, the projection, the residual and
   the layer norm, as functions of a block's rows. -/
module

public import proofs.«01_k».proof.Proof.Gen.Kernel3Ideal.Skeleton
public import Idealize.ShloMosaic.Lib.Pointwise

@[expose] public section

set_option backward.proofsInPublic true
set_option maxRecDepth 65536

noncomputable section

namespace Out

open Idealize.ShloMosaic Cert.Kernel3Ideal Cert.Kernel3Ideal.Gen

/-! ## The functions computed, over one row -/

/-- A head's row over its root mean square (the mean square is offset by the reference's small constant). -/
def rms (f : Fin 128 → EReal) (d : Fin 128) : EReal :=
  f d * Ideal.rsqrt (Ideal.div (∑ x, f x * f x) (Ideal.ofBits FTy.f32 0x43000000#32) + Ideal.ofBits FTy.f32 0x358637BD#32)

/-- The recurrence's row, normalised by head and scaled. -/
def heads (o : Fin 512 → EReal) (nw : Fin 128 → EReal) (j : Fin 512) : EReal :=
  rms (fun x => o ⟨128 * (j.val / 128) + x.val, by omega⟩) ⟨j.val % 128, by omega⟩ * nw ⟨j.val % 128, by omega⟩

theorem heads_at (o : Fin 512 → EReal) (nw : Fin 128 → EReal) (x : Fin 512) (q : ℕ) (d : Fin 128) (hx : x.val = 128 * q + d.val)
    (f : Fin 128 → EReal) (hf : ∀ z : Fin 128, f z = o ⟨128 * q + z.val, by omega⟩) : heads o nw x = rms f d * nw d := by
  have hq : x.val / 128 = q := by omega
  have hd : (⟨x.val % 128, by omega⟩ : Fin 128) = d := Fin.ext (by show x.val % 128 = d.val; omega)
  have e : f = fun z : Fin 128 => o ⟨128 * (x.val / 128) + z.val, by omega⟩ := by
    funext z
    rw [hf]
    exact congrArg o (Fin.ext (by show 128 * q + z.val = 128 * (x.val / 128) + z.val; rw [hq]))
  rw [heads, hd, e]

theorem heads_cases (o : Fin 512 → EReal) (nw : Fin 128 → EReal) (x : Fin 512) :
    (if h : x.val < 128 then rms (fun z => o ⟨z.val, by omega⟩) ⟨x.val, h⟩ * nw ⟨x.val, h⟩
      else if h : x.val - 128 < 128 then rms (fun z => o ⟨128 + z.val, by omega⟩) ⟨x.val - 128, h⟩ * nw ⟨x.val - 128, h⟩
      else if h : x.val - 128 - 128 < 128 then rms (fun z => o ⟨256 + z.val, by omega⟩) ⟨x.val - 128 - 128, h⟩ * nw ⟨x.val - 128 - 128, h⟩
      else rms (fun z => o ⟨384 + z.val, by omega⟩) ⟨x.val - 128 - 128 - 128, by omega⟩ * nw ⟨x.val - 128 - 128 - 128, by omega⟩)
      = heads o nw x := by
  have hx := x.isLt
  by_cases h0 : x.val < 128
  · rw [dif_pos h0]
    refine (heads_at o nw x 0 ⟨x.val, h0⟩ ?_ _ fun z => ?_).symm
    · show x.val = 128 * 0 + x.val
      omega
    · exact congrArg o (Fin.ext (Nat.zero_add _).symm)
  rw [dif_neg h0]
  by_cases h1 : x.val - 128 < 128
  · rw [dif_pos h1]
    refine (heads_at o nw x 1 ⟨x.val - 128, h1⟩ ?_ _ fun z => rfl).symm
    show x.val = 128 * 1 + (x.val - 128)
    omega
  rw [dif_neg h1]
  by_cases h2 : x.val - 128 - 128 < 128
  · rw [dif_pos h2]
    refine (heads_at o nw x 2 ⟨x.val - 128 - 128, h2⟩ ?_ _ fun z => rfl).symm
    show x.val = 128 * 2 + (x.val - 128 - 128)
    omega
  · rw [dif_neg h2]
    refine (heads_at o nw x 3 ⟨x.val - 128 - 128 - 128, by omega⟩ ?_ _ fun z => rfl).symm
    show x.val = 128 * 3 + (x.val - 128 - 128 - 128)
    omega

/-- The two head groups through the output projection, added to the scaled residual. -/
def mixer (o s y : Fin 512 → EReal) (h : Fin 1024 → EReal) (wt wb : (⟨2, ![512, 1024]⟩ : Shape).Idx → EReal) (nw : Fin 128 → EReal)
    (j : Fin 1024) : EReal :=
  Ideal.ofBits FTy.f32 0x3FB504F3#32 * h j + (∑ k, y k * wt (ix2 k j) + ∑ k, heads o nw k * s k * wb (ix2 k j))

/-- A row's mean. -/
def mean (f : Fin 1024 → EReal) : EReal := Ideal.div (∑ x, f x) (Ideal.ofBits FTy.f32 0x44800000#32)

/-- A row's layer norm. -/
def lnorm (f g b : Fin 1024 → EReal) (j : Fin 1024) : EReal :=
  (f j - mean f) * Ideal.rsqrt (mean (fun x => (f x - mean f) * (f x - mean f)) + Ideal.ofBits FTy.f32 0x3727C5AC#32) * g j + b j

/-! ## One block -/

section
variable (o : Vec Ideal S768x512 .f32) (s y : Vec Ideal S768x512 .bf16) (h : Vec Ideal S768x1024 .f32)
  (wt wb : Vec Ideal S512x1024 .bf16) (nw : Vec Ideal S1x128 .f32) (g b : Vec Ideal S1x1024 .f32)

theorem head0 (r : Fin 768) (d : Fin 128) :
    k0_pay2 (F := Ideal) o nw (ix2 r d) = rms (fun x => o (ix2 r ⟨x.val, by omega⟩)) d * nw (ix2 0 d) := by
  pointwise [k0_pay2, rms]

theorem head1 (r : Fin 768) (d : Fin 128) :
    k0_pay3 (F := Ideal) o nw (ix2 r d) = rms (fun x => o (ix2 r ⟨128 + x.val, by omega⟩)) d * nw (ix2 0 d) := by
  pointwise [k0_pay3, rms]

theorem head2 (r : Fin 768) (d : Fin 128) :
    k0_pay4 (F := Ideal) o (ix2 r d) = rms (fun x => o (ix2 r ⟨256 + x.val, by omega⟩)) d := by
  pointwise [k0_pay4, rms]

theorem scale_at (r : Fin 768) (d : Fin 128) : k0_pay5 (F := Ideal) nw (ix2 r d) = nw (ix2 0 d) := by
  pointwise [k0_pay5]

abbrev body6 : FVec Ideal S768x1024 .f32 := k0_pay6 (F := Ideal) o (k0_pay2 o nw) (k0_pay3 o nw) (k0_pay4 o) (k0_pay5 nw) nw s y wt wb h

theorem mixer_at (r : Fin 768) (j : Fin 1024) : body6 o s y h wt wb nw (ix2 r j)
    = mixer (fun k => o (ix2 r k)) (fun k => s (ix2 r k)) (fun k => y (ix2 r k)) (fun k => h (ix2 r k)) wt wb (fun d => nw (ix2 0 d)) j := by
  unfold mixer
  pointwise [body6, k0_pay6, head0, head1, head2, scale_at]
  refine congrArg _ (congrArg _ (Finset.sum_congr rfl fun x _ => congrArg (· * wb (ix2 x j)) (congrArg (· * s (ix2 r x)) ?_)))
  exact heads_cases (fun k => o (ix2 r k)) (fun d => nw (ix2 0 d)) x

theorem mean_at (v : FVec Ideal S768x1024 .f32) (r : Fin 768) (hv : ∀ r j, body6 o s y h wt wb nw (ix2 r j) = v (ix2 r j)) :
    k0_pay7 (F := Ideal) o (k0_pay2 o nw) (k0_pay3 o nw) (k0_pay4 o) (k0_pay5 nw) nw s y wt wb h (ix2 r 0) = mean (fun j => v (ix2 r j)) := by
  pointwise [k0_pay7, mean]
  simp only [← hv]

theorem lnorm_at (v : FVec Ideal S768x1024 .f32) (u : FVec Ideal S768x1 .f32) (hu : ∀ r, u (ix2 r 0) = mean (fun j => v (ix2 r j))) (r : Fin 768) (j : Fin 1024) :
    k0_pay1 (F := Ideal) v g b u (ix2 r j) = lnorm (fun j => v (ix2 r j)) (fun j => g (ix2 0 j)) (fun j => b (ix2 0 j)) j := by
  unfold lnorm
  pointwise [k0_pay1, hu, mean]

end

end Out

end
-- ==== Proof.OutValue.lean ====
/- The output projection kernel's result, read at an index: a row's layer norm of the mixer's row. -/
module

public import proofs.«01_k».proof.Proof.Gen.Kernel3Ideal.Value
public import proofs.«01_k».proof.Proof.OutBody
public import Idealize.ShloMosaic.Lib.Pipeline.ValueKit

@[expose] public section

set_option backward.proofsInPublic true
set_option maxRecDepth 65536

noncomputable section

namespace Out

open Idealize.ShloMosaic Idealize.ShloMosaic.TcCoe Idealize.SL.Sem Cert.Kernel3Ideal Cert.Kernel3Ideal.Gen

/-- One row of the result. -/
def row (o s y : Fin 512 → EReal) (h : Fin 1024 → EReal) (wt wb : (⟨2, ![512, 1024]⟩ : Shape).Idx → EReal) (nw : Fin 128 → EReal)
    (g b : Fin 1024 → EReal) (j : Fin 1024) : EReal := lnorm (mixer o s y h wt wb nw) g b j

theorem block_at (o : Vec Ideal S768x512 .f32) (s y : Vec Ideal S768x512 .bf16) (h : Vec Ideal S768x1024 .f32)
    (wt wb : Vec Ideal S512x1024 .bf16) (nw : Vec Ideal S1x128 .f32) (g b : Vec Ideal S1x1024 .f32) (r : Fin 768) (j : Fin 1024) :
    out0_9 o s y h wt wb nw g b (ix2 r j)
      = row (fun k => o (ix2 r k)) (fun k => s (ix2 r k)) (fun k => y (ix2 r k)) (fun k => h (ix2 r k)) wt wb (fun d => nw (ix2 0 d))
          (fun k => g (ix2 0 k)) (fun k => b (ix2 0 k)) j := by
  unfold_out out0_9
  frame_out
  refine (lnorm_at g b (body6 o s y h wt wb nw) _ (fun r => mean_at o s y h wt wb nw _ r fun _ _ => rfl) r j).trans ?_
  unfold row
  simp only [mixer_at]

variable (m : (ℓ : Loc nD τ sig) → Buf (Elt Ideal) ℓ) (c : Dev nD)

abbrev a0 : S33024x512.Idx → EReal := m ((c : Thread nD τ).loc main_arg0)
abbrev a1 : S33024x512.Idx → EReal := m ((c : Thread nD τ).loc main_arg1)
abbrev a2 : S33024x512.Idx → EReal := m ((c : Thread nD τ).loc main_arg2)
abbrev a3 : S33024x1024.Idx → EReal := m ((c : Thread nD τ).loc main_arg3)
abbrev a4 : S512x1024.Idx → EReal := m ((c : Thread nD τ).loc main_arg4)
abbrev a5 : S512x1024.Idx → EReal := m ((c : Thread nD τ).loc main_arg5)
abbrev a6 : S1x128.Idx → EReal := m ((c : Thread nD τ).loc main_arg6)
abbrev a7 : S1x1024.Idx → EReal := m ((c : Thread nD τ).loc main_arg7)
abbrev a8 : S1x1024.Idx → EReal := m ((c : Thread nD τ).loc main_arg8)

theorem index_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem flush_all : ∀ t : Fin cfg0.N, (cfg0.win 9).flush t = true := (by decide +kernel : ∀ t : Fin grid0.N, win0_9.flush t = true)

theorem pt_lt (t : Fin cfg0.N) : t.val < 43 := lt_of_lt_of_eq t.isLt N_0

theorem same_index {a b : ℕ} (j i : (⟨2, ![a, b]⟩ : Shape).Idx) (h0 : (i 0).val = (j 0).val) (h1 : (i 1).val = (j 1).val) : i = j := by
  funext x
  apply Fin.ext
  match x with
  | ⟨0, _⟩ => exact h0
  | ⟨1, _⟩ => exact h1

/-- Row `r` of point `t`'s block, in the array. -/
abbrev place (t : Fin cfg0.N) (r : Fin 768) : Fin 33024 := ⟨768 * t.val + r.val, by have := pt_lt t; omega⟩

theorem blk0 (t : Fin cfg0.N) (r : Fin 768) (j : Fin 512) : (iblk m c 0 t : Vec Ideal S768x512 .f32) (ix2 r j) = a0 m c (ix2 (place t r) j) := by
  obtain ⟨e0, e1⟩ := (index_in t).1
  unfold iblk
  rw [View.read_apply]
  show V m c main_arg0 _ = _
  unfold V
  exact congrArg (a0 m c) (same_index (ix2 (place t r) j) _ (by show win0_0.index t 0 * 768 + 1 * r.val = 768 * t.val + r.val; rw [e0]; omega) (by show win0_0.index t 1 * _ + 1 * j.val = j.val; rw [e1]; omega))

theorem blk1 (t : Fin cfg0.N) (r : Fin 768) (j : Fin 512) : (iblk m c 1 t : Vec Ideal S768x512 .bf16) (ix2 r j) = a1 m c (ix2 (place t r) j) := by
  obtain ⟨e0, e1⟩ := (index_in t).2.1
  unfold iblk
  rw [View.read_apply]
  show V m c main_arg1 _ = _
  unfold V
  exact congrArg (a1 m c) (same_index (ix2 (place t r) j) _ (by show win0_1.index t 0 * 768 + 1 * r.val = 768 * t.val + r.val; rw [e0]; omega) (by show win0_1.index t 1 * _ + 1 * j.val = j.val; rw [e1]; omega))

theorem blk2 (t : Fin cfg0.N) (r : Fin 768) (j : Fin 512) : (iblk m c 2 t : Vec Ideal S768x512 .bf16) (ix2 r j) = a2 m c (ix2 (place t r) j) := by
  obtain ⟨e0, e1⟩ := (index_in t).2.2.1
  unfold iblk
  rw [View.read_apply]
  show V m c main_arg2 _ = _
  unfold V
  exact congrArg (a2 m c) (same_index (ix2 (place t r) j) _ (by show win0_2.index t 0 * 768 + 1 * r.val = 768 * t.val + r.val; rw [e0]; omega) (by show win0_2.index t 1 * _ + 1 * j.val = j.val; rw [e1]; omega))

theorem blk3 (t : Fin cfg0.N) (r : Fin 768) (j : Fin 1024) : (iblk m c 3 t : Vec Ideal S768x1024 .f32) (ix2 r j) = a3 m c (ix2 (place t r) j) := by
  obtain ⟨e0, e1⟩ := (index_in t).2.2.2.1
  unfold iblk
  rw [View.read_apply]
  show V m c main_arg3 _ = _
  unfold V
  exact congrArg (a3 m c) (same_index (ix2 (place t r) j) _ (by show win0_3.index t 0 * 768 + 1 * r.val = 768 * t.val + r.val; rw [e0]; omega) (by show win0_3.index t 1 * _ + 1 * j.val = j.val; rw [e1]; omega))

theorem blk4 (t : Fin cfg0.N) : (iblk m c 4 t : Vec Ideal S512x1024 .bf16) = a4 m c := by
  funext j
  obtain ⟨e0, e1⟩ := (index_in t).2.2.2.2.1
  unfold iblk
  rw [View.read_apply]
  show V m c main_arg4 _ = _
  unfold V
  exact congrArg (a4 m c) (same_index j _ (by show win0_4.index t 0 * _ + 1 * (j 0).val = _; rw [e0]; omega) (by show win0_4.index t 1 * _ + 1 * (j 1).val = _; rw [e1]; omega))

theorem blk5 (t : Fin cfg0.N) : (iblk m c 5 t : Vec Ideal S512x1024 .bf16) = a5 m c := by
  funext j
  obtain ⟨e0, e1⟩ := (index_in t).2.2.2.2.2.1
  unfold iblk
  rw [View.read_apply]
  show V m c main_arg5 _ = _
  unfold V
  exact congrArg (a5 m c) (same_index j _ (by show win0_5.index t 0 * _ + 1 * (j 0).val = _; rw [e0]; omega) (by show win0_5.index t 1 * _ + 1 * (j 1).val = _; rw [e1]; omega))

theorem blk6 (t : Fin cfg0.N) : (iblk m c 6 t : Vec Ideal S1x128 .f32) = a6 m c := by
  funext j
  obtain ⟨e0, e1⟩ := (index_in t).2.2.2.2.2.2.1
  unfold iblk
  rw [View.read_apply]
  show V m c main_arg6 _ = _
  unfold V
  exact congrArg (a6 m c) (same_index j _ (by show win0_6.index t 0 * _ + 1 * (j 0).val = _; rw [e0]; omega) (by show win0_6.index t 1 * _ + 1 * (j 1).val = _; rw [e1]; omega))

theorem blk7 (t : Fin cfg0.N) : (iblk m c 7 t : Vec Ideal S1x1024 .f32) = a7 m c := by
  funext j
  obtain ⟨e0, e1⟩ := (index_in t).2.2.2.2.2.2.2.1
  unfold iblk
  rw [View.read_apply]
  show V m c main_arg7 _ = _
  unfold V
  exact congrArg (a7 m c) (same_index j _ (by show win0_7.index t 0 * _ + 1 * (j 0).val = _; rw [e0]; omega) (by show win0_7.index t 1 * _ + 1 * (j 1).val = _; rw [e1]; omega))

theorem blk8 (t : Fin cfg0.N) : (iblk m c 8 t : Vec Ideal S1x1024 .f32) = a8 m c := by
  funext j
  obtain ⟨e0, e1⟩ := (index_in t).2.2.2.2.2.2.2.2.1
  unfold iblk
  rw [View.read_apply]
  show V m c main_arg8 _ = _
  unfold V
  exact congrArg (a8 m c) (same_index j _ (by show win0_8.index t 0 * _ + 1 * (j 0).val = _; rw [e0]; omega) (by show win0_8.index t 1 * _ + 1 * (j 1).val = _; rw [e1]; omega))

theorem result_blk (t : Fin cfg0.N) (r : Fin 768) (j : Fin 1024) :
    ((dats m 0 c).arrAt 9 cfg0.N : S33024x1024.Idx → EReal) (ix2 (place t r) j)
      = row (fun k => a0 m c (ix2 (place t r) k)) (fun k => a1 m c (ix2 (place t r) k)) (fun k => a2 m c (ix2 (place t r) k))
          (fun k => a3 m c (ix2 (place t r) k)) (a4 m c) (a5 m c) (fun d => a6 m c (ix2 0 d)) (fun k => a7 m c (ix2 0 k)) (fun k => a8 m c (ix2 0 k)) j := by
  have key := congrFun ((Cert.Kernel3Ideal.Value.blocks9 m c t (flush_all t)).trans (Cert.Kernel3Ideal.Value.flushed9 m c t)) (ix2 r j)
  rw [View.read_apply] at key
  obtain ⟨e0, e1⟩ := (index_in t).2.2.2.2.2.2.2.2.2
  have e : ((cfg0.win 9).blk t).view.emb (ix2 r j) = ix2 (place t r) j :=
    same_index (ix2 (place t r) j) _ (by show win0_9.index t 0 * 768 + 1 * r.val = 768 * t.val + r.val; rw [e0]; omega)
      (by show win0_9.index t 1 * 1024 + 1 * j.val = j.val; rw [e1]; omega)
  rw [e] at key
  refine Eq.trans (b := cast rfl ((dats m 0 c).arrAt 9 cfg0.N (ix2 (place t r) j))) rfl (key.trans ?_)
  refine Eq.trans (b := out0_9 (iblk m c 0 t) (iblk m c 1 t) (iblk m c 2 t) (iblk m c 3 t) (iblk m c 4 t) (iblk m c 5 t) (iblk m c 6 t) (iblk m c 7 t) (iblk m c 8 t) (ix2 r j)) rfl ?_
  rw [block_at, blk4, blk5, blk6, blk7, blk8]
  simp only [blk0, blk1, blk2, blk3]

/-- The result at row `R` is a function of the arguments at row `R`. -/
theorem result_at (R : Fin 33024) (j : Fin 1024) :
    ((dats m 0 c).arrAt 9 cfg0.N : S33024x1024.Idx → EReal) (ix2 R j)
      = row (fun k => a0 m c (ix2 R k)) (fun k => a1 m c (ix2 R k)) (fun k => a2 m c (ix2 R k))
          (fun k => a3 m c (ix2 R k)) (a4 m c) (a5 m c) (fun d => a6 m c (ix2 0 d)) (fun k => a7 m c (ix2 0 k)) (fun k => a8 m c (ix2 0 k)) j := by
  have hR : place ⟨R.val / 768, lt_of_lt_of_eq (by omega) N_0.symm⟩ ⟨R.val % 768, Nat.mod_lt _ (by decide)⟩ = R :=
    Fin.ext (by show 768 * (R.val / 768) + R.val % 768 = R.val; omega)
  have key := result_blk m c ⟨R.val / 768, lt_of_lt_of_eq (by omega) N_0.symm⟩ ⟨R.val % 768, Nat.mod_lt _ (by decide)⟩ j
  rw [hR] at key
  exact key

end Out

end
-- ==== Proof.OutRef.lean ====
/- The output projection's reference read at an index: the same function of a row as the kernel's. -/
module

public import proofs.«01_k».proof.Proof.Gen.Reference3Ideal.Read
public import proofs.«01_k».proof.Proof.OutValue

@[expose] public section

set_option backward.proofsInPublic true
set_option maxRecDepth 65536

noncomputable section

namespace Out.Ref

open Idealize.ShloMosaic Idealize.ShloMosaic.TcCoe Idealize.SL.Sem Cert.Reference3Ideal Cert.Reference3Ideal.Gen Cert.Reference3Ideal.Read

variable (x0 : (⟨S33024x512, .f32⟩ : BufTy).Contents (Elt Ideal)) (x1 x2 : (⟨S33024x512, .bf16⟩ : BufTy).Contents (Elt Ideal))
  (x3 : (⟨S33024x1024, .f32⟩ : BufTy).Contents (Elt Ideal)) (x4 x5 : (⟨S512x1024, .bf16⟩ : BufTy).Contents (Elt Ideal))
  (x6 : (⟨S1x128, .f32⟩ : BufTy).Contents (Elt Ideal)) (x7 x8 : (⟨S1x1024, .f32⟩ : BufTy).Contents (Elt Ideal))

theorem head_at (R : Fin 33024) (h : Fin 4) (d : Fin 128) : val_main_v14 (F := Ideal) x0 x6 (ix3 R h d)
    = rms (fun z => x0 (ix2 R ⟨128 * h.val + z.val, by omega⟩)) d * x6 (ix2 0 d) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]
  simp only [Nat.mul_comm h.val 128]

theorem gated_at (R : Fin 33024) (k : Fin 512) : val_main_v17 (F := Ideal) x0 x1 x6 (ix2 R k)
    = heads (fun k => x0 (ix2 R k)) (fun d => x6 (ix2 0 d)) k * x1 (ix2 R k) := by
  pointwise [val_main_v17, val_main_v16, val_main_v15, head_at, heads]

theorem mixed_at (R : Fin 33024) (j : Fin 1024) : val_main_v25 (F := Ideal) x0 x1 x2 x3 x4 x5 x6 (ix2 R j)
    = mixer (fun k => x0 (ix2 R k)) (fun k => x1 (ix2 R k)) (fun k => x2 (ix2 R k)) (fun k => x3 (ix2 R k)) x4 x5 (fun d => x6 (ix2 0 d)) j := by
  unfold mixer
  pointwise [val_main_v25, val_main_v24, val_main_v23, val_main_cst_2, val_main_v22, val_main_v21, val_main_v20, val_main_v19, val_main_v18, gated_at]

theorem mean_at (R : Fin 33024) : val_main_v31 (F := Ideal) x0 x1 x2 x3 x4 x5 x6 (ix2 R 0)
    = mean (mixer (fun k => x0 (ix2 R k)) (fun k => x1 (ix2 R k)) (fun k => x2 (ix2 R k)) (fun k => x3 (ix2 R k)) x4 x5 (fun d => x6 (ix2 0 d))) := by
  unfold mean
  pointwise [val_main_v31, val_main_v30, val_main_v29, val_main_v28, val_main_cst_3, val_main_cst_4, mixed_at]

theorem spread_at (R : Fin 33024) : val_main_v38 (F := Ideal) x0 x1 x2 x3 x4 x5 x6 (ix2 R 0)
    = mean (fun j =>
        (mixer (fun k => x0 (ix2 R k)) (fun k => x1 (ix2 R k)) (fun k => x2 (ix2 R k)) (fun k => x3 (ix2 R k)) x4 x5 (fun d => x6 (ix2 0 d)) j
          - mean (mixer (fun k => x0 (ix2 R k)) (fun k => x1 (ix2 R k)) (fun k => x2 (ix2 R k)) (fun k => x3 (ix2 R k)) x4 x5 (fun d => x6 (ix2 0 d))))
        * (mixer (fun k => x0 (ix2 R k)) (fun k => x1 (ix2 R k)) (fun k => x2 (ix2 R k)) (fun k => x3 (ix2 R k)) x4 x5 (fun d => x6 (ix2 0 d)) j
          - mean (mixer (fun k => x0 (ix2 R k)) (fun k => x1 (ix2 R k)) (fun k => x2 (ix2 R k)) (fun k => x3 (ix2 R k)) x4 x5 (fun d => x6 (ix2 0 d))))) := by
  conv_rhs => rw [mean]
  pointwise [val_main_v38, val_main_v37, val_main_v36, val_main_v35, val_main_v34, val_main_v33, val_main_v32, val_main_cst_5, val_main_cst_6, mixed_at, mean_at]

theorem result_at (R : Fin 33024) (j : Fin 1024) : val_main_v51 (F := Ideal) x0 x1 x2 x3 x4 x5 x6 x7 x8 (ix2 R j)
    = row (fun k => x0 (ix2 R k)) (fun k => x1 (ix2 R k)) (fun k => x2 (ix2 R k)) (fun k => x3 (ix2 R k)) x4 x5 (fun d => x6 (ix2 0 d))
        (fun k => x7 (ix2 0 k)) (fun k => x8 (ix2 0 k)) j := by
  unfold row lnorm
  pointwise [val_main_v51, val_main_v50, val_main_v49, val_main_v48, val_main_v47, val_main_v46, val_main_v45, val_main_v44, val_main_v43, val_main_v42, val_main_v41, val_main_cst_7, val_main_v40, val_main_v39, val_main_v27, val_main_v26, mixed_at, mean_at, spread_at]

end Out.Ref

end
-- ==== Proof.OutClaims.lean ====
/- The output projection's claims: the reference runs, and the two programs compute the same array. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.OutRef

@[expose] public section

set_option backward.proofsInPublic true
set_option maxRecDepth 65536

noncomputable section

namespace Out.Claims

open Idealize.ShloMosaic Idealize.SL.Sem

/-- The reference runs, leaves its arguments as they were, and declares no counter. -/
theorem frame_ref : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The value claim. -/
theorem value : Cert.algebraic_Kernel3Ideal_Reference3Ideal := by
  intro m g m' g' _ hargs
  refine ⟨fun c => (Cert.Kernel3Ideal.Gen.dats m 0 c).arrAt 9 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨e0, e1, e2, e3, e4, e5, e6, e7, e8⟩ := hargs c
  rw [Cert.Reference3Ideal.Read.val_main_v51_eq]
  have e : ∀ i : Cert.Kernel3Ideal.S33024x1024.Idx, ∃ R j, i = ix2 R j :=
    fun i => ⟨i 0, i 1, by funext a; match a with | ⟨0, _⟩ => rfl | ⟨1, _⟩ => rfl⟩
  funext i
  obtain ⟨R, j, rfl⟩ := e i
  rw [e0, e1, e2, e3, e4, e5, e6, e7, e8]
  exact (Out.Ref.result_at _ _ _ _ _ _ _ _ _ R j).trans (Out.result_at m c R j).symm

end Out.Claims

end
-- ==== Proof.NormClaims.lean ====
/- The claims of the input's layer norm: kernel and reference compute, of every row, the same layer norm. -/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.OutValue
public import Idealize.ShloMosaic.Lib.Pipeline.ValueKit

@[expose] public section

set_option backward.proofsInPublic true
set_option maxRecDepth 65536

noncomputable section

namespace Norm

open Idealize.ShloMosaic Idealize.ShloMosaic.TcCoe Idealize.SL.Sem
open Out (mean lnorm same_index)

/-! ## The kernel's result -/

section
open Cert.Kernel4Ideal Cert.Kernel4Ideal.Gen

theorem block_at (x : Vec Ideal S768x1024 .f32) (g b : Vec Ideal S1x1024 .f32) (r : Fin 768) (j : Fin 1024) :
    out0_3 x g b (ix2 r j) = lnorm (fun k => x (ix2 r k)) (fun k => g (ix2 0 k)) (fun k => b (ix2 0 k)) j := by
  unfold out0_3
  frame_out
  unfold lnorm
  pointwise [k0_pay1, mean]

variable (m : (ℓ : Loc nD τ sig) → Buf (Elt Ideal) ℓ) (c : Dev nD)

abbrev a0 : S33024x1024.Idx → EReal := m ((c : Thread nD τ).loc main_arg0)
abbrev a1 : S1x1024.Idx → EReal := m ((c : Thread nD τ).loc main_arg1)
abbrev a2 : S1x1024.Idx → EReal := m ((c : Thread nD τ).loc main_arg2)

/-- Each point reads and writes its own rows; scale and shift are read whole. -/
theorem index_in : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem flush_all : ∀ t : Fin cfg0.N, (cfg0.win 3).flush t = true := (by decide +kernel : ∀ t : Fin grid0.N, win0_3.flush t = true)

theorem pt_lt (t : Fin cfg0.N) : t.val < 43 := lt_of_lt_of_eq t.isLt N_0

/-- Row `r` of point `t`'s block, in the array. -/
abbrev place (t : Fin cfg0.N) (r : Fin 768) : Fin 33024 := ⟨768 * t.val + r.val, by have := pt_lt t; omega⟩

theorem rows_blk (t : Fin cfg0.N) (r : Fin 768) (j : Fin 1024) : (iblk m c 0 t : Vec Ideal S768x1024 .f32) (ix2 r j) = a0 m c (ix2 (place t r) j) := by
  obtain ⟨e0, e1⟩ := (index_in t).1
  unfold iblk
  rw [View.read_apply]
  show V m c main_arg0 _ = _
  unfold V
  exact congrArg (a0 m c) (same_index (ix2 (place t r) j) _ (by show win0_0.index t 0 * 768 + 1 * r.val = 768 * t.val + r.val; rw [e0]; omega) (by show win0_0.index t 1 * _ + 1 * j.val = j.val; rw [e1]; omega))

theorem scale_blk (t : Fin cfg0.N) : (iblk m c 1 t : Vec Ideal S1x1024 .f32) = a1 m c := by
  funext j
  obtain ⟨e0, e1⟩ := (index_in t).2.1
  unfold iblk
  rw [View.read_apply]
  show V m c main_arg1 _ = _
  unfold V
  exact congrArg (a1 m c) (same_index j _ (by show win0_1.index t 0 * _ + 1 * (j 0).val = _; rw [e0]; omega) (by show win0_1.index t 1 * _ + 1 * (j 1).val = _; rw [e1]; omega))

theorem shift_blk (t : Fin cfg0.N) : (iblk m c 2 t : Vec Ideal S1x1024 .f32) = a2 m c := by
  funext j
  obtain ⟨e0, e1⟩ := (index_in t).2.2.1
  unfold iblk
  rw [View.read_apply]
  show V m c main_arg2 _ = _
  unfold V
  exact congrArg (a2 m c) (same_index j _ (by show win0_2.index t 0 * _ + 1 * (j 0).val = _; rw [e0]; omega) (by show win0_2.index t 1 * _ + 1 * (j 1).val = _; rw [e1]; omega))

theorem result_blk (t : Fin cfg0.N) (r : Fin 768) (j : Fin 1024) :
    ((dats m 0 c).arrAt 3 cfg0.N : S33024x1024.Idx → EReal) (ix2 (place t r) j)
      = lnorm (fun k => a0 m c (ix2 (place t r) k)) (fun k => a1 m c (ix2 0 k)) (fun k => a2 m c (ix2 0 k)) j := by
  have key := congrFun ((Cert.Kernel4Ideal.Value.blocks3 m c t (flush_all t)).trans (Cert.Kernel4Ideal.Value.flushed3 m c t)) (ix2 r j)
  rw [View.read_apply] at key
  obtain ⟨e0, e1⟩ := (index_in t).2.2.2
  have e : ((cfg0.win 3).blk t).view.emb (ix2 r j) = ix2 (place t r) j :=
    same_index (ix2 (place t r) j) _ (by show win0_3.index t 0 * 768 + 1 * r.val = 768 * t.val + r.val; rw [e0]; omega)
      (by show win0_3.index t 1 * 1024 + 1 * j.val = j.val; rw [e1]; omega)
  rw [e] at key
  refine Eq.trans (b := cast rfl ((dats m 0 c).arrAt 3 cfg0.N (ix2 (place t r) j))) rfl (key.trans ?_)
  refine Eq.trans (b := out0_3 (iblk m c 0 t) (iblk m c 1 t) (iblk m c 2 t) (ix2 r j)) rfl ?_
  rw [block_at, scale_blk, shift_blk]
  simp only [rows_blk]

/-- The kernel's result at row `R` is the layer norm of that row. -/
theorem result_at (R : Fin 33024) (j : Fin 1024) :
    ((dats m 0 c).arrAt 3 cfg0.N : S33024x1024.Idx → EReal) (ix2 R j)
      = lnorm (fun k => a0 m c (ix2 R k)) (fun k => a1 m c (ix2 0 k)) (fun k => a2 m c (ix2 0 k)) j := by
  have hR : place ⟨R.val / 768, lt_of_lt_of_eq (by omega) N_0.symm⟩ ⟨R.val % 768, Nat.mod_lt _ (by decide)⟩ = R :=
    Fin.ext (by show 768 * (R.val / 768) + R.val % 768 = R.val; omega)
  have key := result_blk m c ⟨R.val / 768, lt_of_lt_of_eq (by omega) N_0.symm⟩ ⟨R.val % 768, Nat.mod_lt _ (by decide)⟩ j
  rw [hR] at key
  exact key

end

/-! ## The reference's result -/

section
open Cert.Reference4Ideal Cert.Reference4Ideal.Gen Cert.Reference4Ideal.Read

variable (x0 : (⟨S33024x1024, .f32⟩ : BufTy).Contents (Elt Ideal)) (x1 x2 : (⟨S1x1024, .f32⟩ : BufTy).Contents (Elt Ideal))

theorem mean_at (R : Fin 33024) : val_main_v5 (F := Ideal) x0 (ix2 R 0) = mean (fun k => x0 (ix2 R k)) := by
  pointwise [val_main_v5, val_main_v4, val_main_v3, val_main_v2, val_main_cst, val_main_cst_0, mean]

theorem spread_at (R : Fin 33024) : val_main_v12 (F := Ideal) x0 (ix2 R 0)
    = mean (fun j => (x0 (ix2 R j) - mean (fun k => x0 (ix2 R k))) * (x0 (ix2 R j) - mean (fun k => x0 (ix2 R k)))) := by
  conv_rhs => rw [mean]
  pointwise [val_main_v12, val_main_v11, val_main_v10, val_main_v9, val_main_v8, val_main_v7, val_main_v6, val_main_cst_1, val_main_cst_2, mean_at]

/-- The reference's result at row `R` is the layer norm of that row. -/
theorem reference_at (R : Fin 33024) (j : Fin 1024) : val_main_v25 (F := Ideal) x0 x1 x2 (ix2 R j)
    = lnorm (fun k => x0 (ix2 R k)) (fun k => x1 (ix2 0 k)) (fun k => x2 (ix2 0 k)) j := by
  unfold lnorm
  pointwise [val_main_v25, val_main_v24, val_main_v23, val_main_v22, val_main_v21, val_main_v20, val_main_v19, val_main_v18, val_main_v17, val_main_v16, val_main_v15, val_main_cst_3, val_main_v14, val_main_v13, val_main_v1, val_main_v0, mean_at, spread_at]

end

/-! ## The claims -/

/-- The reference runs, leaves its arguments as they were, and declares no counter. -/
theorem frame_ref : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The value claim. -/
theorem value : Cert.algebraic_Kernel4Ideal_Reference4Ideal := by
  intro m g m' g' _ hargs
  refine ⟨fun c => (Cert.Kernel4Ideal.Gen.dats m 0 c).arrAt 3 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨e0, e1, e2⟩ := hargs c
  rw [Cert.Reference4Ideal.Read.val_main_v25_eq]
  have e : ∀ i : Cert.Kernel4Ideal.S33024x1024.Idx, ∃ R j, i = ix2 R j :=
    fun i => ⟨i 0, i 1, by funext a; match a with | ⟨0, _⟩ => rfl | ⟨1, _⟩ => rfl⟩
  funext i
  obtain ⟨R, j, rfl⟩ := e i
  rw [e0, e1, e2]
  exact (reference_at _ _ _ R j).trans (result_at m c R j).symm

end Norm

end
-- ==== Proof.lean ====
/- The claims of five calls: the input's layer norm; of a layer's mixer the input projection, the gated delta recurrence and
   the output projection; and the frames of the experts. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.KernelValue
public import proofs.«01_k».proof.Proof.RefLoop
public import proofs.«01_k».proof.Proof.Finite
public import proofs.«01_k».proof.Proof.ProjClaims
public import proofs.«01_k».proof.Proof.OutClaims
public import proofs.«01_k».proof.Proof.NormClaims
public import Idealize.ShloMosaic.Adequacy
public import Idealize.ShloMosaic.Init

@[expose] public section

set_option maxRecDepth 65536

noncomputable section

namespace Cert.Proof

open Idealize.ShloMosaic Idealize.SL.Sem

/-- The reference runs, leaves its arguments as they were, and declares no counter. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- An index of the result, by batch, token, head and entry of the head. -/
theorem index (i : Cert.ReferenceIdeal.S4x8256x512.Idx) : ∃ b t h e, i = ix3 b t (Delta.Ref.col h e) := by
  obtain ⟨b, t, j, rfl⟩ : ∃ b t j, i = ix3 b t j := ⟨i 0, i 1, i 2, by funext a; fin_cases a <;> rfl⟩
  have hj : j.val < 512 := j.isLt
  exact ⟨b, t, ⟨j.val / 128, by omega⟩, ⟨j.val % 128, by omega⟩, by
    congr 1
    exact Fin.ext (by show j.val = j.val / 128 * 128 + j.val % 128; omega)⟩

/-- On the same real inputs the two results are the same. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_finite_inputs m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.out_main_v22 (Cert.ReferenceIdeal.Value.STEP^[8256] (StableHlo.entryContents Cert.ReferenceIdeal.Value.preI m' c)) : Cert.ReferenceIdeal.S4x8256x512.Idx → EReal)
      = (Cert.KernelIdeal.Value.G4 m c : Cert.ReferenceIdeal.S4x8256x512.Idx → EReal) := by
  have R := Delta.Finite.reals _ _ _ _ (hpre c)
  have R' := R
  rw [← h0, ← h1, ← h2, ← h3] at R'
  funext i
  obtain ⟨b, t, h, e, rfl⟩ := index i
  exact (Delta.Ref.out_real _ _ _ _ m' c R' b t h e).trans (by rw [h0, h1, h2, h3]; exact (Delta.Points.result (m := m) (c := c) R b t h e).symm)

/-- The value claim. -/
theorem value : Cert.algebraic_KernelIdeal_ReferenceIdeal_pre_finite_inputs := by
  intro m g m' g' hpre hargs
  refine ⟨fun c => Cert.KernelIdeal.Value.G4 m c, Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := hargs c
  exact same m m' c hpre h0 h1 h2 h3

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Delta.Finite.facts,
    fun m g _ => Cert.Kernel.Gen.frame m g, fun m g _ => Cert.KernelIdeal.Gen.frame m g, fun m g _ => Cert.KernelIdeal.Gen.frame m g,
    frame_ref, fun m g _ => frame_ref m g trivial,
    fun m g _ => Cert.Kernel2.Gen.frame m g, fun m g _ => Cert.Kernel2Ideal.Gen.frame m g, Proj.Claims.frame_ref,
    fun m g _ => Cert.Kernel3.Gen.frame m g, fun m g _ => Cert.Kernel3Ideal.Gen.frame m g, Out.Claims.frame_ref,
    fun m g _ => Cert.Kernel4.Gen.frame m g, fun m g _ => Cert.Kernel4Ideal.Gen.frame m g, Norm.frame_ref,
    fun m g _ => Cert.Kernel5.Gen.frame m g, fun m g _ => Cert.Kernel5Ideal.Gen.frame m g,
    trivial, value, trivial, Proj.Claims.value, trivial, Out.Claims.value, trivial, Norm.value, trivial⟩

end Cert.Proof

end
